-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))).2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))).2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))).1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))).2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))).2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))).1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))).2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))).2.2 = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3_3)) (v1 : (c : Dev Cert.KernelIdeal.nD) → Buf (Elt Ideal) ((c.tc : Thread Cert.KernelIdeal.nD Cert.KernelIdeal.τ).loc Cert.KernelIdeal.main_v3_4)) (v2 : (c : Dev Cert.KernelIdeal.nD) → Buf (Elt Ideal) ((c.tc : Thread Cert.KernelIdeal.nD Cert.KernelIdeal.τ).loc Cert.KernelIdeal.main_v3_5)) (v3 : (c : Dev Cert.KernelIdeal.nD) → Buf (Elt Ideal) ((c.tc : Thread Cert.KernelIdeal.nD Cert.KernelIdeal.τ).loc Cert.KernelIdeal.main_v4)) (v4 : (c : Dev Cert.KernelIdeal.nD) → Buf (Elt Ideal) ((c.tc : Thread Cert.KernelIdeal.nD Cert.KernelIdeal.τ).loc Cert.KernelIdeal.main_v5)) (v5 : (c : Dev Cert.KernelIdeal.nD) → Buf (Elt Ideal) ((c.tc : Thread Cert.KernelIdeal.nD Cert.KernelIdeal.τ).loc Cert.KernelIdeal.main_v6)) (v6 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_3) = v0 c
          ∧ r.2.mem ((c.tc : Thread Cert.KernelIdeal.nD Cert.KernelIdeal.τ).loc Cert.KernelIdeal.main_v3_4) = v1 c
          ∧ r.2.mem ((c.tc : Thread Cert.KernelIdeal.nD Cert.KernelIdeal.τ).loc Cert.KernelIdeal.main_v3_5) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_v5) = v4 c
          ∧ r.2.mem ((c.tc : Thread Cert.KernelIdeal.nD Cert.KernelIdeal.τ).loc Cert.KernelIdeal.main_v6) = v5 c
          ∧ r.2.mem ((c.tc : Thread Cert.KernelIdeal.nD Cert.KernelIdeal.τ).loc Cert.KernelIdeal.main_v2) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_v53) = v3 c
          ∧ r.2.mem ((c.tc : Thread Cert.ReferenceIdeal.nD Cert.ReferenceIdeal.τ).loc Cert.ReferenceIdeal.main_v49) = v4 c
          ∧ r.2.mem ((c.tc : Thread Cert.ReferenceIdeal.nD Cert.ReferenceIdeal.τ).loc Cert.ReferenceIdeal.main_v45) = v5 c
          ∧ r.2.mem ((c.tc : Thread Cert.ReferenceIdeal.nD Cert.ReferenceIdeal.τ).loc Cert.ReferenceIdeal.main_v41) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)) (v1 : (c : Dev Cert.Kernel2Ideal.nD) → Buf (Elt Ideal) ((c.tc : Thread Cert.Kernel2Ideal.nD Cert.Kernel2Ideal.τ).loc Cert.Kernel2Ideal.main_v3)) (v2 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_v3) = v1 c
          ∧ r.2.mem ((c.tc : Thread Cert.Kernel2Ideal.nD Cert.Kernel2Ideal.τ).loc Cert.Kernel2Ideal.main_v2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_v17) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v1)) (v4 : (c : Dev Cert.Kernel7Ideal.nD) → Buf (Elt Ideal) ((c.tc : Thread Cert.Kernel7Ideal.nD Cert.Kernel7Ideal.τ).loc Cert.Kernel7Ideal.main_v2_0)) (v5 : (c : Dev Cert.Kernel7Ideal.nD) → Buf (Elt Ideal) ((c.tc : Thread Cert.Kernel7Ideal.nD Cert.Kernel7Ideal.τ).loc Cert.Kernel7Ideal.main_v2_1)) (v6 : (c : Dev Cert.Kernel7Ideal.nD) → Buf (Elt Ideal) ((c.tc : Thread Cert.Kernel7Ideal.nD Cert.Kernel7Ideal.τ).loc Cert.Kernel7Ideal.main_v2_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v1) = v3 c
          ∧ r.2.mem ((c.tc : Thread Cert.Kernel7Ideal.nD Cert.Kernel7Ideal.τ).loc Cert.Kernel7Ideal.main_v2_0) = v4 c
          ∧ r.2.mem ((c.tc : Thread Cert.Kernel7Ideal.nD Cert.Kernel7Ideal.τ).loc Cert.Kernel7Ideal.main_v2_1) = v5 c
          ∧ r.2.mem ((c.tc : Thread Cert.Kernel7Ideal.nD Cert.Kernel7Ideal.τ).loc Cert.Kernel7Ideal.main_v2_2) = v6 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_v26) = v1 c
          ∧ r.2.mem ((c.tc : Thread Cert.Reference7Ideal.nD Cert.Reference7Ideal.τ).loc Cert.Reference7Ideal.main_v56) = v2 c
          ∧ r.2.mem ((c.tc : Thread Cert.Reference7Ideal.nD Cert.Reference7Ideal.τ).loc Cert.Reference7Ideal.main_v57) = v3 c
          ∧ r.2.mem ((c.tc : Thread Cert.Reference7Ideal.nD Cert.Reference7Ideal.τ).loc Cert.Reference7Ideal.main_v33) = v4 c
          ∧ r.2.mem ((c.tc : Thread Cert.Reference7Ideal.nD Cert.Reference7Ideal.τ).loc Cert.Reference7Ideal.main_v55) = v5 c
          ∧ r.2.mem ((c.tc : Thread Cert.Reference7Ideal.nD Cert.Reference7Ideal.τ).loc Cert.Reference7Ideal.main_v58) = v6 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v59) = v0 c
          ∧ r.2.mem ((c.tc : Thread Cert.Reference8Ideal.nD Cert.Reference8Ideal.τ).loc Cert.Reference8Ideal.main_v60) = v1 c
          ∧ r.2.mem ((c.tc : Thread Cert.Reference8Ideal.nD Cert.Reference8Ideal.τ).loc Cert.Reference8Ideal.main_v33) = v2 c
          ∧ r.2.mem ((c.tc : Thread Cert.Reference8Ideal.nD Cert.Reference8Ideal.τ).loc Cert.Reference8Ideal.main_v30) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v64) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)) (v4 : (c : Dev Cert.Kernel10Ideal.nD) → Buf (Elt Ideal) ((c.tc : Thread Cert.Kernel10Ideal.nD Cert.Kernel10Ideal.τ).loc Cert.Kernel10Ideal.main_v0_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_v0_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v74) = v0 c
          ∧ r.2.mem ((c.tc : Thread Cert.Reference10Ideal.nD Cert.Reference10Ideal.τ).loc Cert.Reference10Ideal.main_v79) = v1 c
          ∧ r.2.mem ((c.tc : Thread Cert.Reference10Ideal.nD Cert.Reference10Ideal.τ).loc Cert.Reference10Ideal.main_v48) = v2 c
          ∧ r.2.mem ((c.tc : Thread Cert.Reference10Ideal.nD Cert.Reference10Ideal.τ).loc Cert.Reference10Ideal.main_v45) = v3 c
          ∧ r.2.mem ((c.tc : Thread Cert.Reference10Ideal.nD Cert.Reference10Ideal.τ).loc Cert.Reference10Ideal.main_v78) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_v30) = v1 c
          ∧ r.2.mem ((c.tc : Thread Cert.Reference11Ideal.nD Cert.Reference11Ideal.τ).loc Cert.Reference11Ideal.main_v11) = v2 c
          ∧ r.2.mem ((c.tc : Thread Cert.Reference11Ideal.nD Cert.Reference11Ideal.τ).loc Cert.Reference11Ideal.main_v17) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_v30) = v1 c
          ∧ r.2.mem ((c.tc : Thread Cert.Reference12Ideal.nD Cert.Reference12Ideal.τ).loc Cert.Reference12Ideal.main_v11) = v2 c
          ∧ r.2.mem ((c.tc : Thread Cert.Reference12Ideal.nD Cert.Reference12Ideal.τ).loc Cert.Reference12Ideal.main_v17) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_v30) = v1 c
          ∧ r.2.mem ((c.tc : Thread Cert.Reference13Ideal.nD Cert.Reference13Ideal.τ).loc Cert.Reference13Ideal.main_v11) = v2 c
          ∧ r.2.mem ((c.tc : Thread Cert.Reference13Ideal.nD Cert.Reference13Ideal.τ).loc Cert.Reference13Ideal.main_v17) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_v30) = v1 c
          ∧ r.2.mem ((c.tc : Thread Cert.Reference14Ideal.nD Cert.Reference14Ideal.τ).loc Cert.Reference14Ideal.main_v11) = v2 c
          ∧ r.2.mem ((c.tc : Thread Cert.Reference14Ideal.nD Cert.Reference14Ideal.τ).loc Cert.Reference14Ideal.main_v17) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_v30) = v1 c
          ∧ r.2.mem ((c.tc : Thread Cert.Reference15Ideal.nD Cert.Reference15Ideal.τ).loc Cert.Reference15Ideal.main_v11) = v2 c
          ∧ r.2.mem ((c.tc : Thread Cert.Reference15Ideal.nD Cert.Reference15Ideal.τ).loc Cert.Reference15Ideal.main_v17) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite8 : Cert.Pre_finite8.Facts) (hPre_finite10 : Cert.Pre_finite10.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite10.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x1024 .f32) (main_arg1 : FVec F S4096x1024 .f32) (main_arg2 : FVec F S1x1024 .f32) (main_arg3 : FVec F S4096x1024 .f32) : IVec S4096x1024 1 × IVec S1x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S4096x1024 .f32 := Host.absf main_arg3
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Pre_finite8.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x1024 .f32) (main_arg1 : FVec F S4096x1024 .f32) (main_arg2 : FVec F S1x1024 .f32) : IVec S4096x1024 1 × IVec S1x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  (main_v2, main_v5)
-- ==== Kernel.lean ====
abbrev S4096x7680 : Shape := ⟨2, ![4096, 7680]⟩
abbrev S4096x512 : Shape := ⟨2, ![4096, 512]⟩
abbrev S512x1024 : Shape := ⟨2, ![512, 1024]⟩
abbrev S1024x1024 : Shape := ⟨2, ![1024, 1024]⟩
abbrev S4096x1024 : Shape := ⟨2, ![4096, 1024]⟩
abbrev S3x4096x1024 : Shape := ⟨3, ![3, 4096, 1024]⟩
abbrev S1024x512 : Shape := ⟨2, ![1024, 512]⟩
abbrev S512x512 : Shape := ⟨2, ![512, 512]⟩
abbrev S3x1024x512 : Shape := ⟨3, ![3, 1024, 512]⟩
abbrev S1x1024x512 : Shape := ⟨3, ![1, 1024, 512]⟩
abbrev S8x128 : Shape := ⟨2, ![8, 128]⟩

abbrev nBuf : Space → Nat
  | .hbm => 22
  | .vmem => 74
  | .smem => 0
  | _ => 0

abbrev bufTy : (tb : Table) → Fin (tcTables nBuf tb) → BufTy
  | .hbm, ⟨0, _⟩ => ⟨S4096x7680, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S4096x1024, .f32⟩
  | .hbm, ⟨9, _⟩ => ⟨S4096x1024, .bf16⟩
  | .hbm, ⟨10, _⟩ => ⟨S3x4096x1024, .bf16⟩
  | .hbm, ⟨11, _⟩ => ⟨S4096x1024, .f32⟩
  | .hbm, ⟨12, _⟩ => ⟨S1024x1024, .f32⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S4096x1024, .bf16⟩
  | .hbm, ⟨17, _⟩ => ⟨S4096x1024, .bf16⟩
  | .hbm, ⟨18, _⟩ => ⟨S4096x1024, .bf16⟩
  | .hbm, ⟨19, _⟩ => ⟨S4096x512, .f32⟩
  | .hbm, ⟨20, _⟩ => ⟨S4096x512, .f32⟩
  | .hbm, ⟨21, _⟩ => ⟨S4096x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024x512, .bf16⟩
  | .local _ .vmem, ⟨19, _⟩ => ⟨S1024x512, .bf16⟩
  | .local _ .vmem, ⟨20, _⟩ => ⟨S3x1024x512, .bf16⟩
  | .local _ .vmem, ⟨21, _⟩ => ⟨S3x1024x512, .bf16⟩
  | .local _ .vmem, ⟨22, _⟩ => ⟨S1024x1024, .f32⟩
  | .local _ .vmem, ⟨23, _⟩ => ⟨S1024x1024, .f32⟩
  | .local _ .vmem, ⟨24, _⟩ => ⟨S1024x1024, .f32⟩
  | .local _ .vmem, ⟨25, _⟩ => ⟨S1024x1024, .f32⟩
  | .local _ .vmem, ⟨26, _⟩ => ⟨S1024x1024, .f32⟩
  | .local _ .vmem, ⟨27, _⟩ => ⟨S8x128, .f32⟩
  | .local _ .vmem, ⟨28, _⟩ => ⟨S4096x1024, .bf16⟩
  | .local _ .vmem, ⟨29, _⟩ => ⟨S4096x512, .f32⟩
  | .local _ .vmem, ⟨30, _⟩ => ⟨S4096x512, .f32⟩
  | .local _ .vmem, ⟨31, _⟩ => ⟨S1024x512, .f32⟩
  | .local _ .vmem, ⟨32, _⟩ => ⟨S1024x512, .f32⟩
  | .local _ .vmem, ⟨33, _⟩ => ⟨S8x128, .f32⟩
  | .local _ .vmem, ⟨34, _⟩ => ⟨S1024x512, .f32⟩
  | .local _ .vmem, ⟨35, _⟩ => ⟨S1024x512, .f32⟩
  | .local _ .vmem, ⟨36, _⟩ => ⟨S3x1024x512, .bf16⟩
  | .local _ .vmem, ⟨37, _⟩ => ⟨S3x1024x512, .bf16⟩
  | .local _ .vmem, ⟨38, _⟩ => ⟨S1024x512, .f32⟩
  | .local _ .vmem, ⟨39, _⟩ => ⟨S1024x512, .f32⟩
  | .local _ .vmem, ⟨40, _⟩ => ⟨S1024x512, .f32⟩
  | .local _ .vmem, ⟨41, _⟩ => ⟨S1024x512, .f32⟩
  | .local _ .vmem, ⟨42, _⟩ => ⟨S1024x512, .f32⟩
  | .local _ .vmem, ⟨43, _⟩ => ⟨S1024x512, .f32⟩
  | .local _ .vmem, ⟨44, _⟩ => ⟨S1024x512, .bf16⟩
  | .local _ .vmem, ⟨45, _⟩ => ⟨S1024x512, .bf16⟩
  | .local _ .vmem, ⟨46, _⟩ => ⟨S1024x512, .bf16⟩
  | .local _ .vmem, ⟨47, _⟩ => ⟨S1024x512, .bf16⟩
  | .local _ .vmem, ⟨48, _⟩ => ⟨S1024x512, .bf16⟩
  | .local _ .vmem, ⟨49, _⟩ => ⟨S1024x512, .bf16⟩
  | .local _ .vmem, ⟨50, _⟩ => ⟨S1024x512, .bf16⟩
  | .local _ .vmem, ⟨51, _⟩ => ⟨S1024x512, .bf16⟩
  | .local _ .vmem, ⟨52, _⟩ => ⟨S1024x512, .bf16⟩
  | .local _ .vmem, ⟨53, _⟩ => ⟨S1024x512, .bf16⟩
  | .local _ .vmem, ⟨54, _⟩ => ⟨S1024x512, .bf16⟩
  | .local _ .vmem, ⟨55, _⟩ => ⟨S1024x512, .bf16⟩
  | .local _ .vmem, ⟨56, _⟩ => ⟨S1024x1024, .bf16⟩
  | .local _ .vmem, ⟨57, _⟩ => ⟨S1024x1024, .bf16⟩
  | .local _ .vmem, ⟨58, _⟩ => ⟨S512x1024, .f32⟩
  | .local _ .vmem, ⟨59, _⟩ => ⟨S1024x512, .f32⟩
  | .local _ .vmem, ⟨60, _⟩ => ⟨S1024x512, .f32⟩
  | .local _ .vmem, ⟨61, _⟩ => ⟨S8x128, .f32⟩
  | .local _ .vmem, ⟨62, _⟩ => ⟨S1024x1024, .bf16⟩
  | .local _ .vmem, ⟨63, _⟩ => ⟨S1024x1024, .bf16⟩
  | .local _ .vmem, ⟨64, _⟩ => ⟨S512x1024, .f32⟩
  | .local _ .vmem, ⟨65, _⟩ => ⟨S1024x512, .f32⟩
  | .local _ .vmem, ⟨66, _⟩ => ⟨S1024x512, .f32⟩
  | .local _ .vmem, ⟨67, _⟩ => ⟨S8x128, .f32⟩
  | .local _ .vmem, ⟨68, _⟩ => ⟨S1024x1024, .bf16⟩
  | .local _ .vmem, ⟨69, _⟩ => ⟨S1024x1024, .bf16⟩
  | .local _ .vmem, ⟨70, _⟩ => ⟨S512x1024, .f32⟩
  | .local _ .vmem, ⟨71, _⟩ => ⟨S1024x512, .f32⟩
  | .local _ .vmem, ⟨72, _⟩ => ⟨S1024x512, .f32⟩
  | .local _ .vmem, ⟨73, _⟩ => ⟨S8x128, .f32⟩
  | _, _ => ⟨S4096x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev main_v3_5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg2_0 : Ref sig .tc := ⟨.vmem, 25, rfl⟩
abbrev cc1_stg2_1 : Ref sig .tc := ⟨.vmem, 26, rfl⟩
abbrev cc1_scratch0 : Ref sig .tc := ⟨.vmem, 27, rfl⟩
abbrev cc2_stg0_0 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc2_scratch0 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg3_1 : Ref sig .tc := ⟨.vmem, 41, rfl⟩
abbrev cc3_stg4_0 : Ref sig .tc := ⟨.vmem, 42, rfl⟩
abbrev cc3_stg4_1 : Ref sig .tc := ⟨.vmem, 43, rfl⟩
abbrev cc3_stg5_0 : Ref sig .tc := ⟨.vmem, 44, rfl⟩
abbrev cc3_stg5_1 : Ref sig .tc := ⟨.vmem, 45, rfl⟩
abbrev cc3_stg6_0 : Ref sig .tc := ⟨.vmem, 46, rfl⟩
abbrev cc3_stg6_1 : Ref sig .tc := ⟨.vmem, 47, rfl⟩
abbrev cc3_stg7_0 : Ref sig .tc := ⟨.vmem, 48, rfl⟩
abbrev cc3_stg7_1 : Ref sig .tc := ⟨.vmem, 49, rfl⟩
abbrev cc3_stg8_0 : Ref sig .tc := ⟨.vmem, 50, rfl⟩
abbrev cc3_stg8_1 : Ref sig .tc := ⟨.vmem, 51, rfl⟩
abbrev cc3_stg9_0 : Ref sig .tc := ⟨.vmem, 52, rfl⟩
abbrev cc3_stg9_1 : Ref sig .tc := ⟨.vmem, 53, rfl⟩
abbrev cc3_stg10_0 : Ref sig .tc := ⟨.vmem, 54, rfl⟩
abbrev cc3_stg10_1 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg2_0 : Ref sig .tc := ⟨.vmem, 59, rfl⟩
abbrev cc4_stg2_1 : Ref sig .tc := ⟨.vmem, 60, rfl⟩
abbrev cc4_scratch0 : Ref sig .tc := ⟨.vmem, 61, rfl⟩
abbrev cc5_stg0_0 : Ref sig .tc := ⟨.vmem, 62, rfl⟩
abbrev cc5_stg0_1 : Ref sig .tc := ⟨.vmem, 63, rfl⟩
abbrev cc5_stg1_0 : Ref sig .tc := ⟨.vmem, 64, rfl⟩
abbrev cc5_stg2_0 : Ref sig .tc := ⟨.vmem, 65, rfl⟩
abbrev cc5_stg2_1 : Ref sig .tc := ⟨.vmem, 66, rfl⟩
abbrev cc5_scratch0 : Ref sig .tc := ⟨.vmem, 67, rfl⟩
abbrev cc6_stg0_0 : Ref sig .tc := ⟨.vmem, 68, rfl⟩
abbrev cc6_stg0_1 : Ref sig .tc := ⟨.vmem, 69, rfl⟩
abbrev cc6_stg1_0 : Ref sig .tc := ⟨.vmem, 70, rfl⟩
abbrev cc6_stg2_0 : Ref sig .tc := ⟨.vmem, 71, rfl⟩
abbrev cc6_stg2_1 : Ref sig .tc := ⟨.vmem, 72, rfl⟩
abbrev cc6_scratch0 : Ref sig .tc := ⟨.vmem, 73, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem2_0 : DmaSem sig := 25
abbrev cc1_sem2_1 : DmaSem sig := 26
abbrev cc2_sem0_0 : DmaSem sig := 27
abbrev cc2_sem1_0 : DmaSem sig := 28
abbrev cc2_sem1_1 : DmaSem sig := 29
abbrev cc2_sem2_0 : DmaSem sig := 30
abbrev cc2_sem2_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37
abbrev cc3_sem3_0 : DmaSem sig := 38
abbrev cc3_sem3_1 : DmaSem sig := 39
abbrev cc3_sem4_0 : DmaSem sig := 40
abbrev cc3_sem4_1 : DmaSem sig := 41
abbrev cc3_sem5_0 : DmaSem sig := 42
abbrev cc3_sem5_1 : DmaSem sig := 43
abbrev cc3_sem6_0 : DmaSem sig := 44
abbrev cc3_sem6_1 : DmaSem sig := 45
abbrev cc3_sem7_0 : DmaSem sig := 46
abbrev cc3_sem7_1 : DmaSem sig := 47
abbrev cc3_sem8_0 : DmaSem sig := 48
abbrev cc3_sem8_1 : DmaSem sig := 49
abbrev cc3_sem9_0 : DmaSem sig := 50
abbrev cc3_sem9_1 : DmaSem sig := 51
abbrev cc3_sem10_0 : DmaSem sig := 52
abbrev cc3_sem10_1 : DmaSem sig := 53
abbrev cc4_sem0_0 : DmaSem sig := 54
abbrev cc4_sem0_1 : DmaSem sig := 55
abbrev cc4_sem1_0 : DmaSem sig := 56
abbrev cc4_sem2_0 : DmaSem sig := 57
abbrev cc4_sem2_1 : DmaSem sig := 58
abbrev cc5_sem0_0 : DmaSem sig := 59
abbrev cc5_sem0_1 : DmaSem sig := 60
abbrev cc5_sem1_0 : DmaSem sig := 61
abbrev cc5_sem2_0 : DmaSem sig := 62
abbrev cc5_sem2_1 : DmaSem sig := 63
abbrev cc6_sem0_0 : DmaSem sig := 64
abbrev cc6_sem0_1 : DmaSem sig := 65
abbrev cc6_sem1_0 : DmaSem sig := 66
abbrev cc6_sem2_0 : DmaSem sig := 67
abbrev cc6_sem2_1 : DmaSem sig := 68

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S3x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S4096x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S4096x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨2, ![4, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc3_transform_2 (i : grid3.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc3_transform_3 (i : grid3.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc3_transform_4 (i : grid3.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S3x1024x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1024x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1024x512 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S1024x512 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S1024x512 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 2 → Memref sig .tc .vmem S1024x512 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]

abbrev stage3_9 : Fin 2 → Memref sig .tc .vmem S1024x512 .bf16 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev stage3_10 : Fin 2 → Memref sig .tc .vmem S1024x512 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, true]

abbrev grid4 : Pipeline.Grid := ⟨3, ![4, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S512x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![4, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S512x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S1024x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![4, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 1 → Memref sig .tc .vmem S512x1024 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 2 → Memref sig .tc .vmem S1024x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]
-- ==== ReferenceIdeal.lean ====
abbrev S4096x7680 : Shape := ⟨2, ![4096, 7680]⟩
abbrev S4096x512 : Shape := ⟨2, ![4096, 512]⟩
abbrev S512x1024 : Shape := ⟨2, ![512, 1024]⟩
abbrev S1024x1024 : Shape := ⟨2, ![1024, 1024]⟩
abbrev S4096x1024 : Shape := ⟨2, ![4096, 1024]⟩
abbrev S4096x3072 : Shape := ⟨2, ![4096, 3072]⟩
abbrev S_ : Shape := ⟨0, ![]⟩

abbrev nBuf : Space → Nat
  | .hbm => 76
  | .vmem => 0
  | .smem => 0
  | _ => 0

abbrev bufTy : (tb : Table) → Fin (tcTables nBuf tb) → BufTy
  | .hbm, ⟨0, _⟩ => ⟨S4096x7680, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S4096x1024, .f32⟩
  | .hbm, ⟨9, _⟩ => ⟨S4096x3072, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S1024x1024, .f32⟩
  | .hbm, ⟨59, _⟩ => ⟨S1024x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x512, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x512, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x512, .f32⟩
  | .hbm, ⟨72, _⟩ => ⟨S4096x1024, .f32⟩
  | .hbm, ⟨73, _⟩ => ⟨S4096x1024, .bf16⟩
  | .hbm, ⟨74, _⟩ => ⟨S4096x1024, .bf16⟩
  | .hbm, ⟨75, _⟩ => ⟨S4096x1024, .bf16⟩
  | _, _ => ⟨S4096x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]
-- ==== Kernel2.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩
abbrev S8x128 : Shape := ⟨2, ![8, 128]⟩
abbrev S2048x1024 : Shape := ⟨2, ![2048, 1024]⟩
abbrev S1024x2048 : Shape := ⟨2, ![1024, 2048]⟩
abbrev S4096x512 : Shape := ⟨2, ![4096, 512]⟩
abbrev S1024x512 : Shape := ⟨2, ![1024, 512]⟩
abbrev S512x4096 : Shape := ⟨2, ![512, 4096]⟩
abbrev S512x1024 : Shape := ⟨2, ![512, 1024]⟩

abbrev nBuf : Space → Nat
  | .hbm => 9
  | .vmem => 35
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .bf16⟩
  | .hbm, ⟨5, _⟩ => ⟨S4096x4096, .bf16⟩
  | .hbm, ⟨6, _⟩ => ⟨S4096x1024, .f32⟩
  | .hbm, ⟨7, _⟩ => ⟨S1024x4096, .f32⟩
  | .hbm, ⟨8, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x4096, .f32⟩
  | .local _ .vmem, ⟨3, _⟩ => ⟨S1024x4096, .bf16⟩
  | .local _ .vmem, ⟨4, _⟩ => ⟨S1024x4096, .bf16⟩
  | .local _ .vmem, ⟨5, _⟩ => ⟨S8x128, .f32⟩
  | .local _ .vmem, ⟨6, _⟩ => ⟨S1024x1024, .f32⟩
  | .local _ .vmem, ⟨7, _⟩ => ⟨S1024x1024, .f32⟩
  | .local _ .vmem, ⟨8, _⟩ => ⟨S2048x1024, .f32⟩
  | .local _ .vmem, ⟨9, _⟩ => ⟨S2048x1024, .f32⟩
  | .local _ .vmem, ⟨10, _⟩ => ⟨S1024x2048, .bf16⟩
  | .local _ .vmem, ⟨11, _⟩ => ⟨S1024x2048, .bf16⟩
  | .local _ .vmem, ⟨12, _⟩ => ⟨S1024x2048, .bf16⟩
  | .local _ .vmem, ⟨13, _⟩ => ⟨S1024x2048, .bf16⟩
  | .local _ .vmem, ⟨14, _⟩ => ⟨S8x128, .f32⟩
  | .local _ .vmem, ⟨15, _⟩ => ⟨S4096x1024, .bf16⟩
  | .local _ .vmem, ⟨16, _⟩ => ⟨S4096x1024, .bf16⟩
  | .local _ .vmem, ⟨17, _⟩ => ⟨S4096x1024, .f32⟩
  | .local _ .vmem, ⟨18, _⟩ => ⟨S1024x1024, .f32⟩
  | .local _ .vmem, ⟨19, _⟩ => ⟨S1024x1024, .f32⟩
  | .local _ .vmem, ⟨20, _⟩ => ⟨S8x128, .f32⟩
  | .local _ .vmem, ⟨21, _⟩ => ⟨S4096x1024, .f32⟩
  | .local _ .vmem, ⟨22, _⟩ => ⟨S4096x512, .bf16⟩
  | .local _ .vmem, ⟨23, _⟩ => ⟨S4096x512, .bf16⟩
  | .local _ .vmem, ⟨24, _⟩ => ⟨S1024x512, .f32⟩
  | .local _ .vmem, ⟨25, _⟩ => ⟨S1024x512, .f32⟩
  | .local _ .vmem, ⟨26, _⟩ => ⟨S8x128, .f32⟩
  | .local _ .vmem, ⟨27, _⟩ => ⟨S512x4096, .bf16⟩
  | .local _ .vmem, ⟨28, _⟩ => ⟨S512x4096, .bf16⟩
  | .local _ .vmem, ⟨29, _⟩ => ⟨S1024x4096, .f32⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S512x1024, .f32⟩
  | .local _ .vmem, ⟨34, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_scratch0 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg3_1 : Ref sig .tc := ⟨.vmem, 33, rfl⟩
abbrev cc4_scratch0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc4_sem3_0 : DmaSem sig := 28
abbrev cc4_sem3_1 : DmaSem sig := 29

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S4096x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S4096x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 8, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S4096x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![8, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S512x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S1024x4096 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]
-- ==== Reference2Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S1024x4096, .f32⟩
  | .hbm, ⟨28, _⟩ => ⟨S4096x1024, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x1024, .f32⟩
  | .hbm, ⟨35, _⟩ => ⟨S1024x4096, .f32⟩
  | .hbm, ⟨36, _⟩ => ⟨S4096x1024, .f32⟩
  | .hbm, ⟨37, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== Kernel3.lean ====
abbrev S4096x512 : Shape := ⟨2, ![4096, 512]⟩
abbrev S4096x1024 : Shape := ⟨2, ![4096, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x1024, .bf16⟩
  | .hbm, ⟨2, _⟩ => ⟨S512x1024, .f32⟩
  | .local _ .vmem, ⟨0, _⟩ => ⟨S2048x512, .f32⟩
  | .local _ .vmem, ⟨1, _⟩ => ⟨S2048x512, .f32⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference3Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x1024, .f32⟩
  | .hbm, ⟨5, _⟩ => ⟨S4096x1024, .f32⟩
  | .hbm, ⟨6, _⟩ => ⟨S1024x512, .f32⟩
  | .hbm, ⟨7, _⟩ => ⟨S512x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S1024x7680 : Shape := ⟨2, ![1024, 7680]⟩
abbrev S4096x2048 : Shape := ⟨2, ![4096, 2048]⟩
abbrev S4096x512 : Shape := ⟨2, ![4096, 512]⟩
abbrev S4096x1024 : Shape := ⟨2, ![4096, 1024]⟩
abbrev S7680x1024 : Shape := ⟨2, ![7680, 1024]⟩
abbrev S512x2048 : Shape := ⟨2, ![512, 2048]⟩
abbrev S512x512 : Shape := ⟨2, ![512, 512]⟩
abbrev S512x1024 : Shape := ⟨2, ![512, 1024]⟩
abbrev S2048x1024 : Shape := ⟨2, ![2048, 1024]⟩

abbrev nBuf : Space → Nat
  | .hbm => 12
  | .vmem => 32
  | .smem => 0
  | _ => 0

abbrev bufTy : (tb : Table) → Fin (tcTables nBuf tb) → BufTy
  | .hbm, ⟨0, _⟩ => ⟨S1024x7680, .f32⟩
  | .hbm, ⟨1, _⟩ => ⟨S4096x2048, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .f32⟩
  | .hbm, ⟨10, _⟩ => ⟨S7680x1024, .f32⟩
  | .hbm, ⟨11, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S2048x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | _, _ => ⟨S1024x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem20_1 : DmaSem sig := 29
abbrev cc0_sem21_0 : DmaSem sig := 30
abbrev cc0_sem21_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat]

def cc0_transform_10 (i : grid0.Coords) : Fin 2 → Nat :=
  let arg0 : BitVec 32 := BitVec.ofNat 32 (i 0).val
  let c5_i32 : BitVec 32 := 5#32
  let c0_i32 : BitVec 32 := 0#32
  let c0_i32_0 : BitVec 32 := 0#32
  ![c5_i32.toNat, c0_i32.toNat]

def cc0_transform_11 (i : grid0.Coords) : Fin 2 → Nat :=
  let arg0 : BitVec 32 := BitVec.ofNat 32 (i 0).val
  let c6_i32 : BitVec 32 := 6#32
  let c0_i32 : BitVec 32 := 0#32
  let c0_i32_0 : BitVec 32 := 0#32
  ![c6_i32.toNat, c0_i32.toNat]

def cc0_transform_12 (i : grid0.Coords) : Fin 2 → Nat :=
  let arg0 : BitVec 32 := BitVec.ofNat 32 (i 0).val
  let c7_i32 : BitVec 32 := 7#32
  let c0_i32 : BitVec 32 := 0#32
  let c0_i32_0 : BitVec 32 := 0#32
  ![c7_i32.toNat, c0_i32.toNat]

def cc0_transform_13 (i : grid0.Coords) : Fin 2 → Nat :=
  let arg0 : BitVec 32 := BitVec.ofNat 32 (i 0).val
  let c8_i32 : BitVec 32 := 8#32
  let c0_i32 : BitVec 32 := 0#32
  let c0_i32_0 : BitVec 32 := 0#32
  ![c8_i32.toNat, c0_i32.toNat]

def cc0_transform_14 (i : grid0.Coords) : Fin 2 → Nat :=
  let arg0 : BitVec 32 := BitVec.ofNat 32 (i 0).val
  let c9_i32 : BitVec 32 := 9#32
  let c0_i32 : BitVec 32 := 0#32
  let c0_i32_0 : BitVec 32 := 0#32
  ![c9_i32.toNat, c0_i32.toNat]

def cc0_transform_15 (i : grid0.Coords) : Fin 2 → Nat :=
  let arg0 : BitVec 32 := BitVec.ofNat 32 (i 0).val
  let c10_i32 : BitVec 32 := 10#32
  let c0_i32 : BitVec 32 := 0#32
  let c0_i32_0 : BitVec 32 := 0#32
  ![c10_i32.toNat, c0_i32.toNat]

def cc0_transform_16 (i : grid0.Coords) : Fin 2 → Nat :=
  let arg0 : BitVec 32 := BitVec.ofNat 32 (i 0).val
  let c11_i32 : BitVec 32 := 11#32
  let c0_i32 : BitVec 32 := 0#32
  let c0_i32_0 : BitVec 32 := 0#32
  ![c11_i32.toNat, c0_i32.toNat]

def cc0_transform_17 (i : grid0.Coords) : Fin 2 → Nat :=
  let arg0 : BitVec 32 := BitVec.ofNat 32 (i 0).val
  let c12_i32 : BitVec 32 := 12#32
  let c0_i32 : BitVec 32 := 0#32
  let c0_i32_0 : BitVec 32 := 0#32
  ![c12_i32.toNat, c0_i32.toNat]

def cc0_transform_18 (i : grid0.Coords) : Fin 2 → Nat :=
  let arg0 : BitVec 32 := BitVec.ofNat 32 (i 0).val
  let c13_i32 : BitVec 32 := 13#32
  let c0_i32 : BitVec 32 := 0#32
  let c0_i32_0 : BitVec 32 := 0#32
  ![c13_i32.toNat, c0_i32.toNat]

def cc0_transform_19 (i : grid0.Coords) : Fin 2 → Nat :=
  let arg0 : BitVec 32 := BitVec.ofNat 32 (i 0).val
  let c14_i32 : BitVec 32 := 14#32
  let c0_i32 : BitVec 32 := 0#32
  let c0_i32_0 : BitVec 32 := 0#32
  ![c14_i32.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference4Ideal.lean ====
abbrev S1024x7680 : Shape := ⟨2, ![1024, 7680]⟩
abbrev S4096x2048 : Shape := ⟨2, ![4096, 2048]⟩
abbrev S4096x512 : Shape := ⟨2, ![4096, 512]⟩
abbrev S4096x1024 : Shape := ⟨2, ![4096, 1024]⟩
abbrev S_ : Shape := ⟨0, ![]⟩
abbrev S4096x7680 : Shape := ⟨2, ![4096, 7680]⟩

abbrev nBuf : Space → Nat
  | .hbm => 30
  | .vmem => 0
  | .smem => 0
  | _ => 0

abbrev bufTy : (tb : Table) → Fin (tcTables nBuf tb) → BufTy
  | .hbm, ⟨0, _⟩ => ⟨S1024x7680, .f32⟩
  | .hbm, ⟨1, _⟩ => ⟨S4096x2048, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x2048, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x7680, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x7680, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | _, _ => ⟨S1024x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩

abbrev nD : Nat := 1
abbrev τ : Topo := Topo.v7x

variable {F : FTy → Type} [FloatOps F]
-- ==== Kernel5.lean ====
abbrev S4096x1024 : Shape := ⟨2, ![4096, 1024]⟩
abbrev S4096x2048 : Shape := ⟨2, ![4096, 2048]⟩
abbrev S4096x512 : Shape := ⟨2, ![4096, 512]⟩
abbrev S7680x1024 : Shape := ⟨2, ![7680, 1024]⟩
abbrev S4096x256 : Shape := ⟨2, ![4096, 256]⟩
abbrev S256x1024 : Shape := ⟨2, ![256, 1024]⟩
abbrev S8x128 : Shape := ⟨2, ![8, 128]⟩

abbrev nBuf : Space → Nat
  | .hbm => 10
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S7680x1024, .f32⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S4096x256, .bf16⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | .local _ .vmem, ⟨15, _⟩ => ⟨S4096x256, .bf16⟩
  | .local _ .vmem, ⟨16, _⟩ => ⟨S4096x1024, .f32⟩
  | .local _ .vmem, ⟨17, _⟩ => ⟨S256x1024, .f32⟩
  | .local _ .vmem, ⟨18, _⟩ => ⟨S256x1024, .f32⟩
  | .local _ .vmem, ⟨19, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![30, 1, 1], ![false, false, false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c8_i32 : BitVec 32 := 8#32
  let v1 : BitVec 1 := Scalar.cmpi .slt arg0 c8_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c8_i32_1 : BitVec 32 := 8#32
  let v5 : BitVec 1 := Scalar.cmpi .sge arg0 c8_i32_1
  let c10_i32 : BitVec 32 := 10#32
  let v6 : BitVec 1 := Scalar.cmpi .slt arg0 c10_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c10_i32_3 : BitVec 32 := 10#32
  let v10 : BitVec 1 := Scalar.cmpi .sge arg0 c10_i32_3
  let c12_i32 : BitVec 32 := 12#32
  let v11 : BitVec 1 := Scalar.cmpi .slt arg0 c12_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg0 : BitVec 32 := BitVec.ofNat 32 (i 0).val
  let c12_i32_5 : BitVec 32 := 12#32
  let v15 : BitVec 1 := Scalar.cmpi .sge arg0 c12_i32_5
  let c14_i32 : BitVec 32 := 14#32
  let v16 : BitVec 1 := Scalar.cmpi .slt arg0 c14_i32
  let v17 : BitVec 1 := Scalar.andi v15 v16
  let v18 : BitVec 32 := Scalar.extui v17
  let c0_i32_6 : BitVec 32 := 0#32
  let v19 : BitVec 1 := Scalar.cmpi .ne v18 c0_i32_6
  v19

def k0_cond5 (i : grid0.Coords) : BitVec 1 :=
  let arg0 : BitVec 32 := BitVec.ofNat 32 (i 0).val
  let c14_i32_7 : BitVec 32 := 14#32
  let v20 : BitVec 1 := Scalar.cmpi .sge arg0 c14_i32_7
  let c18_i32 : BitVec 32 := 18#32
  let v21 : BitVec 1 := Scalar.cmpi .slt arg0 c18_i32
  let v22 : BitVec 1 := Scalar.andi v20 v21
  let v23 : BitVec 32 := Scalar.extui v22
  let c0_i32_8 : BitVec 32 := 0#32
  let v24 : BitVec 1 := Scalar.cmpi .ne v23 c0_i32_8
  v24

def k0_cond6 (i : grid0.Coords) : BitVec 1 :=
  let arg0 : BitVec 32 := BitVec.ofNat 32 (i 0).val
  let c18_i32_9 : BitVec 32 := 18#32
  let v25 : BitVec 1 := Scalar.cmpi .sge arg0 c18_i32_9
  let c22_i32 : BitVec 32 := 22#32
  let v26 : BitVec 1 := Scalar.cmpi .slt arg0 c22_i32
  let v27 : BitVec 1 := Scalar.andi v25 v26
  let v28 : BitVec 32 := Scalar.extui v27
  let c0_i32_10 : BitVec 32 := 0#32
  let v29 : BitVec 1 := Scalar.cmpi .ne v28 c0_i32_10
  v29

def k0_cond7 (i : grid0.Coords) : BitVec 1 :=
  let arg0 : BitVec 32 := BitVec.ofNat 32 (i 0).val
  let c22_i32_11 : BitVec 32 := 22#32
  let v30 : BitVec 1 := Scalar.cmpi .sge arg0 c22_i32_11
  let c26_i32 : BitVec 32 := 26#32
  let v31 : BitVec 1 := Scalar.cmpi .slt arg0 c26_i32
  let v32 : BitVec 1 := Scalar.andi v30 v31
  let v33 : BitVec 32 := Scalar.extui v32
  let c0_i32_12 : BitVec 32 := 0#32
  let v34 : BitVec 1 := Scalar.cmpi .ne v33 c0_i32_12
  v34

def k0_cond8 (i : grid0.Coords) : BitVec 1 :=
  let arg0 : BitVec 32 := BitVec.ofNat 32 (i 0).val
  let c26_i32_13 : BitVec 32 := 26#32
  let v35 : BitVec 1 := Scalar.cmpi .sge arg0 c26_i32_13
  let c30_i32 : BitVec 32 := 30#32
  let v36 : BitVec 1 := Scalar.cmpi .slt arg0 c30_i32
  let v37 : BitVec 1 := Scalar.andi v35 v36
  let v38 : BitVec 32 := Scalar.extui v37
  let c0_i32_14 : BitVec 32 := 0#32
  let v39 : BitVec 1 := Scalar.cmpi .ne v38 c0_i32_14
  v39

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  ![arg2.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi arg0 c8_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.subi arg0 c10_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg2.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.subi arg0 c12_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg2.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 32 := Scalar.subi arg0 c14_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg2.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.subi arg0 c18_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg2.toNat, v2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.subi arg0 c22_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg2.toNat, v2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c26_i32 : BitVec 32 := 26#32
  let v0 : BitVec 32 := Scalar.subi arg0 c26_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg2.toNat, v2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 1 → Memref sig .tc .vmem S4096x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference5Ideal.lean ====
abbrev S4096x1024 : Shape := ⟨2, ![4096, 1024]⟩
abbrev S4096x2048 : Shape := ⟨2, ![4096, 2048]⟩
abbrev S4096x512 : Shape := ⟨2, ![4096, 512]⟩
abbrev S_ : Shape := ⟨0, ![]⟩
abbrev S1024x7680 : Shape := ⟨2, ![1024, 7680]⟩
abbrev S4096x7680 : Shape := ⟨2, ![4096, 7680]⟩
abbrev S7680x1024 : Shape := ⟨2, ![7680, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S_, .f32⟩
  | .hbm, ⟨10, _⟩ => ⟨S1024x7680, .f32⟩
  | .hbm, ⟨11, _⟩ => ⟨S4096x2048, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x7680, .f32⟩
  | .hbm, ⟨20, _⟩ => ⟨S4096x7680, .f32⟩
  | .hbm, ⟨21, _⟩ => ⟨S7680x1024, .f32⟩
  | .hbm, ⟨22, _⟩ => ⟨S1024x7680, .f32⟩
  | .hbm, ⟨23, _⟩ => ⟨S7680x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Kernel6.lean ====
abbrev S4096x1024 : Shape := ⟨2, ![4096, 1024]⟩
abbrev S1024x7680 : Shape := ⟨2, ![1024, 7680]⟩
abbrev S7680x1024 : Shape := ⟨2, ![7680, 1024]⟩
abbrev S4096x7680 : Shape := ⟨2, ![4096, 7680]⟩
abbrev S1024x1024 : Shape := ⟨2, ![1024, 1024]⟩
abbrev S2560x1024 : Shape := ⟨2, ![2560, 1024]⟩
abbrev S1024x2560 : Shape := ⟨2, ![1024, 2560]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x7680, .f32⟩
  | .hbm, ⟨2, _⟩ => ⟨S4096x1024, .bf16⟩
  | .hbm, ⟨3, _⟩ => ⟨S7680x1024, .f32⟩
  | .hbm, ⟨4, _⟩ => ⟨S4096x7680, .f32⟩
  | .local _ .vmem, ⟨0, _⟩ => ⟨S1024x1024, .bf16⟩
  | .local _ .vmem, ⟨1, _⟩ => ⟨S1024x1024, .bf16⟩
  | .local _ .vmem, ⟨2, _⟩ => ⟨S2560x1024, .f32⟩
  | .local _ .vmem, ⟨3, _⟩ => ⟨S2560x1024, .f32⟩
  | .local _ .vmem, ⟨4, _⟩ => ⟨S1024x2560, .f32⟩
  | .local _ .vmem, ⟨5, _⟩ => ⟨S1024x2560, .f32⟩
  | .local _ .vmem, ⟨6, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2560x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S1024x7680 : Shape := ⟨2, ![1024, 7680]⟩
abbrev S4096x7680 : Shape := ⟨2, ![4096, 7680]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x7680, .f32⟩
  | .hbm, ⟨2, _⟩ => ⟨S4096x7680, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩
abbrev S1x1024 : Shape := ⟨2, ![1, 1024]⟩
abbrev S1024x4096 : Shape := ⟨2, ![1024, 4096]⟩
abbrev S8x128 : Shape := ⟨2, ![8, 128]⟩
abbrev S1024 : Shape := ⟨1, ![1024]⟩
abbrev S1024x1 : Shape := ⟨2, ![1024, 1]⟩
abbrev S4096x4096 : Shape := ⟨2, ![4096, 4096]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 34
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .f32⟩
  | .hbm, ⟨3, _⟩ => ⟨S1x1024, .f32⟩
  | .hbm, ⟨4, _⟩ => ⟨S1x1024, .f32⟩
  | .hbm, ⟨5, _⟩ => ⟨S1024x4096, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .bf16⟩
  | .hbm, ⟨12, _⟩ => ⟨S4096x4096, .bf16⟩
  | .hbm, ⟨13, _⟩ => ⟨S4096x1024, .f32⟩
  | .hbm, ⟨14, _⟩ => ⟨S4096x1024, .f32⟩
  | .hbm, ⟨15, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S8x128, .f32⟩
  | .local _ .vmem, ⟨14, _⟩ => ⟨S1024x1024, .bf16⟩
  | .local _ .vmem, ⟨15, _⟩ => ⟨S1024x1024, .bf16⟩
  | .local _ .vmem, ⟨16, _⟩ => ⟨S1024x4096, .f32⟩
  | .local _ .vmem, ⟨17, _⟩ => ⟨S1024x4096, .bf16⟩
  | .local _ .vmem, ⟨18, _⟩ => ⟨S1024x4096, .bf16⟩
  | .local _ .vmem, ⟨19, _⟩ => ⟨S8x128, .f32⟩
  | .local _ .vmem, ⟨20, _⟩ => ⟨S512x4096, .bf16⟩
  | .local _ .vmem, ⟨21, _⟩ => ⟨S512x4096, .bf16⟩
  | .local _ .vmem, ⟨22, _⟩ => ⟨S4096x1024, .f32⟩
  | .local _ .vmem, ⟨23, _⟩ => ⟨S512x1024, .f32⟩
  | .local _ .vmem, ⟨24, _⟩ => ⟨S512x1024, .f32⟩
  | .local _ .vmem, ⟨25, _⟩ => ⟨S1x1024, .f32⟩
  | .local _ .vmem, ⟨26, _⟩ => ⟨S1x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .bf16⟩
  | .local _ .vmem, ⟨32, _⟩ => ⟨S512x1024, .bf16⟩
  | .local _ .vmem, ⟨33, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc2_stg6_0 : Ref sig .tc := ⟨.vmem, 29, rfl⟩
abbrev cc2_stg6_1 : Ref sig .tc := ⟨.vmem, 30, rfl⟩
abbrev cc2_stg7_0 : Ref sig .tc := ⟨.vmem, 31, rfl⟩
abbrev cc2_stg7_1 : Ref sig .tc := ⟨.vmem, 32, rfl⟩
abbrev cc2_scratch0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem5_1 : DmaSem sig := 26
abbrev cc2_sem6_0 : DmaSem sig := 27
abbrev cc2_sem6_1 : DmaSem sig := 28
abbrev cc2_sem7_0 : DmaSem sig := 29
abbrev cc2_sem7_1 : DmaSem sig := 30

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_7 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S4096x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, true, false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, true, false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

abbrev stage2_6 : Fin 2 → Memref sig .tc .vmem S512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true, false]

abbrev stage2_7 : Fin 2 → Memref sig .tc .vmem S512x1024 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true, false]
-- ==== Reference7Ideal.lean ====
abbrev S4096x1024 : Shape := ⟨2, ![4096, 1024]⟩
abbrev S1024x1024 : Shape := ⟨2, ![1024, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 82
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .f32⟩
  | .hbm, ⟨3, _⟩ => ⟨S1x1024, .f32⟩
  | .hbm, ⟨4, _⟩ => ⟨S1x1024, .f32⟩
  | .hbm, ⟨5, _⟩ => ⟨S1024x4096, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S4096x1, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .bf16⟩
  | .hbm, ⟨80, _⟩ => ⟨S4096x4096, .bf16⟩
  | .hbm, ⟨81, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_cst : Ref sig .tc := ⟨.hbm, 43, rfl⟩
abbrev main_call0_v0 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]
-- ==== Kernel8.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .bf16⟩
  | .hbm, ⟨5, _⟩ => ⟨S1x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 81
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S_, .f32⟩
  | .hbm, ⟨4, _⟩ => ⟨S1x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S4096x1, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S4096x1024, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096, .f32⟩
  | .hbm, ⟨78, _⟩ => ⟨S4096x1024, .f32⟩
  | .hbm, ⟨79, _⟩ => ⟨S4096x1024, .f32⟩
  | .hbm, ⟨80, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_10 : Ref sig .tc := ⟨.hbm, 57, rfl⟩
abbrev main_v43 : Ref sig .tc := ⟨.hbm, 58, rfl⟩
abbrev main_v44 : Ref sig .tc := ⟨.hbm, 59, rfl⟩
abbrev main_cst_11 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_13 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_14 : Ref sig .tc := ⟨.hbm, 73, rfl⟩
abbrev main_v55 : Ref sig .tc := ⟨.hbm, 74, rfl⟩
abbrev main_v56 : Ref sig .tc := ⟨.hbm, 75, rfl⟩
abbrev main_cst_15 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]
-- ==== Kernel9.lean ====
abbrev S4096x7680 : Shape := ⟨2, ![4096, 7680]⟩
abbrev S1x512 : Shape := ⟨2, ![1, 512]⟩
abbrev S4x128x128 : Shape := ⟨3, ![4, 128, 128]⟩
abbrev S4x128x1 : Shape := ⟨3, ![4, 128, 1]⟩
abbrev S4096x512 : Shape := ⟨2, ![4096, 512]⟩
abbrev S512x512 : Shape := ⟨2, ![512, 512]⟩
abbrev S1x128x128 : Shape := ⟨3, ![1, 128, 128]⟩
abbrev S128x128 : Shape := ⟨2, ![128, 128]⟩
abbrev S128x512 : Shape := ⟨2, ![128, 512]⟩
abbrev S128 : Shape := ⟨1, ![128]⟩
abbrev S128x1 : Shape := ⟨2, ![128, 1]⟩
abbrev S1x128x1 : Shape := ⟨3, ![1, 128, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x7680, .f32⟩
  | .hbm, ⟨1, _⟩ => ⟨S1x512, .f32⟩
  | .hbm, ⟨2, _⟩ => ⟨S1x512, .f32⟩
  | .hbm, ⟨3, _⟩ => ⟨S4x128x128, .f32⟩
  | .hbm, ⟨4, _⟩ => ⟨S4x128x1, .f32⟩
  | .hbm, ⟨5, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S4x128x1, .f32⟩
  | .local _ .vmem, ⟨8, _⟩ => ⟨S512x512, .f32⟩
  | .local _ .vmem, ⟨9, _⟩ => ⟨S512x512, .f32⟩
  | _, _ => ⟨S4096x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S4096x7680 : Shape := ⟨2, ![4096, 7680]⟩
abbrev S1x512 : Shape := ⟨2, ![1, 512]⟩
abbrev S4x128x128 : Shape := ⟨3, ![4, 128, 128]⟩
abbrev S4x128x1 : Shape := ⟨3, ![4, 128, 1]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S32x128x4x128 : Shape := ⟨4, ![32, 128, 4, 128]⟩
abbrev S128x128 : Shape := ⟨2, ![128, 128]⟩
abbrev S1x128x128 : Shape := ⟨3, ![1, 128, 128]⟩
abbrev S4x32x128x128 : Shape := ⟨4, ![4, 32, 128, 128]⟩
abbrev S4x128 : Shape := ⟨2, ![4, 128]⟩
abbrev S128x4 : Shape := ⟨2, ![128, 4]⟩
abbrev S1x128x4x1 : Shape := ⟨4, ![1, 128, 4, 1]⟩

abbrev nBuf : Space → Nat
  | .hbm => 92
  | .vmem => 0
  | .smem => 0
  | _ => 0

abbrev bufTy : (tb : Table) → Fin (tcTables nBuf tb) → BufTy
  | .hbm, ⟨0, _⟩ => ⟨S4096x7680, .f32⟩
  | .hbm, ⟨1, _⟩ => ⟨S1x512, .f32⟩
  | .hbm, ⟨2, _⟩ => ⟨S1x512, .f32⟩
  | .hbm, ⟨3, _⟩ => ⟨S4x128x128, .f32⟩
  | .hbm, ⟨4, _⟩ => ⟨S4x128x1, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S_, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096x512, .f32⟩
  | .hbm, ⟨19, _⟩ => ⟨S4096x512, .f32⟩
  | .hbm, ⟨20, _⟩ => ⟨S_, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S4096x512, .f32⟩
  | .hbm, ⟨57, _⟩ => ⟨S4096x512, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S4096x1, .f32⟩
  | .hbm, ⟨62, _⟩ => ⟨S4096x512, .f32⟩
  | .hbm, ⟨63, _⟩ => ⟨S4096x512, .f32⟩
  | .hbm, ⟨64, _⟩ => ⟨S4096x512, .f32⟩
  | .hbm, ⟨65, _⟩ => ⟨S4096x512, .f32⟩
  | .hbm, ⟨66, _⟩ => ⟨S4096x512, .f32⟩
  | .hbm, ⟨67, _⟩ => ⟨S4096x512, .f32⟩
  | .hbm, ⟨68, _⟩ => ⟨S32x128x4x128, .f32⟩
  | .hbm, ⟨69, _⟩ => ⟨S_, .f32⟩
  | .hbm, ⟨70, _⟩ => ⟨S128x128, .f32⟩
  | .hbm, ⟨71, _⟩ => ⟨S128x128, .i32⟩
  | .hbm, ⟨72, _⟩ => ⟨S_, .i32⟩
  | .hbm, ⟨73, _⟩ => ⟨S128x128, .i32⟩
  | .hbm, ⟨74, _⟩ => ⟨S128x128, .i32⟩
  | .hbm, ⟨75, _⟩ => ⟨S128x128, .i32⟩
  | .hbm, ⟨76, _⟩ => ⟨S128x128, .i1⟩
  | .hbm, ⟨77, _⟩ => ⟨S_, .f32⟩
  | .hbm, ⟨78, _⟩ => ⟨S128x128, .f32⟩
  | .hbm, ⟨79, _⟩ => ⟨S128x128, .f32⟩
  | .hbm, ⟨80, _⟩ => ⟨S1x128x128, .f32⟩
  | .hbm, ⟨81, _⟩ => ⟨S4x128x128, .f32⟩
  | .hbm, ⟨82, _⟩ => ⟨S4x128x128, .f32⟩
  | .hbm, ⟨83, _⟩ => ⟨S4x32x128x128, .f32⟩
  | .hbm, ⟨84, _⟩ => ⟨S32x128x4x128, .f32⟩
  | .hbm, ⟨85, _⟩ => ⟨S4x128, .f32⟩
  | .hbm, ⟨86, _⟩ => ⟨S128x4, .f32⟩
  | .hbm, ⟨87, _⟩ => ⟨S1x128x4x1, .f32⟩
  | .hbm, ⟨88, _⟩ => ⟨S32x128x4x128, .f32⟩
  | .hbm, ⟨89, _⟩ => ⟨S32x128x4x128, .f32⟩
  | .hbm, ⟨90, _⟩ => ⟨S4096x512, .f32⟩
  | .hbm, ⟨91, _⟩ => ⟨S4096x512, .f32⟩
  | _, _ => ⟨S4096x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_call0_v0 : Ref sig .tc := ⟨.hbm, 71, rfl⟩
abbrev main_call0_c : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_cst : Ref sig .tc := ⟨.hbm, 77, rfl⟩
abbrev main_call0_v5 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩

abbrev nD : Nat := 1
abbrev τ : Topo := Topo.v7x

variable {F : FTy → Type} [FloatOps F]
-- ==== Kernel10.lean ====
abbrev S4096x1024 : Shape := ⟨2, ![4096, 1024]⟩
abbrev S1x1024 : Shape := ⟨2, ![1, 1024]⟩
abbrev S512x1024 : Shape := ⟨2, ![512, 1024]⟩
abbrev S1024 : Shape := ⟨1, ![1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S1x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference10Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 110
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S4096x1024, .f32⟩
  | .hbm, ⟨78, _⟩ => ⟨S4096x1024, .f32⟩
  | .hbm, ⟨79, _⟩ => ⟨S4096x1, .f32⟩
  | .hbm, ⟨80, _⟩ => ⟨S4096x1024, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S_, .f32⟩
  | .hbm, ⟨85, _⟩ => ⟨S4096x1, .f32⟩
  | .hbm, ⟨86, _⟩ => ⟨S4096x1, .f32⟩
  | .hbm, ⟨87, _⟩ => ⟨S_, .f32⟩
  | .hbm, ⟨88, _⟩ => ⟨S4096, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S_, .f32⟩
  | .hbm, ⟨93, _⟩ => ⟨S4096, .f32⟩
  | .hbm, ⟨94, _⟩ => ⟨S4096x1, .f32⟩
  | .hbm, ⟨95, _⟩ => ⟨S4096x1024, .f32⟩
  | .hbm, ⟨96, _⟩ => ⟨S4096x1, .f32⟩
  | .hbm, ⟨97, _⟩ => ⟨S_, .f32⟩
  | .hbm, ⟨98, _⟩ => ⟨S4096x1, .f32⟩
  | .hbm, ⟨99, _⟩ => ⟨S4096x1, .f32⟩
  | .hbm, ⟨100, _⟩ => ⟨S_, .f32⟩
  | .hbm, ⟨101, _⟩ => ⟨S4096, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S_, .f32⟩
  | .hbm, ⟨107, _⟩ => ⟨S1024, .f32⟩
  | .hbm, ⟨108, _⟩ => ⟨S1x1024, .f32⟩
  | .hbm, ⟨109, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_cst_4 : Ref sig .tc := ⟨.hbm, 18, rfl⟩
abbrev main_v9 : Ref sig .tc := ⟨.hbm, 19, rfl⟩
abbrev main_cst_5 : Ref sig .tc := ⟨.hbm, 20, rfl⟩
abbrev main_cst_6 : Ref sig .tc := ⟨.hbm, 21, rfl⟩
abbrev main_v10 : Ref sig .tc := ⟨.hbm, 22, rfl⟩
abbrev main_v11 : Ref sig .tc := ⟨.hbm, 23, rfl⟩
abbrev main_cst_7 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_8 : Ref sig .tc := ⟨.hbm, 29, rfl⟩
abbrev main_v16 : Ref sig .tc := ⟨.hbm, 30, rfl⟩
abbrev main_v17 : Ref sig .tc := ⟨.hbm, 31, rfl⟩
abbrev main_cst_9 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_10 : Ref sig .tc := ⟨.hbm, 38, rfl⟩
abbrev main_v23 : Ref sig .tc := ⟨.hbm, 39, rfl⟩
abbrev main_v24 : Ref sig .tc := ⟨.hbm, 40, rfl⟩
abbrev main_cst_11 : Ref sig .tc := ⟨.hbm, 41, rfl⟩
abbrev main_v25 : Ref sig .tc := ⟨.hbm, 42, rfl⟩
abbrev main_v26 : Ref sig .tc := ⟨.hbm, 43, rfl⟩
abbrev main_cst_12 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_13 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_14 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_15 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_16 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_17 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_18 : Ref sig .tc := ⟨.hbm, 81, rfl⟩
abbrev main_v58 : Ref sig .tc := ⟨.hbm, 82, rfl⟩
abbrev main_v59 : Ref sig .tc := ⟨.hbm, 83, rfl⟩
abbrev main_cst_19 : Ref sig .tc := ⟨.hbm, 84, rfl⟩
abbrev main_v60 : Ref sig .tc := ⟨.hbm, 85, rfl⟩
abbrev main_v61 : Ref sig .tc := ⟨.hbm, 86, rfl⟩
abbrev main_cst_20 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_21 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_22 : Ref sig .tc := ⟨.hbm, 97, rfl⟩
abbrev main_v70 : Ref sig .tc := ⟨.hbm, 98, rfl⟩
abbrev main_v71 : Ref sig .tc := ⟨.hbm, 99, rfl⟩
abbrev main_cst_23 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_24 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩

abbrev nD : Nat := 1
abbrev τ : Topo := Topo.v7x

variable {F : FTy → Type} [FloatOps F]
-- ==== Kernel11.lean ====
abbrev S2x1024x512 : Shape := ⟨3, ![2, 1024, 512]⟩
abbrev S8x1024x512 : Shape := ⟨3, ![8, 1024, 512]⟩
abbrev S1x256x512 : Shape := ⟨3, ![1, 256, 512]⟩
abbrev S8x256x512 : Shape := ⟨3, ![8, 256, 512]⟩
abbrev S256x512 : Shape := ⟨2, ![256, 512]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x512, .f32⟩
  | .hbm, ⟨1, _⟩ => ⟨S8x1024x512, .bf16⟩
  | .hbm, ⟨2, _⟩ => ⟨S8x1024x512, .bf16⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .local _ .vmem, ⟨0, _⟩ => ⟨S1x256x512, .f32⟩
  | .local _ .vmem, ⟨1, _⟩ => ⟨S1x256x512, .f32⟩
  | .local _ .vmem, ⟨2, _⟩ => ⟨S8x256x512, .bf16⟩
  | .local _ .vmem, ⟨3, _⟩ => ⟨S8x256x512, .bf16⟩
  | .local _ .vmem, ⟨4, _⟩ => ⟨S8x256x512, .bf16⟩
  | .local _ .vmem, ⟨5, _⟩ => ⟨S8x256x512, .bf16⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference11Ideal.lean ====
abbrev S2x1024x512 : Shape := ⟨3, ![2, 1024, 512]⟩
abbrev S8x1024x512 : Shape := ⟨3, ![8, 1024, 512]⟩
abbrev S_ : Shape := ⟨0, ![]⟩
abbrev S1024x512 : Shape := ⟨2, ![1024, 512]⟩
abbrev S1x1024x512 : Shape := ⟨3, ![1, 1024, 512]⟩

abbrev nBuf : Space → Nat
  | .hbm => 47
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S8x1024x512, .bf16⟩
  | .hbm, ⟨2, _⟩ => ⟨S8x1024x512, .bf16⟩
  | .hbm, ⟨3, _⟩ => ⟨S2x1024x512, .f32⟩
  | .hbm, ⟨4, _⟩ => ⟨S2x1024x512, .f32⟩
  | .hbm, ⟨5, _⟩ => ⟨S8x1024x512, .f32⟩
  | .hbm, ⟨6, _⟩ => ⟨S_, .f32⟩
  | .hbm, ⟨7, _⟩ => ⟨S1024x512, .f32⟩
  | .hbm, ⟨8, _⟩ => ⟨S8x1024x512, .f32⟩
  | .hbm, ⟨9, _⟩ => ⟨S_, .f32⟩
  | .hbm, ⟨10, _⟩ => ⟨S1024x512, .f32⟩
  | .hbm, ⟨11, _⟩ => ⟨S1x1024x512, .f32⟩
  | .hbm, ⟨12, _⟩ => ⟨S1x1024x512, .f32⟩
  | .hbm, ⟨13, _⟩ => ⟨S2x1024x512, .f32⟩
  | .hbm, ⟨14, _⟩ => ⟨S_, .f32⟩
  | .hbm, ⟨15, _⟩ => ⟨S2x1024x512, .f32⟩
  | .hbm, ⟨16, _⟩ => ⟨S2x1024x512, .f32⟩
  | .hbm, ⟨17, _⟩ => ⟨S_, .f32⟩
  | .hbm, ⟨18, _⟩ => ⟨S2x1024x512, .f32⟩
  | .hbm, ⟨19, _⟩ => ⟨S2x1024x512, .f32⟩
  | .hbm, ⟨20, _⟩ => ⟨S2x1024x512, .f32⟩
  | .hbm, ⟨21, _⟩ => ⟨S_, .f32⟩
  | .hbm, ⟨22, _⟩ => ⟨S2x1024x512, .f32⟩
  | .hbm, ⟨23, _⟩ => ⟨S2x1024x512, .f32⟩
  | .hbm, ⟨24, _⟩ => ⟨S2x1024x512, .f32⟩
  | .hbm, ⟨25, _⟩ => ⟨S_, .f32⟩
  | .hbm, ⟨26, _⟩ => ⟨S2x1024x512, .f32⟩
  | .hbm, ⟨27, _⟩ => ⟨S2x1024x512, .f32⟩
  | .hbm, ⟨28, _⟩ => ⟨S2x1024x512, .f32⟩
  | .hbm, ⟨29, _⟩ => ⟨S_, .f32⟩
  | .hbm, ⟨30, _⟩ => ⟨S2x1024x512, .f32⟩
  | .hbm, ⟨31, _⟩ => ⟨S2x1024x512, .f32⟩
  | .hbm, ⟨32, _⟩ => ⟨S_, .f32⟩
  | .hbm, ⟨33, _⟩ => ⟨S2x1024x512, .f32⟩
  | .hbm, ⟨34, _⟩ => ⟨S2x1024x512, .f32⟩
  | .hbm, ⟨35, _⟩ => ⟨S2x1024x512, .f32⟩
  | .hbm, ⟨36, _⟩ => ⟨S_, .f32⟩
  | .hbm, ⟨37, _⟩ => ⟨S2x1024x512, .f32⟩
  | .hbm, ⟨38, _⟩ => ⟨S2x1024x512, .f32⟩
  | .hbm, ⟨39, _⟩ => ⟨S2x1024x512, .f32⟩
  | .hbm, ⟨40, _⟩ => ⟨S_, .f32⟩
  | .hbm, ⟨41, _⟩ => ⟨S2x1024x512, .f32⟩
  | .hbm, ⟨42, _⟩ => ⟨S2x1024x512, .f32⟩
  | .hbm, ⟨43, _⟩ => ⟨S2x1024x512, .f32⟩
  | .hbm, ⟨44, _⟩ => ⟨S_, .f32⟩
  | .hbm, ⟨45, _⟩ => ⟨S2x1024x512, .f32⟩
  | .hbm, ⟨46, _⟩ => ⟨S2x1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel12.lean ====
abbrev S2x512x1024 : Shape := ⟨3, ![2, 512, 1024]⟩
abbrev S8x512x1024 : Shape := ⟨3, ![8, 512, 1024]⟩
abbrev S1x256x1024 : Shape := ⟨3, ![1, 256, 1024]⟩
abbrev S8x256x1024 : Shape := ⟨3, ![8, 256, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x512x1024, .f32⟩
  | .hbm, ⟨1, _⟩ => ⟨S8x512x1024, .bf16⟩
  | .hbm, ⟨2, _⟩ => ⟨S8x512x1024, .bf16⟩
  | .hbm, ⟨3, _⟩ => ⟨S2x512x1024, .f32⟩
  | .hbm, ⟨4, _⟩ => ⟨S2x512x1024, .f32⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S2x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S8x256x1024, .bf16⟩
  | .local _ .vmem, ⟨3, _⟩ => ⟨S8x256x1024, .bf16⟩
  | .local _ .vmem, ⟨4, _⟩ => ⟨S8x256x1024, .bf16⟩
  | .local _ .vmem, ⟨5, _⟩ => ⟨S8x256x1024, .bf16⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference12Ideal.lean ====
abbrev S2x512x1024 : Shape := ⟨3, ![2, 512, 1024]⟩
abbrev S8x512x1024 : Shape := ⟨3, ![8, 512, 1024]⟩
abbrev S_ : Shape := ⟨0, ![]⟩
abbrev S512x1024 : Shape := ⟨2, ![512, 1024]⟩
abbrev S1x512x1024 : Shape := ⟨3, ![1, 512, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S8x512x1024, .bf16⟩
  | .hbm, ⟨2, _⟩ => ⟨S8x512x1024, .bf16⟩
  | .hbm, ⟨3, _⟩ => ⟨S2x512x1024, .f32⟩
  | .hbm, ⟨4, _⟩ => ⟨S2x512x1024, .f32⟩
  | .hbm, ⟨5, _⟩ => ⟨S8x512x1024, .f32⟩
  | .hbm, ⟨6, _⟩ => ⟨S_, .f32⟩
  | .hbm, ⟨7, _⟩ => ⟨S512x1024, .f32⟩
  | .hbm, ⟨8, _⟩ => ⟨S8x512x1024, .f32⟩
  | .hbm, ⟨9, _⟩ => ⟨S_, .f32⟩
  | .hbm, ⟨10, _⟩ => ⟨S512x1024, .f32⟩
  | .hbm, ⟨11, _⟩ => ⟨S1x512x1024, .f32⟩
  | .hbm, ⟨12, _⟩ => ⟨S1x512x1024, .f32⟩
  | .hbm, ⟨13, _⟩ => ⟨S2x512x1024, .f32⟩
  | .hbm, ⟨14, _⟩ => ⟨S_, .f32⟩
  | .hbm, ⟨15, _⟩ => ⟨S2x512x1024, .f32⟩
  | .hbm, ⟨16, _⟩ => ⟨S2x512x1024, .f32⟩
  | .hbm, ⟨17, _⟩ => ⟨S_, .f32⟩
  | .hbm, ⟨18, _⟩ => ⟨S2x512x1024, .f32⟩
  | .hbm, ⟨19, _⟩ => ⟨S2x512x1024, .f32⟩
  | .hbm, ⟨20, _⟩ => ⟨S2x512x1024, .f32⟩
  | .hbm, ⟨21, _⟩ => ⟨S_, .f32⟩
  | .hbm, ⟨22, _⟩ => ⟨S2x512x1024, .f32⟩
  | .hbm, ⟨23, _⟩ => ⟨S2x512x1024, .f32⟩
  | .hbm, ⟨24, _⟩ => ⟨S2x512x1024, .f32⟩
  | .hbm, ⟨25, _⟩ => ⟨S_, .f32⟩
  | .hbm, ⟨26, _⟩ => ⟨S2x512x1024, .f32⟩
  | .hbm, ⟨27, _⟩ => ⟨S2x512x1024, .f32⟩
  | .hbm, ⟨28, _⟩ => ⟨S2x512x1024, .f32⟩
  | .hbm, ⟨29, _⟩ => ⟨S_, .f32⟩
  | .hbm, ⟨30, _⟩ => ⟨S2x512x1024, .f32⟩
  | .hbm, ⟨31, _⟩ => ⟨S2x512x1024, .f32⟩
  | .hbm, ⟨32, _⟩ => ⟨S_, .f32⟩
  | .hbm, ⟨33, _⟩ => ⟨S2x512x1024, .f32⟩
  | .hbm, ⟨34, _⟩ => ⟨S2x512x1024, .f32⟩
  | .hbm, ⟨35, _⟩ => ⟨S2x512x1024, .f32⟩
  | .hbm, ⟨36, _⟩ => ⟨S_, .f32⟩
  | .hbm, ⟨37, _⟩ => ⟨S2x512x1024, .f32⟩
  | .hbm, ⟨38, _⟩ => ⟨S2x512x1024, .f32⟩
  | .hbm, ⟨39, _⟩ => ⟨S2x512x1024, .f32⟩
  | .hbm, ⟨40, _⟩ => ⟨S_, .f32⟩
  | .hbm, ⟨41, _⟩ => ⟨S2x512x1024, .f32⟩
  | .hbm, ⟨42, _⟩ => ⟨S2x512x1024, .f32⟩
  | .hbm, ⟨43, _⟩ => ⟨S2x512x1024, .f32⟩
  | .hbm, ⟨44, _⟩ => ⟨S_, .f32⟩
  | .hbm, ⟨45, _⟩ => ⟨S2x512x1024, .f32⟩
  | .hbm, ⟨46, _⟩ => ⟨S2x512x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel13.lean ====
abbrev S2x128x1024 : Shape := ⟨3, ![2, 128, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x128x1024, .f32⟩
  | .hbm, ⟨1, _⟩ => ⟨S8x128x1024, .bf16⟩
  | .hbm, ⟨2, _⟩ => ⟨S8x128x1024, .bf16⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S8x128x1024, .bf16⟩
  | .local _ .vmem, ⟨3, _⟩ => ⟨S8x128x1024, .bf16⟩
  | .local _ .vmem, ⟨4, _⟩ => ⟨S8x128x1024, .bf16⟩
  | .local _ .vmem, ⟨5, _⟩ => ⟨S8x128x1024, .bf16⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference13Ideal.lean ====
abbrev S2x128x1024 : Shape := ⟨3, ![2, 128, 1024]⟩
abbrev S8x128x1024 : Shape := ⟨3, ![8, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S8x128x1024, .bf16⟩
  | .hbm, ⟨2, _⟩ => ⟨S8x128x1024, .bf16⟩
  | .hbm, ⟨3, _⟩ => ⟨S2x128x1024, .f32⟩
  | .hbm, ⟨4, _⟩ => ⟨S2x128x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel14.lean ====
abbrev S2x512x128 : Shape := ⟨3, ![2, 512, 128]⟩
abbrev S8x512x128 : Shape := ⟨3, ![8, 512, 128]⟩
abbrev S1x256x128 : Shape := ⟨3, ![1, 256, 128]⟩
abbrev S8x256x128 : Shape := ⟨3, ![8, 256, 128]⟩
abbrev S256x128 : Shape := ⟨2, ![256, 128]⟩

abbrev nBuf : Space → Nat
  | .hbm => 9
  | .vmem => 18
  | .smem => 0
  | _ => 0

abbrev bufTy : (tb : Table) → Fin (tcTables nBuf tb) → BufTy
  | .hbm, ⟨0, _⟩ => ⟨S2x512x128, .f32⟩
  | .hbm, ⟨1, _⟩ => ⟨S8x512x128, .bf16⟩
  | .hbm, ⟨2, _⟩ => ⟨S8x512x128, .bf16⟩
  | .hbm, ⟨3, _⟩ => ⟨S2x512x128, .f32⟩
  | .hbm, ⟨4, _⟩ => ⟨S2x512x128, .f32⟩
  | .hbm, ⟨5, _⟩ => ⟨S2x512x128, .f32⟩
  | .hbm, ⟨6, _⟩ => ⟨S2x512x128, .f32⟩
  | .hbm, ⟨7, _⟩ => ⟨S2x512x128, .f32⟩
  | .hbm, ⟨8, _⟩ => ⟨S2x512x128, .f32⟩
  | .local _ .vmem, ⟨0, _⟩ => ⟨S1x256x128, .f32⟩
  | .local _ .vmem, ⟨1, _⟩ => ⟨S1x256x128, .f32⟩
  | .local _ .vmem, ⟨2, _⟩ => ⟨S8x256x128, .bf16⟩
  | .local _ .vmem, ⟨3, _⟩ => ⟨S8x256x128, .bf16⟩
  | .local _ .vmem, ⟨4, _⟩ => ⟨S8x256x128, .bf16⟩
  | .local _ .vmem, ⟨5, _⟩ => ⟨S8x256x128, .bf16⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | _, _ => ⟨S2x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference14Ideal.lean ====
abbrev S2x512x128 : Shape := ⟨3, ![2, 512, 128]⟩
abbrev S8x512x128 : Shape := ⟨3, ![8, 512, 128]⟩
abbrev S_ : Shape := ⟨0, ![]⟩
abbrev S512x128 : Shape := ⟨2, ![512, 128]⟩
abbrev S1x512x128 : Shape := ⟨3, ![1, 512, 128]⟩

abbrev nBuf : Space → Nat
  | .hbm => 47
  | .vmem => 0
  | .smem => 0
  | _ => 0

abbrev bufTy : (tb : Table) → Fin (tcTables nBuf tb) → BufTy
  | .hbm, ⟨0, _⟩ => ⟨S2x512x128, .f32⟩
  | .hbm, ⟨1, _⟩ => ⟨S8x512x128, .bf16⟩
  | .hbm, ⟨2, _⟩ => ⟨S8x512x128, .bf16⟩
  | .hbm, ⟨3, _⟩ => ⟨S2x512x128, .f32⟩
  | .hbm, ⟨4, _⟩ => ⟨S2x512x128, .f32⟩
  | .hbm, ⟨5, _⟩ => ⟨S8x512x128, .f32⟩
  | .hbm, ⟨6, _⟩ => ⟨S_, .f32⟩
  | .hbm, ⟨7, _⟩ => ⟨S512x128, .f32⟩
  | .hbm, ⟨8, _⟩ => ⟨S8x512x128, .f32⟩
  | .hbm, ⟨9, _⟩ => ⟨S_, .f32⟩
  | .hbm, ⟨10, _⟩ => ⟨S512x128, .f32⟩
  | .hbm, ⟨11, _⟩ => ⟨S1x512x128, .f32⟩
  | .hbm, ⟨12, _⟩ => ⟨S1x512x128, .f32⟩
  | .hbm, ⟨13, _⟩ => ⟨S2x512x128, .f32⟩
  | .hbm, ⟨14, _⟩ => ⟨S_, .f32⟩
  | .hbm, ⟨15, _⟩ => ⟨S2x512x128, .f32⟩
  | .hbm, ⟨16, _⟩ => ⟨S2x512x128, .f32⟩
  | .hbm, ⟨17, _⟩ => ⟨S_, .f32⟩
  | .hbm, ⟨18, _⟩ => ⟨S2x512x128, .f32⟩
  | .hbm, ⟨19, _⟩ => ⟨S2x512x128, .f32⟩
  | .hbm, ⟨20, _⟩ => ⟨S2x512x128, .f32⟩
  | .hbm, ⟨21, _⟩ => ⟨S_, .f32⟩
  | .hbm, ⟨22, _⟩ => ⟨S2x512x128, .f32⟩
  | .hbm, ⟨23, _⟩ => ⟨S2x512x128, .f32⟩
  | .hbm, ⟨24, _⟩ => ⟨S2x512x128, .f32⟩
  | .hbm, ⟨25, _⟩ => ⟨S_, .f32⟩
  | .hbm, ⟨26, _⟩ => ⟨S2x512x128, .f32⟩
  | .hbm, ⟨27, _⟩ => ⟨S2x512x128, .f32⟩
  | .hbm, ⟨28, _⟩ => ⟨S2x512x128, .f32⟩
  | .hbm, ⟨29, _⟩ => ⟨S_, .f32⟩
  | .hbm, ⟨30, _⟩ => ⟨S2x512x128, .f32⟩
  | .hbm, ⟨31, _⟩ => ⟨S2x512x128, .f32⟩
  | .hbm, ⟨32, _⟩ => ⟨S_, .f32⟩
  | .hbm, ⟨33, _⟩ => ⟨S2x512x128, .f32⟩
  | .hbm, ⟨34, _⟩ => ⟨S2x512x128, .f32⟩
  | .hbm, ⟨35, _⟩ => ⟨S2x512x128, .f32⟩
  | .hbm, ⟨36, _⟩ => ⟨S_, .f32⟩
  | .hbm, ⟨37, _⟩ => ⟨S2x512x128, .f32⟩
  | .hbm, ⟨38, _⟩ => ⟨S2x512x128, .f32⟩
  | .hbm, ⟨39, _⟩ => ⟨S2x512x128, .f32⟩
  | .hbm, ⟨40, _⟩ => ⟨S_, .f32⟩
  | .hbm, ⟨41, _⟩ => ⟨S2x512x128, .f32⟩
  | .hbm, ⟨42, _⟩ => ⟨S2x512x128, .f32⟩
  | .hbm, ⟨43, _⟩ => ⟨S2x512x128, .f32⟩
  | .hbm, ⟨44, _⟩ => ⟨S_, .f32⟩
  | .hbm, ⟨45, _⟩ => ⟨S2x512x128, .f32⟩
  | .hbm, ⟨46, _⟩ => ⟨S2x512x128, .f32⟩
  | _, _ => ⟨S2x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel15.lean ====
abbrev S2x960x1024 : Shape := ⟨3, ![2, 960, 1024]⟩
abbrev S4x960x1024 : Shape := ⟨3, ![4, 960, 1024]⟩
abbrev S8x960x1024 : Shape := ⟨3, ![8, 960, 1024]⟩
abbrev S1x320x1024 : Shape := ⟨3, ![1, 320, 1024]⟩
abbrev S4x320x1024 : Shape := ⟨3, ![4, 320, 1024]⟩
abbrev S8x320x1024 : Shape := ⟨3, ![8, 320, 1024]⟩
abbrev S320x1024 : Shape := ⟨2, ![320, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x960x1024, .f32⟩
  | .hbm, ⟨1, _⟩ => ⟨S4x960x1024, .bf16⟩
  | .hbm, ⟨2, _⟩ => ⟨S8x960x1024, .bf16⟩
  | .hbm, ⟨3, _⟩ => ⟨S2x960x1024, .f32⟩
  | .hbm, ⟨4, _⟩ => ⟨S2x960x1024, .f32⟩
  | .hbm, ⟨5, _⟩ => ⟨S2x960x1024, .f32⟩
  | .hbm, ⟨6, _⟩ => ⟨S2x960x1024, .f32⟩
  | .hbm, ⟨7, _⟩ => ⟨S2x960x1024, .f32⟩
  | .hbm, ⟨8, _⟩ => ⟨S2x960x1024, .f32⟩
  | .local _ .vmem, ⟨0, _⟩ => ⟨S1x320x1024, .f32⟩
  | .local _ .vmem, ⟨1, _⟩ => ⟨S1x320x1024, .f32⟩
  | .local _ .vmem, ⟨2, _⟩ => ⟨S4x320x1024, .bf16⟩
  | .local _ .vmem, ⟨3, _⟩ => ⟨S4x320x1024, .bf16⟩
  | .local _ .vmem, ⟨4, _⟩ => ⟨S8x320x1024, .bf16⟩
  | .local _ .vmem, ⟨5, _⟩ => ⟨S8x320x1024, .bf16⟩
  | .local _ .vmem, ⟨6, _⟩ => ⟨S1x320x1024, .f32⟩
  | .local _ .vmem, ⟨7, _⟩ => ⟨S1x320x1024, .f32⟩
  | .local _ .vmem, ⟨8, _⟩ => ⟨S1x320x1024, .f32⟩
  | .local _ .vmem, ⟨9, _⟩ => ⟨S1x320x1024, .f32⟩
  | .local _ .vmem, ⟨10, _⟩ => ⟨S1x320x1024, .f32⟩
  | .local _ .vmem, ⟨11, _⟩ => ⟨S1x320x1024, .f32⟩
  | .local _ .vmem, ⟨12, _⟩ => ⟨S1x320x1024, .f32⟩
  | .local _ .vmem, ⟨13, _⟩ => ⟨S1x320x1024, .f32⟩
  | .local _ .vmem, ⟨14, _⟩ => ⟨S1x320x1024, .f32⟩
  | .local _ .vmem, ⟨15, _⟩ => ⟨S1x320x1024, .f32⟩
  | .local _ .vmem, ⟨16, _⟩ => ⟨S1x320x1024, .f32⟩
  | .local _ .vmem, ⟨17, _⟩ => ⟨S1x320x1024, .f32⟩
  | _, _ => ⟨S2x960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x320x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x320x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x320x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x320x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x320x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x320x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x320x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x320x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference15Ideal.lean ====
abbrev S2x960x1024 : Shape := ⟨3, ![2, 960, 1024]⟩
abbrev S4x960x1024 : Shape := ⟨3, ![4, 960, 1024]⟩
abbrev S8x960x1024 : Shape := ⟨3, ![8, 960, 1024]⟩
abbrev S_ : Shape := ⟨0, ![]⟩
abbrev S960x1024 : Shape := ⟨2, ![960, 1024]⟩
abbrev S1x960x1024 : Shape := ⟨3, ![1, 960, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x960x1024, .f32⟩
  | .hbm, ⟨1, _⟩ => ⟨S4x960x1024, .bf16⟩
  | .hbm, ⟨2, _⟩ => ⟨S8x960x1024, .bf16⟩
  | .hbm, ⟨3, _⟩ => ⟨S2x960x1024, .f32⟩
  | .hbm, ⟨4, _⟩ => ⟨S2x960x1024, .f32⟩
  | .hbm, ⟨5, _⟩ => ⟨S4x960x1024, .f32⟩
  | .hbm, ⟨6, _⟩ => ⟨S_, .f32⟩
  | .hbm, ⟨7, _⟩ => ⟨S960x1024, .f32⟩
  | .hbm, ⟨8, _⟩ => ⟨S8x960x1024, .f32⟩
  | .hbm, ⟨9, _⟩ => ⟨S_, .f32⟩
  | .hbm, ⟨10, _⟩ => ⟨S960x1024, .f32⟩
  | .hbm, ⟨11, _⟩ => ⟨S1x960x1024, .f32⟩
  | .hbm, ⟨12, _⟩ => ⟨S1x960x1024, .f32⟩
  | .hbm, ⟨13, _⟩ => ⟨S2x960x1024, .f32⟩
  | .hbm, ⟨14, _⟩ => ⟨S_, .f32⟩
  | .hbm, ⟨15, _⟩ => ⟨S2x960x1024, .f32⟩
  | .hbm, ⟨16, _⟩ => ⟨S2x960x1024, .f32⟩
  | .hbm, ⟨17, _⟩ => ⟨S_, .f32⟩
  | .hbm, ⟨18, _⟩ => ⟨S2x960x1024, .f32⟩
  | .hbm, ⟨19, _⟩ => ⟨S2x960x1024, .f32⟩
  | .hbm, ⟨20, _⟩ => ⟨S2x960x1024, .f32⟩
  | .hbm, ⟨21, _⟩ => ⟨S_, .f32⟩
  | .hbm, ⟨22, _⟩ => ⟨S2x960x1024, .f32⟩
  | .hbm, ⟨23, _⟩ => ⟨S2x960x1024, .f32⟩
  | .hbm, ⟨24, _⟩ => ⟨S2x960x1024, .f32⟩
  | .hbm, ⟨25, _⟩ => ⟨S_, .f32⟩
  | .hbm, ⟨26, _⟩ => ⟨S2x960x1024, .f32⟩
  | .hbm, ⟨27, _⟩ => ⟨S2x960x1024, .f32⟩
  | .hbm, ⟨28, _⟩ => ⟨S2x960x1024, .f32⟩
  | .hbm, ⟨29, _⟩ => ⟨S_, .f32⟩
  | .hbm, ⟨30, _⟩ => ⟨S2x960x1024, .f32⟩
  | .hbm, ⟨31, _⟩ => ⟨S2x960x1024, .f32⟩
  | .hbm, ⟨32, _⟩ => ⟨S_, .f32⟩
  | .hbm, ⟨33, _⟩ => ⟨S2x960x1024, .f32⟩
  | .hbm, ⟨34, _⟩ => ⟨S2x960x1024, .f32⟩
  | .hbm, ⟨35, _⟩ => ⟨S2x960x1024, .f32⟩
  | .hbm, ⟨36, _⟩ => ⟨S_, .f32⟩
  | .hbm, ⟨37, _⟩ => ⟨S2x960x1024, .f32⟩
  | .hbm, ⟨38, _⟩ => ⟨S2x960x1024, .f32⟩
  | .hbm, ⟨39, _⟩ => ⟨S2x960x1024, .f32⟩
  | .hbm, ⟨40, _⟩ => ⟨S_, .f32⟩
  | .hbm, ⟨41, _⟩ => ⟨S2x960x1024, .f32⟩
  | .hbm, ⟨42, _⟩ => ⟨S2x960x1024, .f32⟩
  | .hbm, ⟨43, _⟩ => ⟨S2x960x1024, .f32⟩
  | .hbm, ⟨44, _⟩ => ⟨S_, .f32⟩
  | .hbm, ⟨45, _⟩ => ⟨S2x960x1024, .f32⟩
  | .hbm, ⟨46, _⟩ => ⟨S2x960x1024, .f32⟩
  | _, _ => ⟨S2x960x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Proof.Merge.lean ====
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

namespace Cert.KernelIdeal.Merge

open Cert.KernelIdeal Cert.KernelIdeal.Gen

variable (V : (c : Dev nD) → (b : Ref sig .tc) → Buf (Elt Ideal) ((c : Thread nD τ).loc b))

/-- The logistic function as the kernel writes it. -/
def sg (z : EReal) : EReal := Ideal.div 1 (1 + Ideal.exp (0 - z))

/-- Gate `o` of the packed projection, at its logistic. -/
def gate (o : Nat) (ho : o < 3) (p : FVec Ideal S4096x7680 .f32) : FVec Ideal S4096x1024 .f32 :=
  fun i => sg (p (ix2 (i 0) ⟨4608 + o * 1024 + (i 1).val, by have := (i 1).isLt; simp only [Matrix.cons_val_one, Matrix.cons_val_zero] at this; omega⟩))

/-- A branch's output projected. -/
def proj (x : FVec Ideal S4096x512 .f32) (w : FVec Ideal S512x1024 .f32) : FVec Ideal S4096x1024 .f32 :=
  fun i => ∑ k : Fin 512, x (ix2 (i 0) k) * w (ix2 k (i 1))

/-- The gated sum of the three projected branches. -/
def merged (p : FVec Ideal S4096x7680 .f32) (a b c : FVec Ideal S4096x1024 .f32) : FVec Ideal S4096x1024 .bf16 :=
  fun i => gate 0 (by omega) p i * a i + gate 1 (by omega) p i * b i + gate 2 (by omega) p i * c i

/-- The three projected branches, stacked. -/
def stack (a b c : FVec Ideal S4096x1024 .f32) : FVec Ideal S3x4096x1024 .bf16 :=
  fun i => if (i 0).val = 0 then a (ix2 (i 1) (i 2)) else if (i 0).val = 1 then b (ix2 (i 1) (i 2)) else c (ix2 (i 1) (i 2))

theorem idx0 : ∀ t : Fin cfg0.N, win0_0.index t = ![t.val / 2, 0] ∧ win0_1.index t = ![t.val / 2, 0] ∧ win0_2.index t = ![t.val / 2, 0]
    ∧ win0_3.index t = ![0, t.val % 2] ∧ win0_4.index t = ![0, t.val % 2] ∧ win0_5.index t = ![0, t.val % 2]
    ∧ win0_6.index t = ![t.val / 2, 9 + t.val % 2] ∧ win0_7.index t = ![t.val / 2, 11 + t.val % 2] ∧ win0_8.index t = ![t.val / 2, 13 + t.val % 2]
    ∧ win0_9.index t = ![t.val / 2, t.val % 2] ∧ win0_10.index t = ![0, t.val / 2, t.val % 2] :=
  (by decide +kernel : ∀ t : Fin grid0.N, _)

theorem final0_9 (c : Dev nD) : (dat0 V c).arrAt 9 cfg0.N = merged (V c main_arg0) (proj (V c main_arg1) (V c main_arg4)) (proj (V c main_arg2) (V c main_arg5)) (proj (V c main_arg3) (V c main_arg6)) := by
  refine (dat0 V c).arrAt_eq_of_covers 9 _ (by decide +kernel) fun t _ y => ?_
  blk_simp
  rw [after0_9]; unfold out0_9; frame_out
  pointwise [k0_pay1, k0_pay3, k0_pay4, k0_pay6, k0_pay7, k0_pay9, merged, proj, gate, sg]
  blk_point [iblk0, idx0 t]

theorem idx1 : ∀ t : Fin cfg1.N, win1_0.index t = ![t.val, 0] ∧ win1_1.index t = ![0, 0] ∧ win1_2.index t = ![t.val, 0] :=
  (by decide +kernel : ∀ t : Fin grid1.N, _)

/-- A product with a transposed right operand. -/
def back (d : FVec Ideal S4096x1024 .f32) (w : FVec Ideal S1024x1024 .f32) : FVec Ideal S4096x1024 .f32 :=
  fun i => ∑ k : Fin 1024, d (ix2 (i 0) k) * w (ix2 (i 1) k)

theorem final1 (c : Dev nD) : (dat1 V c).arrAt 2 cfg1.N = back (V c main_arg8) (V c main_arg7) := by
  refine (dat1 V c).arrAt_eq_of_covers 2 _ (by decide +kernel) fun t _ y => ?_
  blk_simp
  rw [after1_2]; unfold outsAt1; frame_out
  pointwise [k1_pay1, back]
  blk_point [iblk1, idx1 t]

theorem idx2 : ∀ t : Fin cfg2.N, win2_0.index t = ![0, 0] ∧ win2_1.index t = ![0, t.val] ∧ win2_2.index t = ![0, t.val] :=
  (by decide +kernel : ∀ t : Fin grid2.N, _)

/-- The output weight's gradient. -/
def dOut (a : FVec Ideal S4096x1024 .bf16) (d : FVec Ideal S4096x1024 .f32) : FVec Ideal S1024x1024 .f32 :=
  fun i => ∑ k : Fin 4096, a (ix2 k (i 0)) * d (ix2 k (i 1))

theorem final2 (c : Dev nD) : (dat2 V c).arrAt 2 cfg2.N = dOut (V c main_v0_0) (V c main_arg8) := by
  refine (dat2 V c).arrAt_eq_of_covers 2 _ (by decide +kernel) fun t _ y => ?_
  blk_simp
  rw [after2_2]; unfold outsAt2; frame_out
  pointwise [k2_pay1, dOut]
  blk_point [iblk2, idx2 t]

/-- A projected branch's gradient. -/
def dBr (o : Nat) (ho : o < 3) (p : FVec Ideal S4096x7680 .f32) (dm : FVec Ideal S4096x1024 .f32) : FVec Ideal S4096x1024 .bf16 :=
  fun i => dm i * gate o ho p i

/-- A gate's gradient. -/
def dGate (o : Nat) (ho : o < 3) (p : FVec Ideal S4096x7680 .f32) (dm : FVec Ideal S4096x1024 .f32) (br : FVec Ideal S3x4096x1024 .bf16) : FVec Ideal S4096x1024 .bf16 :=
  fun i => dm i * br (ix3 ⟨o, ho⟩ (i 0) (i 1)) * (gate o ho p i * (1 - gate o ho p i))

/-- A branch's gradient. -/
def dBranch (d : FVec Ideal S4096x1024 .bf16) (w : FVec Ideal S512x1024 .f32) : FVec Ideal S4096x512 .f32 :=
  fun i => ∑ k : Fin 1024, d (ix2 (i 0) k) * w (ix2 (i 1) k)

theorem idx4 : ∀ t : Fin cfg4.N, win4_0.index t = ![t.val, 0] ∧ win4_1.index t = ![0, 0] ∧ win4_2.index t = ![t.val, 0] :=
  (by decide +kernel : ∀ t : Fin grid4.N, _)

theorem final4 (c : Dev nD) : (dat4 V c).arrAt 2 cfg4.N = dBranch (V c main_v3_0) (V c main_arg4) := by
  refine (dat4 V c).arrAt_eq_of_covers 2 _ (by decide +kernel) fun t _ y => ?_
  blk_simp
  rw [after4_2]; unfold outsAt4; frame_out
  pointwise [k4_pay1, dBranch]
  blk_point [iblk4, idx4 t]

theorem idx5 : ∀ t : Fin cfg5.N, win5_0.index t = ![t.val, 0] ∧ win5_1.index t = ![0, 0] ∧ win5_2.index t = ![t.val, 0] :=
  (by decide +kernel : ∀ t : Fin grid5.N, _)

theorem final5 (c : Dev nD) : (dat5 V c).arrAt 2 cfg5.N = dBranch (V c main_v3_1) (V c main_arg5) := by
  refine (dat5 V c).arrAt_eq_of_covers 2 _ (by decide +kernel) fun t _ y => ?_
  blk_simp
  rw [after5_2]; unfold outsAt5; frame_out
  pointwise [k5_pay1, dBranch]
  blk_point [iblk5, idx5 t]

theorem idx6 : ∀ t : Fin cfg6.N, win6_0.index t = ![t.val, 0] ∧ win6_1.index t = ![0, 0] ∧ win6_2.index t = ![t.val, 0] :=
  (by decide +kernel : ∀ t : Fin grid6.N, _)

theorem final6 (c : Dev nD) : (dat6 V c).arrAt 2 cfg6.N = dBranch (V c main_v3_2) (V c main_arg6) := by
  refine (dat6 V c).arrAt_eq_of_covers 2 _ (by decide +kernel) fun t _ y => ?_
  blk_simp
  rw [after6_2]; unfold outsAt6; frame_out
  pointwise [k6_pay1, dBranch]
  blk_point [iblk6, idx6 t]

variable (m : (ℓ : Loc nD τ sig) → Buf (Elt Ideal) ℓ) (ρ : Dev nD → PrngReg)

set_option backward.isDefEq.respectTransparency.types false in
/-- The run of the whole program at any `F`: every unscoped buffer ends at the last boundary's contents. -/
theorem run_all {F : FTy → Type} [FloatOps F] (m : (ℓ : Loc nD τ sig) → Buf (Elt F) ℓ) (ρ : Dev nD → PrngReg) :
    θ_run defs (onTc (τ := τ) (main (F := F))) ⟨m, fun _ => 0, ρ⟩ (fun r =>
      (∀ c : Dev nD, ∀ b ∈ Pipeline.ucRefs τ sig, r.2.mem (c, b) = W7 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => BI.emp) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

end Cert.KernelIdeal.Merge

end
-- ==== Proof.MergeGate.lean ====
module

public import proofs.«01_k».proof.Proof.Merge
public import Idealize.ShloMosaic.Lib.Pipeline.ValueKit

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

namespace Cert.KernelIdeal.Merge

open Cert.KernelIdeal Cert.KernelIdeal.Gen

variable (V : (c : Dev nD) → (b : Ref sig .tc) → Buf (Elt Ideal) ((c : Thread nD τ).loc b))

theorem idx3 : ∀ t : Fin cfg3.N, win3_0.index t = ![t.val / 2, t.val % 2] ∧ win3_1.index t = ![0, t.val / 2, t.val % 2]
    ∧ win3_2.index t = ![t.val / 2, 9 + t.val % 2] ∧ win3_3.index t = ![t.val / 2, 11 + t.val % 2] ∧ win3_4.index t = ![t.val / 2, 13 + t.val % 2]
    ∧ win3_5.index t = ![t.val / 2, t.val % 2] ∧ win3_6.index t = ![t.val / 2, t.val % 2] ∧ win3_7.index t = ![t.val / 2, t.val % 2]
    ∧ win3_8.index t = ![t.val / 2, t.val % 2] ∧ win3_9.index t = ![t.val / 2, t.val % 2] ∧ win3_10.index t = ![t.val / 2, t.val % 2] :=
  (by decide +kernel : ∀ t : Fin grid3.N, _)

theorem final3_5 (c : Dev nD) : (dat3 V c).arrAt 5 cfg3.N = dBr 0 (by omega) (V c main_arg0) (V c main_v1) := by
  refine (dat3 V c).arrAt_eq_of_covers 5 _ (by decide +kernel) fun t _ y => ?_
  blk_simp
  rw [after3_5]; unfold out3_5; frame_out
  pointwise [k3_pay5, k3_pay6, k3_pay7, dBr, gate, sg]
  blk_point [iblk3, idx3 t]

theorem final3_6 (c : Dev nD) : (dat3 V c).arrAt 6 cfg3.N = dBr 1 (by omega) (V c main_arg0) (V c main_v1) := by
  refine (dat3 V c).arrAt_eq_of_covers 6 _ (by decide +kernel) fun t _ y => ?_
  blk_simp
  rw [after3_6]; unfold out3_6; frame_out
  pointwise [k3_pay5, k3_pay9, k3_pay10, dBr, gate, sg]
  blk_point [iblk3, idx3 t]

theorem final3_7 (c : Dev nD) : (dat3 V c).arrAt 7 cfg3.N = dBr 2 (by omega) (V c main_arg0) (V c main_v1) := by
  refine (dat3 V c).arrAt_eq_of_covers 7 _ (by decide +kernel) fun t _ y => ?_
  blk_simp
  rw [after3_7]; unfold out3_7; frame_out
  pointwise [k3_pay2, k3_pay3, k3_pay5, k3_pay11, dBr, gate, sg]
  blk_point [iblk3, idx3 t]

theorem final3_8 (c : Dev nD) : (dat3 V c).arrAt 8 cfg3.N = dGate 0 (by omega) (V c main_arg0) (V c main_v1) (V c main_v0_1) := by
  refine (dat3 V c).arrAt_eq_of_covers 8 _ (by decide +kernel) fun t _ y => ?_
  blk_simp
  rw [after3_8]; unfold out3_8; frame_out
  pointwise [k3_pay5, k3_pay6, k3_pay8, dGate, gate, sg]
  blk_point [iblk3, idx3 t]

theorem final3_9 (c : Dev nD) : (dat3 V c).arrAt 9 cfg3.N = dGate 1 (by omega) (V c main_arg0) (V c main_v1) (V c main_v0_1) := by
  refine (dat3 V c).arrAt_eq_of_covers 9 _ (by decide +kernel) fun t _ y => ?_
  blk_simp
  rw [after3_9]; unfold out3_9; frame_out
  pointwise [k3_pay1, k3_pay5, k3_pay9, k3_pay11, dGate, gate, sg]
  blk_point [iblk3, idx3 t]

theorem final3_10 (c : Dev nD) : (dat3 V c).arrAt 10 cfg3.N = dGate 2 (by omega) (V c main_arg0) (V c main_v1) (V c main_v0_1) := by
  refine (dat3 V c).arrAt_eq_of_covers 10 _ (by decide +kernel) fun t _ y => ?_
  blk_simp
  rw [after3_10]; unfold out3_10; frame_out
  pointwise [k3_pay2, k3_pay4, k3_pay5, k3_pay11, dGate, gate, sg]
  blk_point [iblk3, idx3 t]

end Cert.KernelIdeal.Merge

end
-- ==== Proof.MergeStack.lean ====
module

public import proofs.«01_k».proof.Proof.Merge
public import Idealize.ShloMosaic.Lib.Pipeline.ValueKit

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

namespace Cert.KernelIdeal.Merge

open Cert.KernelIdeal Cert.KernelIdeal.Gen

variable (V : (c : Dev nD) → (b : Ref sig .tc) → Buf (Elt Ideal) ((c : Thread nD τ).loc b))

theorem final0_10 (c : Dev nD) : (dat0 V c).arrAt 10 cfg0.N = stack (proj (V c main_arg1) (V c main_arg4)) (proj (V c main_arg2) (V c main_arg5)) (proj (V c main_arg3) (V c main_arg6)) := by
  refine (dat0 V c).arrAt_eq_of_covers 10 _ (by decide +kernel) fun t _ y => ?_
  blk_simp
  rw [after0_10]; unfold out0_10; frame_out
  canon_tiles x h
  · have hx : (x 0 : Nat) = 0 := by omega
    have hy : y = (ix3 (2 : Fin 3) (x 1) (x 2) : S3x1024x512.Idx) := funext fun a => Fin.ext (by
      match a with
      | 0 => exact h0.trans (by rw [hx]; rfl)
      | 1 => exact h1
      | 2 => exact h2)
    clear h0 h1 h2
    subst hy
    have ht : t.val < 8 := t.isLt
    have hE : ((View.whole main_v0_1).slice (win0_10.rect t)).emb (ix3 (2 : Fin 3) (x 1) (x 2) : S3x1024x512.Idx)
        = (ix3 (2 : Fin 3) (⟨t.val / 2 * 1024 + (x 1).val, by omega⟩ : Fin 4096) (⟨t.val % 2 * 512 + (x 2).val, by omega⟩ : Fin 1024) : S3x4096x1024.Idx) := by
      blk_ext [idx0 t]
    erw [hE]
    pointwise [k0_pay1, k0_pay2, k0_pay4, k0_pay5, k0_pay7, k0_pay8, stack, proj]
    blk_point [iblk0, idx0 t]
  · have hx : (x 0 : Nat) = 0 := by omega
    have hy : y = (ix3 (1 : Fin 3) (x 1) (x 2) : S3x1024x512.Idx) := funext fun a => Fin.ext (by
      match a with
      | 0 => exact h0.trans (by rw [hx]; rfl)
      | 1 => exact h1
      | 2 => exact h2)
    clear h0 h1 h2
    subst hy
    have ht : t.val < 8 := t.isLt
    have hE : ((View.whole main_v0_1).slice (win0_10.rect t)).emb (ix3 (1 : Fin 3) (x 1) (x 2) : S3x1024x512.Idx)
        = (ix3 (1 : Fin 3) (⟨t.val / 2 * 1024 + (x 1).val, by omega⟩ : Fin 4096) (⟨t.val % 2 * 512 + (x 2).val, by omega⟩ : Fin 1024) : S3x4096x1024.Idx) := by
      blk_ext [idx0 t]
    erw [hE]
    pointwise [k0_pay1, k0_pay2, k0_pay4, k0_pay5, k0_pay7, k0_pay8, stack, proj]
    blk_point [iblk0, idx0 t]
  · have hx : (x 0 : Nat) = 0 := by omega
    have hy : y = (ix3 (0 : Fin 3) (x 1) (x 2) : S3x1024x512.Idx) := funext fun a => Fin.ext (by
      match a with
      | 0 => exact h0.trans (by rw [hx]; rfl)
      | 1 => exact h1
      | 2 => exact h2)
    clear h0 h1 h2
    subst hy
    have ht : t.val < 8 := t.isLt
    have hE : ((View.whole main_v0_1).slice (win0_10.rect t)).emb (ix3 (0 : Fin 3) (x 1) (x 2) : S3x1024x512.Idx)
        = (ix3 (0 : Fin 3) (⟨t.val / 2 * 1024 + (x 1).val, by omega⟩ : Fin 4096) (⟨t.val % 2 * 512 + (x 2).val, by omega⟩ : Fin 1024) : S3x4096x1024.Idx) := by
      blk_ext [idx0 t]
    erw [hE]
    pointwise [k0_pay1, k0_pay2, k0_pay4, k0_pay5, k0_pay7, k0_pay8, stack, proj]
    blk_point [iblk0, idx0 t]

end Cert.KernelIdeal.Merge

end
-- ==== Proof.MergeClaim.lean ====
module

public import proofs.«01_k».proof.Proof.MergeGate
public import proofs.«01_k».proof.Proof.MergeStack
public import proofs.«01_k».proof.Proof.Gen.ReferenceIdeal.Run
public import proofs.«01_k».proof.Defs
public import Idealize.ShloMosaic.Lib.Pipeline.ValueKit

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

namespace Cert.KernelIdeal.Merge

open Cert.KernelIdeal Cert.KernelIdeal.Gen

variable (m : (ℓ : Loc nD τ sig) → Buf (Elt Ideal) ℓ) (ρ : Dev nD → PrngReg)

/-- The projected branches of the arguments. -/
abbrev pr0 (c : Dev nD) := proj (m ((c : Thread nD τ).loc main_arg1)) (m ((c : Thread nD τ).loc main_arg4))
abbrev pr1 (c : Dev nD) := proj (m ((c : Thread nD τ).loc main_arg2)) (m ((c : Thread nD τ).loc main_arg5))
abbrev pr2 (c : Dev nD) := proj (m ((c : Thread nD τ).loc main_arg3)) (m ((c : Thread nD τ).loc main_arg6))
/-- The merged gradient of the arguments. -/
abbrev dm (c : Dev nD) := back (m ((c : Thread nD τ).loc main_arg8)) (m ((c : Thread nD τ).loc main_arg7))

theorem W1_merged (c : Dev nD) : W1 m ρ c (Proc.devRef .tc main_v0_0) = merged (m ((c : Thread nD τ).loc main_arg0)) (pr0 m c) (pr1 m c) (pr2 m c) :=
  (W1_arr m ρ c 9).trans (final0_9 (V0 m ρ) c)

theorem W1_stack (c : Dev nD) : W1 m ρ c (Proc.devRef .tc main_v0_1) = stack (pr0 m c) (pr1 m c) (pr2 m c) :=
  (W1_arr m ρ c 10).trans (final0_10 (V0 m ρ) c)

theorem W2_dm (c : Dev nD) : W2 m ρ c (Proc.devRef .tc main_v1) = dm m c := by
  refine (W2_arr m ρ c 2).trans ((final1 (V1 m ρ) c).trans ?_)
  rw [show V1 m ρ c main_arg8 = _ from W1_args m ρ c main_arg8 (by decide), show V1 m ρ c main_arg7 = _ from W1_args m ρ c main_arg7 (by decide)]

theorem W3_dOut (c : Dev nD) : W3 m ρ c (Proc.devRef .tc main_v2) = dOut (merged (m ((c : Thread nD τ).loc main_arg0)) (pr0 m c) (pr1 m c) (pr2 m c)) (m ((c : Thread nD τ).loc main_arg8)) := by
  refine (W3_arr m ρ c 2).trans ((final2 (V2 m ρ) c).trans ?_)
  rw [show V2 m ρ c main_arg8 = _ from W2_args m ρ c main_arg8 (by decide),
    show V2 m ρ c main_v0_0 = _ from (W2_of_ne m ρ c main_v0_0 (by decide)).trans (W1_merged m ρ c)]

theorem W7_dOut (c : Dev nD) : W7 m ρ c (Proc.devRef .tc main_v2) = dOut (merged (m ((c : Thread nD τ).loc main_arg0)) (pr0 m c) (pr1 m c) (pr2 m c)) (m ((c : Thread nD τ).loc main_arg8)) :=
  (W7_of_ne m ρ c main_v2 (by decide)).trans <| (W6_of_ne m ρ c main_v2 (by decide)).trans <| (W5_of_ne m ρ c main_v2 (by decide)).trans <|
    (W4_of_ne m ρ c main_v2 (by decide)).trans (W3_dOut m ρ c)

theorem V3_dm (c : Dev nD) : V3 m ρ c main_v1 = dm m c := (W3_of_ne m ρ c main_v1 (by decide)).trans (W2_dm m ρ c)
theorem V3_proj (c : Dev nD) : V3 m ρ c main_arg0 = (m ((c : Thread nD τ).loc main_arg0)) := W3_args m ρ c main_arg0 (by decide)
theorem V3_stack (c : Dev nD) : V3 m ρ c main_v0_1 = stack (pr0 m c) (pr1 m c) (pr2 m c) :=
  (W3_of_ne m ρ c main_v0_1 (by decide)).trans <| (W2_of_ne m ρ c main_v0_1 (by decide)).trans (W1_stack m ρ c)

theorem W4_5 (c : Dev nD) : W4 m ρ c (Proc.devRef .tc main_v3_0) = dBr 0 (by omega) (m ((c : Thread nD τ).loc main_arg0)) (dm m c) := by
  refine (W4_arr m ρ c 5).trans ((final3_5 (V3 m ρ) c).trans ?_)
  rw [V3_dm m ρ c, V3_proj m ρ c]

theorem W4_6 (c : Dev nD) : W4 m ρ c (Proc.devRef .tc main_v3_1) = dBr 1 (by omega) (m ((c : Thread nD τ).loc main_arg0)) (dm m c) := by
  refine (W4_arr m ρ c 6).trans ((final3_6 (V3 m ρ) c).trans ?_)
  rw [V3_dm m ρ c, V3_proj m ρ c]

theorem W4_7 (c : Dev nD) : W4 m ρ c (Proc.devRef .tc main_v3_2) = dBr 2 (by omega) (m ((c : Thread nD τ).loc main_arg0)) (dm m c) := by
  refine (W4_arr m ρ c 7).trans ((final3_7 (V3 m ρ) c).trans ?_)
  rw [V3_dm m ρ c, V3_proj m ρ c]

theorem W4_8 (c : Dev nD) : W4 m ρ c (Proc.devRef .tc main_v3_3) = dGate 0 (by omega) (m ((c : Thread nD τ).loc main_arg0)) (dm m c) (stack (pr0 m c) (pr1 m c) (pr2 m c)) := by
  refine (W4_arr m ρ c 8).trans ((final3_8 (V3 m ρ) c).trans ?_)
  rw [V3_dm m ρ c, V3_proj m ρ c, V3_stack m ρ c]

theorem W7_8 (c : Dev nD) : W7 m ρ c (Proc.devRef .tc main_v3_3) = dGate 0 (by omega) (m ((c : Thread nD τ).loc main_arg0)) (dm m c) (stack (pr0 m c) (pr1 m c) (pr2 m c)) :=
  (W7_of_ne m ρ c main_v3_3 (by decide)).trans <| (W6_of_ne m ρ c main_v3_3 (by decide)).trans <| (W5_of_ne m ρ c main_v3_3 (by decide)).trans (W4_8 m ρ c)

theorem W4_9 (c : Dev nD) : W4 m ρ c (Proc.devRef .tc main_v3_4) = dGate 1 (by omega) (m ((c : Thread nD τ).loc main_arg0)) (dm m c) (stack (pr0 m c) (pr1 m c) (pr2 m c)) := by
  refine (W4_arr m ρ c 9).trans ((final3_9 (V3 m ρ) c).trans ?_)
  rw [V3_dm m ρ c, V3_proj m ρ c, V3_stack m ρ c]

theorem W7_9 (c : Dev nD) : W7 m ρ c (Proc.devRef .tc main_v3_4) = dGate 1 (by omega) (m ((c : Thread nD τ).loc main_arg0)) (dm m c) (stack (pr0 m c) (pr1 m c) (pr2 m c)) :=
  (W7_of_ne m ρ c main_v3_4 (by decide)).trans <| (W6_of_ne m ρ c main_v3_4 (by decide)).trans <| (W5_of_ne m ρ c main_v3_4 (by decide)).trans (W4_9 m ρ c)

theorem W4_10 (c : Dev nD) : W4 m ρ c (Proc.devRef .tc main_v3_5) = dGate 2 (by omega) (m ((c : Thread nD τ).loc main_arg0)) (dm m c) (stack (pr0 m c) (pr1 m c) (pr2 m c)) := by
  refine (W4_arr m ρ c 10).trans ((final3_10 (V3 m ρ) c).trans ?_)
  rw [V3_dm m ρ c, V3_proj m ρ c, V3_stack m ρ c]

theorem W7_10 (c : Dev nD) : W7 m ρ c (Proc.devRef .tc main_v3_5) = dGate 2 (by omega) (m ((c : Thread nD τ).loc main_arg0)) (dm m c) (stack (pr0 m c) (pr1 m c) (pr2 m c)) :=
  (W7_of_ne m ρ c main_v3_5 (by decide)).trans <| (W6_of_ne m ρ c main_v3_5 (by decide)).trans <| (W5_of_ne m ρ c main_v3_5 (by decide)).trans (W4_10 m ρ c)

theorem W7_b0 (c : Dev nD) : W7 m ρ c (Proc.devRef .tc main_v4) = dBranch (dBr 0 (by omega) (m ((c : Thread nD τ).loc main_arg0)) (dm m c)) (m ((c : Thread nD τ).loc main_arg4)) := by
  refine (W7_of_ne m ρ c main_v4 (by decide)).trans <| (W6_of_ne m ρ c main_v4 (by decide)).trans <|  (W5_arr m ρ c 2).trans ((final4 (V4 m ρ) c).trans ?_)
  rw [show V4 m ρ c main_arg4 = _ from W4_args m ρ c main_arg4 (by decide), show V4 m ρ c main_v3_0 = _ from W4_5 m ρ c]

theorem W7_b1 (c : Dev nD) : W7 m ρ c (Proc.devRef .tc main_v5) = dBranch (dBr 1 (by omega) (m ((c : Thread nD τ).loc main_arg0)) (dm m c)) (m ((c : Thread nD τ).loc main_arg5)) := by
  refine (W7_of_ne m ρ c main_v5 (by decide)).trans <|  (W6_arr m ρ c 2).trans ((final5 (V5 m ρ) c).trans ?_)
  rw [show V5 m ρ c main_arg5 = _ from W5_args m ρ c main_arg5 (by decide), show V5 m ρ c main_v3_1 = _ from (W5_of_ne m ρ c main_v3_1 (by decide)).trans (W4_6 m ρ c)]

theorem W7_b2 (c : Dev nD) : W7 m ρ c (Proc.devRef .tc main_v6) = dBranch (dBr 2 (by omega) (m ((c : Thread nD τ).loc main_arg0)) (dm m c)) (m ((c : Thread nD τ).loc main_arg6)) := by
  refine  (W7_arr m ρ c 2).trans ((final6 (V6 m ρ) c).trans ?_)
  rw [show V6 m ρ c main_arg6 = _ from W6_args m ρ c main_arg6 (by decide), show V6 m ρ c main_v3_2 = _ from (W6_of_ne m ρ c main_v3_2 (by decide)).trans ((W5_of_ne m ρ c main_v3_2 (by decide)).trans (W4_7 m ρ c))]

theorem algebraic : Cert.algebraic_KernelIdeal_ReferenceIdeal := by
  intro m g m' g' _ hargs
  refine ⟨fun c => dGate 0 (by omega) (m ((c : Thread nD τ).loc main_arg0)) (dm m c) (stack (pr0 m c) (pr1 m c) (pr2 m c)),
    fun c => dGate 1 (by omega) (m ((c : Thread nD τ).loc main_arg0)) (dm m c) (stack (pr0 m c) (pr1 m c) (pr2 m c)),
    fun c => dGate 2 (by omega) (m ((c : Thread nD τ).loc main_arg0)) (dm m c) (stack (pr0 m c) (pr1 m c) (pr2 m c)),
    fun c => dBranch (dBr 0 (by omega) (m ((c : Thread nD τ).loc main_arg0)) (dm m c)) (m ((c : Thread nD τ).loc main_arg4)),
    fun c => dBranch (dBr 1 (by omega) (m ((c : Thread nD τ).loc main_arg0)) (dm m c)) (m ((c : Thread nD τ).loc main_arg5)),
    fun c => dBranch (dBr 2 (by omega) (m ((c : Thread nD τ).loc main_arg0)) (dm m c)) (m ((c : Thread nD τ).loc main_arg6)),
    fun c => dOut (merged (m ((c : Thread nD τ).loc main_arg0)) (pr0 m c) (pr1 m c) (pr2 m c)) (m ((c : Thread nD τ).loc main_arg8)), ?_, ?_⟩
  · refine (θ_run defs _ _).mono (fun r h c => ⟨?_, ?_, ?_, ?_, ?_, ?_, ?_, ?_, ?_, ?_, ?_, ?_, ?_, ?_, ?_, ?_⟩) (run_all m g)
    · exact (h.1 c _ (mem_uc main_v3_3 (by decide))).trans (W7_8 m g c)
    · exact (h.1 c _ (mem_uc main_v3_4 (by decide))).trans (W7_9 m g c)
    · exact (h.1 c _ (mem_uc main_v3_5 (by decide))).trans (W7_10 m g c)
    · exact (h.1 c _ (mem_uc main_v4 (by decide))).trans (W7_b0 m g c)
    · exact (h.1 c _ (mem_uc main_v5 (by decide))).trans (W7_b1 m g c)
    · exact (h.1 c _ (mem_uc main_v6 (by decide))).trans (W7_b2 m g c)
    · exact (h.1 c _ (mem_uc main_v2 (by decide))).trans (W7_dOut m g c)
    · exact (h.1 c _ (mem_uc main_arg0 (by decide))).trans (W7_main_arg0 m g c)
    · exact (h.1 c _ (mem_uc main_arg1 (by decide))).trans (W7_main_arg1 m g c)
    · exact (h.1 c _ (mem_uc main_arg2 (by decide))).trans (W7_main_arg2 m g c)
    · exact (h.1 c _ (mem_uc main_arg3 (by decide))).trans (W7_main_arg3 m g c)
    · exact (h.1 c _ (mem_uc main_arg4 (by decide))).trans (W7_main_arg4 m g c)
    · exact (h.1 c _ (mem_uc main_arg5 (by decide))).trans (W7_main_arg5 m g c)
    · exact (h.1 c _ (mem_uc main_arg6 (by decide))).trans (W7_main_arg6 m g c)
    · exact (h.1 c _ (mem_uc main_arg7 (by decide))).trans (W7_main_arg7 m g c)
    · exact (h.1 c _ (mem_uc main_arg8 (by decide))).trans (W7_main_arg8 m g c)
  · refine (θ_run ReferenceIdeal.defs _ _).mono (fun r h c => ?_) (Cert.ReferenceIdeal.Value.run m' g')
    obtain ⟨h0, h1, h2, h3, h4, h5, h6, ha⟩ := h c
    obtain ⟨e0, e1, e2, e3, e4, e5, e6, e7, e8⟩ := hargs c
    refine ⟨h0.trans ?_, h1.trans ?_, h2.trans ?_, h3.trans ?_, h4.trans ?_, h5.trans ?_, h6.trans ?_, ha⟩ <;> clear h h0 h1 h2 h3 h4 h5 h6 ha
    · rw [e0, e1, e4, e7, e8]; clear e0 e1 e2 e3 e4 e5 e6 e7 e8
      funext i
      pointwise [dGate, stack, gate, sg, dm, back, pr0, proj]
      simp only [zero_sub, ← Nat.add_assoc, Nat.reduceAdd]
    · rw [e0, e2, e5, e7, e8]; clear e0 e1 e2 e3 e4 e5 e6 e7 e8
      funext i
      pointwise [dGate, stack, gate, sg, dm, back, pr1, proj]
      simp only [zero_sub, ← Nat.add_assoc, Nat.reduceAdd]
    · rw [e0, e3, e6, e7, e8]; clear e0 e1 e2 e3 e4 e5 e6 e7 e8
      funext i
      pointwise [dGate, stack, gate, sg, dm, back, pr2, proj]
      simp only [zero_sub, ← Nat.add_assoc, Nat.reduceAdd]
    · rw [e0, e4, e7, e8]; clear e0 e1 e2 e3 e4 e5 e6 e7 e8
      funext i
      pointwise [dBranch, dBr, gate, sg, dm, back]
      simp only [zero_sub, ← Nat.add_assoc, Nat.reduceAdd]
      exact Finset.sum_congr rfl fun k _ => congrArg (· * _) (mul_comm _ _)
    · rw [e0, e5, e7, e8]; clear e0 e1 e2 e3 e4 e5 e6 e7 e8
      funext i
      pointwise [dBranch, dBr, gate, sg, dm, back]
      simp only [zero_sub, ← Nat.add_assoc, Nat.reduceAdd]
      exact Finset.sum_congr rfl fun k _ => congrArg (· * _) (mul_comm _ _)
    · rw [e0, e6, e7, e8]; clear e0 e1 e2 e3 e4 e5 e6 e7 e8
      funext i
      pointwise [dBranch, dBr, gate, sg, dm, back]
      simp only [zero_sub, ← Nat.add_assoc, Nat.reduceAdd]
      exact Finset.sum_congr rfl fun k _ => congrArg (· * _) (mul_comm _ _)
    · rw [e0, e1, e2, e3, e4, e5, e6, e8]; clear e0 e1 e2 e3 e4 e5 e6 e7 e8
      funext i
      pointwise [dOut, merged, gate, sg, pr0, pr1, pr2, proj]
      simp only [zero_sub, ← Nat.add_assoc, Nat.reduceAdd]
      exact Finset.sum_congr rfl fun k _ => mul_comm _ _

end Cert.KernelIdeal.Merge

end
-- ==== Proof.Mlp.lean ====
module

public import proofs.«01_k».proof.Proof.Gen.Kernel2Ideal.Frame
public import Idealize.ShloMosaic.Lib.Pipeline.ValueKit

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

namespace Cert.Kernel2Ideal.Mlp

open Cert.Kernel2Ideal Cert.Kernel2Ideal.Gen

variable (V : (c : Dev nD) → (b : Ref sig .tc) → Buf (Elt Ideal) ((c : Thread nD τ).loc b))

/-- The activation: the squared positive part of the up product. -/
def up (x : FVec Ideal S4096x1024 .f32) (w : FVec Ideal S1024x4096 .f32) : FVec Ideal S4096x4096 .bf16 :=
  fun i => max (∑ k : Fin 1024, x (ix2 (i 0) k) * w (ix2 k (i 1))) 0 * max (∑ k : Fin 1024, x (ix2 (i 0) k) * w (ix2 k (i 1))) 0

/-- The down weight's gradient. -/
def dDown (a : FVec Ideal S4096x4096 .bf16) (d : FVec Ideal S4096x1024 .f32) : FVec Ideal S4096x1024 .f32 :=
  fun i => ∑ k : Fin 4096, a (ix2 k (i 0)) * d (ix2 k (i 1))

theorem idx0 : ∀ t : Fin cfg0.N, win0_0.index t = ![t.val, 0] ∧ win0_1.index t = ![0, 0] ∧ win0_2.index t = ![t.val, 0] :=
  (by decide +kernel : ∀ t : Fin grid0.N, _)

theorem final0 (c : Dev nD) : (dat0 V c).arrAt 2 cfg0.N = up (V c main_arg0) (V c main_arg1) := by
  refine (dat0 V c).arrAt_eq_of_covers 2 _ (by decide +kernel) fun t _ y => ?_
  blk_simp
  rw [after0_2]; unfold outsAt0; frame_out
  pointwise [k0_pay1, up]
  blk_point [iblk0, idx0 t]

theorem idx2 : ∀ t : Fin cfg2.N, win2_0.index t = ![0, t.val] ∧ win2_1.index t = ![0, 0] ∧ win2_2.index t = ![t.val, 0] :=
  (by decide +kernel : ∀ t : Fin grid2.N, _)

theorem final2 (c : Dev nD) : (dat2 V c).arrAt 2 cfg2.N = dDown (V c main_v0) (V c main_arg3) := by
  refine (dat2 V c).arrAt_eq_of_covers 2 _ (by decide +kernel) fun t _ y => ?_
  blk_simp
  rw [after2_2]; unfold outsAt2; frame_out
  pointwise [k2_pay1, dDown]
  blk_point [iblk2, idx2 t]

theorem idx1 : ∀ t : Fin cfg1.N, win1_0.index t = ![t.val / 2, 0] ∧ win1_1.index t = ![t.val % 2, 0]
    ∧ win1_2.index t = ![t.val / 2, t.val % 2] ∧ win1_3.index t = ![t.val / 2, t.val % 2] :=
  (by decide +kernel : ∀ t : Fin grid1.N, _)

/-- The hidden gradient: the product back through the down weight times the slope of the squared positive part. -/
def dHid (d : FVec Ideal S4096x1024 .f32) (w : FVec Ideal S4096x1024 .f32) (a : FVec Ideal S4096x4096 .bf16) : FVec Ideal S4096x4096 .bf16 :=
  fun i => (∑ k : Fin 1024, d (ix2 (i 0) k) * w (ix2 (i 1) k)) * (Ideal.ofBits FTy.f32 1073741824#32 * Ideal.sqrt (a i))

theorem final1 (c : Dev nD) : (dat1 V c).arrAt 3 cfg1.N = dHid (V c main_arg3) (V c main_arg2) (V c main_v0) := by
  refine (dat1 V c).arrAt_eq_of_covers 3 _ (by decide +kernel) fun t _ y => ?_
  blk_simp
  rw [after1_3]; unfold outsAt1; frame_out
  pointwise [k1_pay1, dHid]
  blk_point [iblk1, idx1 t]

theorem idx3 : ∀ t : Fin cfg3.N, win3_0.index t = ![0, 0] ∧ win3_1.index t = ![0, t.val] ∧ win3_2.index t = ![0, t.val] :=
  (by decide +kernel : ∀ t : Fin grid3.N, _)

/-- The up weight's gradient, the hidden gradient given. -/
def dUp (x : FVec Ideal S4096x1024 .f32) (h : FVec Ideal S4096x4096 .bf16) : FVec Ideal S1024x4096 .f32 :=
  fun i => ∑ k : Fin 4096, x (ix2 k (i 0)) * h (ix2 k (i 1))

theorem final3 (c : Dev nD) : (dat3 V c).arrAt 2 cfg3.N = dUp (V c main_arg0) (V c main_v1) := by
  refine (dat3 V c).arrAt_eq_of_covers 2 _ (by decide +kernel) fun t _ y => ?_
  blk_simp
  rw [after3_2]; unfold outsAt3; frame_out
  pointwise [k3_pay1, dUp]
  blk_point [iblk3, idx3 t]

theorem idx4 : ∀ t : Fin cfg4.N, win4_0.index t = ![t.val, 0] ∧ win4_1.index t = ![0, 0] ∧ win4_2.index t = ![t.val, 0] ∧ win4_3.index t = ![t.val, 0] :=
  (by decide +kernel : ∀ t : Fin grid4.N, _)

/-- The input's gradient, through the residual and through the hidden layer. -/
def dX (h : FVec Ideal S4096x4096 .bf16) (w : FVec Ideal S1024x4096 .f32) (d : FVec Ideal S4096x1024 .f32) : FVec Ideal S4096x1024 .f32 :=
  fun i => (∑ k : Fin 4096, h (ix2 (i 0) k) * w (ix2 (i 1) k)) + Ideal.ofBits FTy.f32 1068827891#32 * d i

theorem final4 (c : Dev nD) : (dat4 V c).arrAt 3 cfg4.N = dX (V c main_v1) (V c main_arg1) (V c main_arg3) := by
  refine (dat4 V c).arrAt_eq_of_covers 3 _ (by decide +kernel) fun t _ y => ?_
  blk_simp
  rw [after4_3]; unfold outsAt4; frame_out
  pointwise [k4_pay1, dX]
  blk_point [iblk4, idx4 t]

/-- The root of a square of a positive part is the positive part. -/
theorem sqrt_sq (h : EReal) : Ideal.sqrt (max h 0 * max h 0) = max h 0 := by
  induction h with
  | bot =>
    rw [max_eq_right bot_le, mul_zero, ← EReal.coe_zero, Ideal.sqrt_coe, if_neg (lt_irrefl _), Real.sqrt_zero]
  | top => rw [max_eq_left le_top, EReal.top_mul_top]; rfl
  | coe r =>
    rw [show max (r : EReal) 0 = ((max r 0 : ℝ) : EReal) from (EReal.coe_strictMono.monotone.map_max (a := r) (b := 0)).symm, ← EReal.coe_mul, Ideal.sqrt_coe,
      if_neg (not_lt.mpr (mul_self_nonneg _)), Real.sqrt_mul_self (le_max_right _ _)]

/-- The slope read off the squared activation is the slope of the squared positive part where the argument is positive, and zero elsewhere. -/
theorem slope (g h : EReal) (c : EReal) : g * (c * Ideal.sqrt (max h 0 * max h 0)) = if 0 < h then g * (c * max h 0) else 0 := by
  rw [sqrt_sq]
  split
  · rfl
  · rw [max_eq_right (not_lt.mp ‹_›), mul_zero, mul_zero]

variable (m : (ℓ : Loc nD τ sig) → Buf (Elt Ideal) ℓ) (ρ : Dev nD → PrngReg)

set_option backward.isDefEq.respectTransparency.types false in
/-- The run of the whole program at any `F`: every unscoped buffer ends at the last boundary's contents. -/
theorem run_all {F : FTy → Type} [FloatOps F] (m : (ℓ : Loc nD τ sig) → Buf (Elt F) ℓ) (ρ : Dev nD → PrngReg) :
    θ_run defs (onTc (τ := τ) (main (F := F))) ⟨m, fun _ => 0, ρ⟩ (fun r =>
      (∀ c : Dev nD, ∀ b ∈ Pipeline.ucRefs τ sig, r.2.mem (c, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => BI.emp) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

end Cert.Kernel2Ideal.Mlp

end
-- ==== Proof.MlpClaim.lean ====
module

public import proofs.«01_k».proof.Proof.Mlp
public import proofs.«01_k».proof.Proof.Gen.Reference2Ideal.Run
public import proofs.«01_k».proof.Defs

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

namespace Cert.Kernel2Ideal.Mlp

open Cert.Kernel2Ideal Cert.Kernel2Ideal.Gen

variable (m : (ℓ : Loc nD τ sig) → Buf (Elt Ideal) ℓ) (ρ : Dev nD → PrngReg)

/-- The activation after the first call. -/
theorem W1_act (c : Dev nD) : W1 m ρ c (Proc.devRef .tc main_v0) = up (m ((c : Thread nD τ).loc main_arg0)) (m ((c : Thread nD τ).loc main_arg1)) :=
  (W1_arr m ρ c 2).trans (final0 (V0 m ρ) c)

theorem W2_hid (c : Dev nD) : W2 m ρ c (Proc.devRef .tc main_v1)
    = dHid (m ((c : Thread nD τ).loc main_arg3)) (m ((c : Thread nD τ).loc main_arg2)) (up (m ((c : Thread nD τ).loc main_arg0)) (m ((c : Thread nD τ).loc main_arg1))) := by
  refine (W2_arr m ρ c 3).trans ((final1 (V1 m ρ) c).trans ?_)
  rw [show V1 m ρ c main_arg3 = _ from W1_args m ρ c main_arg3 (by decide), show V1 m ρ c main_arg2 = _ from W1_args m ρ c main_arg2 (by decide),
    show V1 m ρ c main_v0 = _ from W1_act m ρ c]

theorem W5_dDown (c : Dev nD) : W5 m ρ c (Proc.devRef .tc main_v2)
    = dDown (up (m ((c : Thread nD τ).loc main_arg0)) (m ((c : Thread nD τ).loc main_arg1))) (m ((c : Thread nD τ).loc main_arg3)) := by
  refine (W5_of_ne m ρ c main_v2 (by decide)).trans ((W4_of_ne m ρ c main_v2 (by decide)).trans ((W3_arr m ρ c 2).trans ((final2 (V2 m ρ) c).trans ?_)))
  rw [show V2 m ρ c main_arg3 = _ from W2_args m ρ c main_arg3 (by decide),
    show V2 m ρ c main_v0 = _ from (W2_of m ρ c main_v0 (by decide)).trans (W1_act m ρ c)]

/-- The hidden gradient of the arguments. -/
abbrev hid (c : Dev nD) : FVec Ideal S4096x4096 .bf16 :=
  dHid (m ((c : Thread nD τ).loc main_arg3)) (m ((c : Thread nD τ).loc main_arg2)) (up (m ((c : Thread nD τ).loc main_arg0)) (m ((c : Thread nD τ).loc main_arg1)))

theorem W3_hid (c : Dev nD) : W3 m ρ c (Proc.devRef .tc main_v1) = hid m c :=
  (W3_of_ne m ρ c main_v1 (by decide)).trans (W2_hid m ρ c)

theorem W5_dUp (c : Dev nD) : W5 m ρ c (Proc.devRef .tc main_v3) = dUp (m ((c : Thread nD τ).loc main_arg0)) (hid m c) := by
  refine (W5_of_ne m ρ c main_v3 (by decide)).trans ((W4_arr m ρ c 2).trans ((final3 (V3 m ρ) c).trans ?_))
  rw [show V3 m ρ c main_arg0 = _ from W3_args m ρ c main_arg0 (by decide), show V3 m ρ c main_v1 = _ from W3_hid m ρ c]

theorem W5_dX (c : Dev nD) : W5 m ρ c (Proc.devRef .tc main_v4) = dX (hid m c) (m ((c : Thread nD τ).loc main_arg1)) (m ((c : Thread nD τ).loc main_arg3)) := by
  refine (W5_arr m ρ c 3).trans ((final4 (V4 m ρ) c).trans ?_)
  rw [show V4 m ρ c main_v1 = _ from (W4_of m ρ c main_v1 (by decide)).trans (W3_hid m ρ c), show V4 m ρ c main_arg1 = _ from W4_args m ρ c main_arg1 (by decide),
    show V4 m ρ c main_arg3 = _ from W4_args m ρ c main_arg3 (by decide)]

open Idealize.ShloMosaic.StableHlo in
theorem ref_hid (x : FVec Ideal S4096x1024 .f32) (wu : FVec Ideal S1024x4096 .f32) (wd d : FVec Ideal S4096x1024 .f32) :
    select (cmpf .ogt (Host.dotGeneral Reference2Ideal.dot_S4096x1024_S1024x4096_S4096x4096_1_0_0_1_n_n none x wu) (broadcastInDim S4096x4096 ![] Reference2Ideal.Gen.bcast_S_S4096x4096 (constant Reference2Ideal.S_ .f32 0x00000000#32))) (mulf (Host.dotGeneral Reference2Ideal.dot_S4096x1024_S4096x1024_S4096x4096_1_1_0_0_n_n none (shapeCast _ d Reference2Ideal.Gen.shapeCasts_S4096x1024_S4096x1024) wd) (mulf (broadcastInDim S4096x4096 ![] Reference2Ideal.Gen.bcast_S_S4096x4096 (constant Reference2Ideal.S_ .f32 0x40000000#32)) (maximumf (Host.dotGeneral Reference2Ideal.dot_S4096x1024_S1024x4096_S4096x4096_1_0_0_1_n_n none x wu) (broadcastInDim S4096x4096 ![] Reference2Ideal.Gen.bcast_S_S4096x4096 (constant Reference2Ideal.S_ .f32 0x00000000#32))))) (broadcastInDim S4096x4096 ![] Reference2Ideal.Gen.bcast_S_S4096x4096 (constant Reference2Ideal.S_ .f32 0x00000000#32))
      = (dHid d wd (up x wu) : FVec Ideal S4096x4096 .f32) := by
  funext i
  pointwise [dHid, up]
  rw [slope]

theorem algebraic : Cert.algebraic_Kernel2Ideal_Reference2Ideal := by
  intro m g m' g' _ hargs
  refine ⟨fun c => dX (hid m c) (m ((c : Thread nD τ).loc main_arg1)) (m ((c : Thread nD τ).loc main_arg3)),
    fun c => dUp (m ((c : Thread nD τ).loc main_arg0)) (hid m c),
    fun c => dDown (up (m ((c : Thread nD τ).loc main_arg0)) (m ((c : Thread nD τ).loc main_arg1))) (m ((c : Thread nD τ).loc main_arg3)), ?_, ?_⟩
  · refine (θ_run defs _ _).mono (fun r h c => ⟨?_, ?_, ?_, ?_, ?_, ?_, ?_⟩) (run_all m g)
    · exact (h.1 c _ (mem_uc main_v4 (by decide))).trans (W5_dX m g c)
    · exact (h.1 c _ (mem_uc main_v3 (by decide))).trans (W5_dUp m g c)
    · exact (h.1 c _ (mem_uc main_v2 (by decide))).trans (W5_dDown m g c)
    · exact (h.1 c _ (mem_uc main_arg0 (by decide))).trans (W5_main_arg0 m g c)
    · exact (h.1 c _ (mem_uc main_arg1 (by decide))).trans (W5_main_arg1 m g c)
    · exact (h.1 c _ (mem_uc main_arg2 (by decide))).trans (W5_main_arg2 m g c)
    · exact (h.1 c _ (mem_uc main_arg3 (by decide))).trans (W5_main_arg3 m g c)
  · refine (θ_run Reference2Ideal.defs _ _).mono (fun r h c => ?_) (Cert.Reference2Ideal.Value.run m' g')
    obtain ⟨h0, h1, h2, ha⟩ := h c
    obtain ⟨e0, e1, e2, e3⟩ := hargs c
    refine ⟨h0.trans ?_, h1.trans ?_, h2.trans ?_, ha⟩
    · rw [e0, e1, e2, e3]; erw [ref_hid]
      funext i
      pointwise [dX, hid]
      exact add_comm _ _
    · rw [e0, e1, e2, e3]; erw [ref_hid]
      funext i
      pointwise [dUp, hid]
      exact Finset.sum_congr rfl fun k _ => mul_comm _ _
    · rw [e0, e1, e3]
      funext i
      pointwise [dDown, up]
      exact Finset.sum_congr rfl fun k _ => mul_comm _ _

end Cert.Kernel2Ideal.Mlp

end
-- ==== Proof.BranchWeight.lean ====
module

public import proofs.«01_k».proof.Proof.Gen.Kernel3Ideal.Value
public import proofs.«01_k».proof.Proof.Gen.Reference3Ideal.Run
public import proofs.«01_k».proof.Defs
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

namespace Cert.Kernel3Ideal.BranchWeight

open Cert.Kernel3Ideal Cert.Kernel3Ideal.Gen Cert.Kernel3Ideal.Value

variable (m : (ℓ : Loc nD τ sig) → Buf (Elt Ideal) ℓ) (ρ : Dev nD → PrngReg)

/-- The branch weight's gradient: the branch against the gradient of its product, over all the tokens. -/
def dw (x : FVec Ideal S4096x512 .f32) (d : FVec Ideal S4096x1024 .bf16) : FVec Ideal S512x1024 .f32 :=
  fun i => ∑ k : Fin 4096, x (ix2 k (i 0)) * d (ix2 k (i 1))

theorem idx : ∀ t : Fin cfg0.N, win0_0.index t = ![t.val, 0] ∧ win0_1.index t = ![t.val, 0] ∧ win0_2.index t = ![0, 0] :=
  (by decide +kernel : ∀ t : Fin grid0.N, _)

/-- A sum over all the tokens is the sum over the first half plus the sum over the second. -/
theorem halves (f : Fin 4096 → EReal) :
    (∑ k : Fin 2048, f ⟨k.val, by omega⟩) + (∑ k : Fin 2048, f ⟨2048 + k.val, by omega⟩) = ∑ k : Fin 4096, f k :=
  (Fin.sum_univ_add (a := 2048) (b := 2048) f).symm

theorem stAt0_at (c : Dev nD) (n : Nat) (h : n < cfg0.N) (t : Fin cfg0.N) (e : t.val = n) (s) : stAt0 m c n h s = stAt0 m c t.val t.isLt s := by
  subst e; rfl

theorem final (c : Dev nD) : G2 m c = dw (m ((c : Thread nD τ).loc main_arg0)) (m ((c : Thread nD τ).loc main_arg1)) := by
  rw [G2_last]
  obtain ⟨t0, e0⟩ : ∃ t : Fin cfg0.N, t.val = 0 := ⟨⟨0, lt_of_lt_of_eq (by decide) N_0.symm⟩, rfl⟩
  obtain ⟨t1, e1⟩ : ∃ t : Fin cfg0.N, t.val = 1 := ⟨⟨1, lt_of_lt_of_eq (by decide) N_0.symm⟩, rfl⟩
  have hA := (stAt0_at m c 0 (lt_of_lt_of_eq (by decide) N_0.symm) t0 e0 junk0).trans (stAt0_A m c t0 junk0 (by omega) (by omega))
  have hB := (stAt0_at m c 1 (lt_of_lt_of_eq (by decide) N_0.symm) t1 e1 (stAt0 m c 0 (lt_of_lt_of_eq (by decide) N_0.symm) junk0)).trans (stAt0_B m c t1 _ (by omega) (by omega))
  refine (congrArg Prod.fst hB).trans ?_
  rw [hA]
  dsimp only
  clear hA hB
  funext i
  frame_out
  simp only [read_unread_whole]
  pointwise [k0_pay1, k0_pay2, k0_pay4, dw]
  rw [← halves]
  blk_point [iblk, V, idx t0, idx t1, e0, e1]

theorem algebraic : Cert.algebraic_Kernel3Ideal_Reference3Ideal := by
  intro m g m' g' _ hargs
  refine ⟨fun c => dw (m ((c : Thread nD τ).loc main_arg0)) (m ((c : Thread nD τ).loc main_arg1)), ?_, ?_⟩
  · refine (θ_run defs _ _).mono (fun r h c => ?_) (Value.run m g)
    exact ⟨(h c).1.trans (final m c), (h c).2⟩
  · refine (θ_run Reference3Ideal.defs _ _).mono (fun r h c => ?_) (Cert.Reference3Ideal.Value.run m' g')
    obtain ⟨h0, ha⟩ := h c
    obtain ⟨e0, e1⟩ := hargs c
    refine ⟨h0.trans ?_, ha⟩
    rw [e0, e1]
    clear h0 ha e0 e1
    funext i
    pointwise [dw]
    exact Finset.sum_congr rfl fun k _ => mul_comm _ _

end Cert.Kernel3Ideal.BranchWeight

end
-- ==== Proof.DIn.lean ====
module

public import proofs.«01_k».proof.Proof.Gen.Kernel4Ideal.Value
public import proofs.«01_k».proof.Proof.Gen.Reference4Ideal.Run
public import proofs.«01_k».proof.Defs
public import Idealize.ShloMosaic.Lib.Pipeline.ValueKit

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

namespace Cert.Kernel4Ideal.DIn

open Cert.Kernel4Ideal Cert.Kernel4Ideal.Gen Cert.Kernel4Ideal.Value

variable (m : (ℓ : Loc nD τ sig) → Buf (Elt Ideal) ℓ) (ρ : Dev nD → PrngReg)

/-- The gradient of the projection: its eight parts side by side. -/
def parts (d0 : FVec Ideal S4096x2048 .bf16) (d1 : FVec Ideal S4096x512 .bf16) (d2 : FVec Ideal S4096x512 .bf16) (d3 : FVec Ideal S4096x512 .bf16) (d4 : FVec Ideal S4096x1024 .bf16) (d5 : FVec Ideal S4096x1024 .bf16) (d6 : FVec Ideal S4096x1024 .bf16) (d7 : FVec Ideal S4096x1024 .bf16) (k : Fin 4096) (n : Fin 7680) : EReal :=
  if h : n.val < 2048 then d0 (ix2 k ⟨n.val, h⟩)
  else if h : n.val - 2048 < 512 then d1 (ix2 k ⟨n.val - 2048, h⟩)
  else if h : n.val - 2048 - 512 < 512 then d2 (ix2 k ⟨n.val - 2048 - 512, h⟩)
  else if h : n.val - 2048 - 512 - 512 < 512 then d3 (ix2 k ⟨n.val - 2048 - 512 - 512, h⟩)
  else if h : n.val - 2048 - 512 - 512 - 512 < 1024 then d4 (ix2 k ⟨n.val - 2048 - 512 - 512 - 512, h⟩)
  else if h : n.val - 2048 - 512 - 512 - 512 - 1024 < 1024 then d5 (ix2 k ⟨n.val - 2048 - 512 - 512 - 512 - 1024, h⟩)
  else if h : n.val - 2048 - 512 - 512 - 512 - 1024 - 1024 < 1024 then d6 (ix2 k ⟨n.val - 2048 - 512 - 512 - 512 - 1024 - 1024, h⟩)
  else d7 (ix2 k ⟨n.val - 2048 - 512 - 512 - 512 - 1024 - 1024 - 1024, by omega⟩)

/-- The product back through the input weight, strip by strip. -/
def back (w : FVec Ideal S1024x7680 .f32) (d0 : FVec Ideal S4096x2048 .bf16) (d1 : FVec Ideal S4096x512 .bf16) (d2 : FVec Ideal S4096x512 .bf16) (d3 : FVec Ideal S4096x512 .bf16) (d4 : FVec Ideal S4096x1024 .bf16) (d5 : FVec Ideal S4096x1024 .bf16) (d6 : FVec Ideal S4096x1024 .bf16) (d7 : FVec Ideal S4096x1024 .bf16) (r : Fin 4096) (j : Fin 1024) : EReal :=
  ((((((((((((∑ k : Fin 2048, d0 (ix2 r ⟨0 + k.val, by omega⟩) * w (ix2 j ⟨0 + k.val, by omega⟩)) + (∑ k : Fin 512, d1 (ix2 r ⟨0 + k.val, by omega⟩) * w (ix2 j ⟨2048 + k.val, by omega⟩))) + (∑ k : Fin 512, d2 (ix2 r ⟨0 + k.val, by omega⟩) * w (ix2 j ⟨2560 + k.val, by omega⟩))) + (∑ k : Fin 512, d3 (ix2 r ⟨0 + k.val, by omega⟩) * w (ix2 j ⟨3072 + k.val, by omega⟩))) + (∑ k : Fin 512, d4 (ix2 r ⟨0 + k.val, by omega⟩) * w (ix2 j ⟨3584 + k.val, by omega⟩))) + (∑ k : Fin 512, d4 (ix2 r ⟨512 + k.val, by omega⟩) * w (ix2 j ⟨4096 + k.val, by omega⟩))) + (∑ k : Fin 512, d5 (ix2 r ⟨0 + k.val, by omega⟩) * w (ix2 j ⟨4608 + k.val, by omega⟩))) + (∑ k : Fin 512, d5 (ix2 r ⟨512 + k.val, by omega⟩) * w (ix2 j ⟨5120 + k.val, by omega⟩))) + (∑ k : Fin 512, d6 (ix2 r ⟨0 + k.val, by omega⟩) * w (ix2 j ⟨5632 + k.val, by omega⟩))) + (∑ k : Fin 512, d6 (ix2 r ⟨512 + k.val, by omega⟩) * w (ix2 j ⟨6144 + k.val, by omega⟩))) + (∑ k : Fin 512, d7 (ix2 r ⟨0 + k.val, by omega⟩) * w (ix2 j ⟨6656 + k.val, by omega⟩))) + (∑ k : Fin 512, d7 (ix2 r ⟨512 + k.val, by omega⟩) * w (ix2 j ⟨7168 + k.val, by omega⟩)))

/-- The input's gradient: the product back through the input weight plus the scaled residual gradient. -/
def dx (w : FVec Ideal S1024x7680 .f32) (d0 : FVec Ideal S4096x2048 .bf16) (d1 : FVec Ideal S4096x512 .bf16) (d2 : FVec Ideal S4096x512 .bf16) (d3 : FVec Ideal S4096x512 .bf16) (d4 : FVec Ideal S4096x1024 .bf16) (d5 : FVec Ideal S4096x1024 .bf16) (d6 : FVec Ideal S4096x1024 .bf16) (d7 : FVec Ideal S4096x1024 .bf16) (r : FVec Ideal S4096x1024 .f32) : FVec Ideal S4096x1024 .f32 :=
  fun i => back w d0 d1 d2 d3 d4 d5 d6 d7 (i 0) (i 1) + Ideal.ofBits FTy.f32 1068827891#32 * r i

theorem halves (a b n : Nat) (h : a + b = n) (f : Fin n → EReal) :
    ∑ k : Fin n, f k = (∑ k : Fin a, f ⟨k.val, by omega⟩) + ∑ k : Fin b, f ⟨a + k.val, by omega⟩ := by
  subst h
  exact Fin.sum_univ_add f

/-- A sum over the projection's columns, strip by strip. -/
theorem strips (f : Fin 7680 → EReal) : ∑ k : Fin 7680, f k = ((((((((((((∑ k : Fin 2048, f ⟨0 + k.val, by omega⟩) + (∑ k : Fin 512, f ⟨2048 + k.val, by omega⟩)) + (∑ k : Fin 512, f ⟨2560 + k.val, by omega⟩)) + (∑ k : Fin 512, f ⟨3072 + k.val, by omega⟩)) + (∑ k : Fin 512, f ⟨3584 + k.val, by omega⟩)) + (∑ k : Fin 512, f ⟨4096 + k.val, by omega⟩)) + (∑ k : Fin 512, f ⟨4608 + k.val, by omega⟩)) + (∑ k : Fin 512, f ⟨5120 + k.val, by omega⟩)) + (∑ k : Fin 512, f ⟨5632 + k.val, by omega⟩)) + (∑ k : Fin 512, f ⟨6144 + k.val, by omega⟩)) + (∑ k : Fin 512, f ⟨6656 + k.val, by omega⟩)) + (∑ k : Fin 512, f ⟨7168 + k.val, by omega⟩)) := by
  rw [halves 7168 512 7680 rfl, halves 6656 512 7168 rfl, halves 6144 512 6656 rfl, halves 5632 512 6144 rfl, halves 5120 512 5632 rfl, halves 4608 512 5120 rfl, halves 4096 512 4608 rfl, halves 3584 512 4096 rfl, halves 3072 512 3584 rfl, halves 2560 512 3072 rfl, halves 2048 512 2560 rfl]
  simp only [Nat.zero_add]

theorem parts_0 (d0 : FVec Ideal S4096x2048 .bf16) (d1 : FVec Ideal S4096x512 .bf16) (d2 : FVec Ideal S4096x512 .bf16) (d3 : FVec Ideal S4096x512 .bf16) (d4 : FVec Ideal S4096x1024 .bf16) (d5 : FVec Ideal S4096x1024 .bf16) (d6 : FVec Ideal S4096x1024 .bf16) (d7 : FVec Ideal S4096x1024 .bf16) (k : Fin 4096) (n : Fin 7680) (q : Fin 2048) (h : n.val = 0 + q.val) : parts d0 d1 d2 d3 d4 d5 d6 d7 k n = d0 (ix2 k q) := by
  have hq := q.isLt
  unfold parts
  rw [dif_pos (by omega : n.val < 2048)]
  exact congrArg (fun z => d0 (ix2 k z)) (Fin.ext (by dsimp only; omega))
theorem parts_1 (d0 : FVec Ideal S4096x2048 .bf16) (d1 : FVec Ideal S4096x512 .bf16) (d2 : FVec Ideal S4096x512 .bf16) (d3 : FVec Ideal S4096x512 .bf16) (d4 : FVec Ideal S4096x1024 .bf16) (d5 : FVec Ideal S4096x1024 .bf16) (d6 : FVec Ideal S4096x1024 .bf16) (d7 : FVec Ideal S4096x1024 .bf16) (k : Fin 4096) (n : Fin 7680) (q : Fin 512) (h : n.val = 2048 + q.val) : parts d0 d1 d2 d3 d4 d5 d6 d7 k n = d1 (ix2 k q) := by
  have hq := q.isLt
  unfold parts
  rw [dif_neg (by omega : ¬ n.val < 2048), dif_pos (by omega : n.val - 2048 < 512)]
  exact congrArg (fun z => d1 (ix2 k z)) (Fin.ext (by dsimp only; omega))
theorem parts_2 (d0 : FVec Ideal S4096x2048 .bf16) (d1 : FVec Ideal S4096x512 .bf16) (d2 : FVec Ideal S4096x512 .bf16) (d3 : FVec Ideal S4096x512 .bf16) (d4 : FVec Ideal S4096x1024 .bf16) (d5 : FVec Ideal S4096x1024 .bf16) (d6 : FVec Ideal S4096x1024 .bf16) (d7 : FVec Ideal S4096x1024 .bf16) (k : Fin 4096) (n : Fin 7680) (q : Fin 512) (h : n.val = 2560 + q.val) : parts d0 d1 d2 d3 d4 d5 d6 d7 k n = d2 (ix2 k q) := by
  have hq := q.isLt
  unfold parts
  rw [dif_neg (by omega : ¬ n.val < 2048), dif_neg (by omega : ¬ n.val - 2048 < 512), dif_pos (by omega : n.val - 2048 - 512 < 512)]
  exact congrArg (fun z => d2 (ix2 k z)) (Fin.ext (by dsimp only; omega))
theorem parts_3 (d0 : FVec Ideal S4096x2048 .bf16) (d1 : FVec Ideal S4096x512 .bf16) (d2 : FVec Ideal S4096x512 .bf16) (d3 : FVec Ideal S4096x512 .bf16) (d4 : FVec Ideal S4096x1024 .bf16) (d5 : FVec Ideal S4096x1024 .bf16) (d6 : FVec Ideal S4096x1024 .bf16) (d7 : FVec Ideal S4096x1024 .bf16) (k : Fin 4096) (n : Fin 7680) (q : Fin 512) (h : n.val = 3072 + q.val) : parts d0 d1 d2 d3 d4 d5 d6 d7 k n = d3 (ix2 k q) := by
  have hq := q.isLt
  unfold parts
  rw [dif_neg (by omega : ¬ n.val < 2048), dif_neg (by omega : ¬ n.val - 2048 < 512), dif_neg (by omega : ¬ n.val - 2048 - 512 < 512), dif_pos (by omega : n.val - 2048 - 512 - 512 < 512)]
  exact congrArg (fun z => d3 (ix2 k z)) (Fin.ext (by dsimp only; omega))
theorem parts_4 (d0 : FVec Ideal S4096x2048 .bf16) (d1 : FVec Ideal S4096x512 .bf16) (d2 : FVec Ideal S4096x512 .bf16) (d3 : FVec Ideal S4096x512 .bf16) (d4 : FVec Ideal S4096x1024 .bf16) (d5 : FVec Ideal S4096x1024 .bf16) (d6 : FVec Ideal S4096x1024 .bf16) (d7 : FVec Ideal S4096x1024 .bf16) (k : Fin 4096) (n : Fin 7680) (q : Fin 1024) (h : n.val = 3584 + q.val) : parts d0 d1 d2 d3 d4 d5 d6 d7 k n = d4 (ix2 k q) := by
  have hq := q.isLt
  unfold parts
  rw [dif_neg (by omega : ¬ n.val < 2048), dif_neg (by omega : ¬ n.val - 2048 < 512), dif_neg (by omega : ¬ n.val - 2048 - 512 < 512), dif_neg (by omega : ¬ n.val - 2048 - 512 - 512 < 512), dif_pos (by omega : n.val - 2048 - 512 - 512 - 512 < 1024)]
  exact congrArg (fun z => d4 (ix2 k z)) (Fin.ext (by dsimp only; omega))
theorem parts_5 (d0 : FVec Ideal S4096x2048 .bf16) (d1 : FVec Ideal S4096x512 .bf16) (d2 : FVec Ideal S4096x512 .bf16) (d3 : FVec Ideal S4096x512 .bf16) (d4 : FVec Ideal S4096x1024 .bf16) (d5 : FVec Ideal S4096x1024 .bf16) (d6 : FVec Ideal S4096x1024 .bf16) (d7 : FVec Ideal S4096x1024 .bf16) (k : Fin 4096) (n : Fin 7680) (q : Fin 1024) (h : n.val = 4608 + q.val) : parts d0 d1 d2 d3 d4 d5 d6 d7 k n = d5 (ix2 k q) := by
  have hq := q.isLt
  unfold parts
  rw [dif_neg (by omega : ¬ n.val < 2048), dif_neg (by omega : ¬ n.val - 2048 < 512), dif_neg (by omega : ¬ n.val - 2048 - 512 < 512), dif_neg (by omega : ¬ n.val - 2048 - 512 - 512 < 512), dif_neg (by omega : ¬ n.val - 2048 - 512 - 512 - 512 < 1024), dif_pos (by omega : n.val - 2048 - 512 - 512 - 512 - 1024 < 1024)]
  exact congrArg (fun z => d5 (ix2 k z)) (Fin.ext (by dsimp only; omega))
theorem parts_6 (d0 : FVec Ideal S4096x2048 .bf16) (d1 : FVec Ideal S4096x512 .bf16) (d2 : FVec Ideal S4096x512 .bf16) (d3 : FVec Ideal S4096x512 .bf16) (d4 : FVec Ideal S4096x1024 .bf16) (d5 : FVec Ideal S4096x1024 .bf16) (d6 : FVec Ideal S4096x1024 .bf16) (d7 : FVec Ideal S4096x1024 .bf16) (k : Fin 4096) (n : Fin 7680) (q : Fin 1024) (h : n.val = 5632 + q.val) : parts d0 d1 d2 d3 d4 d5 d6 d7 k n = d6 (ix2 k q) := by
  have hq := q.isLt
  unfold parts
  rw [dif_neg (by omega : ¬ n.val < 2048), dif_neg (by omega : ¬ n.val - 2048 < 512), dif_neg (by omega : ¬ n.val - 2048 - 512 < 512), dif_neg (by omega : ¬ n.val - 2048 - 512 - 512 < 512), dif_neg (by omega : ¬ n.val - 2048 - 512 - 512 - 512 < 1024), dif_neg (by omega : ¬ n.val - 2048 - 512 - 512 - 512 - 1024 < 1024), dif_pos (by omega : n.val - 2048 - 512 - 512 - 512 - 1024 - 1024 < 1024)]
  exact congrArg (fun z => d6 (ix2 k z)) (Fin.ext (by dsimp only; omega))
theorem parts_7 (d0 : FVec Ideal S4096x2048 .bf16) (d1 : FVec Ideal S4096x512 .bf16) (d2 : FVec Ideal S4096x512 .bf16) (d3 : FVec Ideal S4096x512 .bf16) (d4 : FVec Ideal S4096x1024 .bf16) (d5 : FVec Ideal S4096x1024 .bf16) (d6 : FVec Ideal S4096x1024 .bf16) (d7 : FVec Ideal S4096x1024 .bf16) (k : Fin 4096) (n : Fin 7680) (q : Fin 1024) (h : n.val = 6656 + q.val) : parts d0 d1 d2 d3 d4 d5 d6 d7 k n = d7 (ix2 k q) := by
  have hq := q.isLt
  unfold parts
  rw [dif_neg (by omega : ¬ n.val < 2048), dif_neg (by omega : ¬ n.val - 2048 < 512), dif_neg (by omega : ¬ n.val - 2048 - 512 < 512), dif_neg (by omega : ¬ n.val - 2048 - 512 - 512 < 512), dif_neg (by omega : ¬ n.val - 2048 - 512 - 512 - 512 < 1024), dif_neg (by omega : ¬ n.val - 2048 - 512 - 512 - 512 - 1024 < 1024), dif_neg (by omega : ¬ n.val - 2048 - 512 - 512 - 512 - 1024 - 1024 < 1024)]
  exact congrArg (fun z => d7 (ix2 k z)) (Fin.ext (by dsimp only; omega))

/-- The whole product is the sum of the strips. -/
theorem whole (w : FVec Ideal S1024x7680 .f32) (d0 : FVec Ideal S4096x2048 .bf16) (d1 : FVec Ideal S4096x512 .bf16) (d2 : FVec Ideal S4096x512 .bf16) (d3 : FVec Ideal S4096x512 .bf16) (d4 : FVec Ideal S4096x1024 .bf16) (d5 : FVec Ideal S4096x1024 .bf16) (d6 : FVec Ideal S4096x1024 .bf16) (d7 : FVec Ideal S4096x1024 .bf16) (r : Fin 4096) (j : Fin 1024) :
    ∑ n : Fin 7680, parts d0 d1 d2 d3 d4 d5 d6 d7 r n * w (ix2 j n) = back w d0 d1 d2 d3 d4 d5 d6 d7 r j := by
  rw [strips]
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (Finset.sum_congr rfl fun k _ => congrArg (· * _) (parts_0 _ _ _ _ _ _ _ _ _ _ ⟨0 + k.val, by omega⟩ (by dsimp only; omega))) (Finset.sum_congr rfl fun k _ => congrArg (· * _) (parts_1 _ _ _ _ _ _ _ _ _ _ ⟨0 + k.val, by omega⟩ (by dsimp only; omega)))) (Finset.sum_congr rfl fun k _ => congrArg (· * _) (parts_2 _ _ _ _ _ _ _ _ _ _ ⟨0 + k.val, by omega⟩ (by dsimp only; omega)))) (Finset.sum_congr rfl fun k _ => congrArg (· * _) (parts_3 _ _ _ _ _ _ _ _ _ _ ⟨0 + k.val, by omega⟩ (by dsimp only; omega)))) (Finset.sum_congr rfl fun k _ => congrArg (· * _) (parts_4 _ _ _ _ _ _ _ _ _ _ ⟨0 + k.val, by omega⟩ (by dsimp only; omega)))) (Finset.sum_congr rfl fun k _ => congrArg (· * _) (parts_4 _ _ _ _ _ _ _ _ _ _ ⟨512 + k.val, by omega⟩ (by dsimp only; omega)))) (Finset.sum_congr rfl fun k _ => congrArg (· * _) (parts_5 _ _ _ _ _ _ _ _ _ _ ⟨0 + k.val, by omega⟩ (by dsimp only; omega)))) (Finset.sum_congr rfl fun k _ => congrArg (· * _) (parts_5 _ _ _ _ _ _ _ _ _ _ ⟨512 + k.val, by omega⟩ (by dsimp only; omega)))) (Finset.sum_congr rfl fun k _ => congrArg (· * _) (parts_6 _ _ _ _ _ _ _ _ _ _ ⟨0 + k.val, by omega⟩ (by dsimp only; omega)))) (Finset.sum_congr rfl fun k _ => congrArg (· * _) (parts_6 _ _ _ _ _ _ _ _ _ _ ⟨512 + k.val, by omega⟩ (by dsimp only; omega)))) (Finset.sum_congr rfl fun k _ => congrArg (· * _) (parts_7 _ _ _ _ _ _ _ _ _ _ ⟨0 + k.val, by omega⟩ (by dsimp only; omega)))) (Finset.sum_congr rfl fun k _ => congrArg (· * _) (parts_7 _ _ _ _ _ _ _ _ _ _ ⟨512 + k.val, by omega⟩ (by dsimp only; omega)))

theorem whole_dx (w : FVec Ideal S1024x7680 .f32) (d0 : FVec Ideal S4096x2048 .bf16) (d1 : FVec Ideal S4096x512 .bf16) (d2 : FVec Ideal S4096x512 .bf16) (d3 : FVec Ideal S4096x512 .bf16) (d4 : FVec Ideal S4096x1024 .bf16) (d5 : FVec Ideal S4096x1024 .bf16) (d6 : FVec Ideal S4096x1024 .bf16) (d7 : FVec Ideal S4096x1024 .bf16) (r : FVec Ideal S4096x1024 .f32) (i : S4096x1024.Idx) :
    (∑ n : Fin 7680, parts d0 d1 d2 d3 d4 d5 d6 d7 (i 0) n * w (ix2 (i 1) n)) + Ideal.ofBits FTy.f32 1068827891#32 * r i = dx w d0 d1 d2 d3 d4 d5 d6 d7 r i :=
  congrArg (· + Ideal.ofBits FTy.f32 1068827891#32 * r i) (whole w d0 d1 d2 d3 d4 d5 d6 d7 (i 0) (i 1))

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_20.index t = ![t.val, 0] ∧ win0_21.index t = ![t.val, 0] :=
  (by decide +kernel : ∀ t : Fin grid0.N, _)

theorem idx' : ∀ t : Fin cfg0.N, win0_8.index t = ![0, 0] ∧ win0_9.index t = ![4, 0] ∧ win0_10.index t = ![5, 0] ∧ win0_11.index t = ![6, 0] ∧ win0_12.index t = ![7, 0] ∧ win0_13.index t = ![8, 0] ∧ win0_14.index t = ![9, 0] ∧ win0_15.index t = ![10, 0] ∧ win0_16.index t = ![11, 0] ∧ win0_17.index t = ![12, 0] ∧ win0_18.index t = ![13, 0] ∧ win0_19.index t = ![14, 0] :=
  (by decide +kernel : ∀ t : Fin grid0.N, _)

theorem w_in (c : Dev nD) (i : S7680x1024.Idx) : V m c main_v0 i = m ((c : Thread nD τ).loc main_arg0) (ix2 (i 1) (i 0)) := by
  entry_read
  pointwise

theorem blk8 (c : Dev nD) (t : Fin cfg0.N) (x : Fin 2048) (j : Fin 1024) :
    (win0 8).fill (grid0.coords t) dflt0_8 (iblk m c 8 t) (ix2 x j) = m ((c : Thread nD τ).loc main_arg0) (ix2 j ⟨x.val, by omega⟩) := by
  unfold Pipeline.Window.fill
  refine (dif_pos (moved0_8 t (ix2 x j))).trans ?_
  unfold iblk
  refine (w_in m c _).trans (congrArg _ ?_)
  blk_ext [idx' t]

set_option maxHeartbeats 8000000 in
theorem final (c : Dev nD) : (dats m 0 c).arrAt 21 cfg0.N = dx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 21 _ (by decide +kernel) fun t _ y => ?_
  blk_simp
  rw [after0_21]; unfold outsAt0; frame_out
  pointwise [k0_pay1, k0_pay2, k0_pay3, k0_pay4, dx, back]
  blk_simp [iblk]
  simp only [w_in]
  blk_point [V, idx t, idx' t]
  refine (blk8 m c t _ _).trans (congrArg _ ?_)
  blk_ext [idx t]

set_option maxHeartbeats 8000000 in
theorem algebraic : Cert.algebraic_Kernel4Ideal_Reference4Ideal := by
  intro m g m' g' _ hargs
  refine ⟨fun c => dx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)), ?_, ?_⟩
  · refine (θ_run defs _ _).mono (fun r h c => ?_) (run_blocks m g)
    exact ⟨(h c).1.trans (final m c), (h c).2⟩
  · refine (θ_run Reference4Ideal.defs _ _).mono (fun r h c => ?_) (Cert.Reference4Ideal.Value.run m' g')
    obtain ⟨h0, ha⟩ := h c
    obtain ⟨e0, e1, e2, e3, e4, e5, e6, e7, e8, e9⟩ := hargs c
    refine ⟨h0.trans ?_, ha⟩
    rw [e0, e1, e2, e3, e4, e5, e6, e7, e8, e9]
    clear h0 ha e0 e1 e2 e3 e4 e5 e6 e7 e8 e9 hargs h
    funext i
    refine Eq.trans ?_ (whole_dx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) i)
    pointwise [parts]

end Cert.Kernel4Ideal.DIn

end
-- ==== Proof.WIn.lean ====
module

public import proofs.«01_k».proof.Proof.Gen.Kernel5Ideal.Value
public import proofs.«01_k».proof.Proof.Gen.Reference5Ideal.Run
public import proofs.«01_k».proof.Defs
public import Idealize.ShloMosaic.Lib.Pipeline.ValueKit

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

namespace Cert.Kernel5Ideal.WIn

open Cert.Kernel5Ideal Cert.Kernel5Ideal.Gen Cert.Kernel5Ideal.Value

variable (m : (ℓ : Loc nD τ sig) → Buf (Elt Ideal) ℓ) (ρ : Dev nD → PrngReg)

/-- The gradient of the projection: its eight parts side by side. -/
def parts (d0 : FVec Ideal S4096x2048 .bf16) (d1 : FVec Ideal S4096x512 .bf16) (d2 : FVec Ideal S4096x512 .bf16) (d3 : FVec Ideal S4096x512 .bf16) (d4 : FVec Ideal S4096x1024 .bf16) (d5 : FVec Ideal S4096x1024 .bf16) (d6 : FVec Ideal S4096x1024 .bf16) (d7 : FVec Ideal S4096x1024 .bf16) (k : Fin 4096) (n : Fin 7680) : EReal :=
  if h : n.val < 2048 then d0 (ix2 k ⟨n.val, h⟩)
  else if h : n.val - 2048 < 512 then d1 (ix2 k ⟨n.val - 2048, h⟩)
  else if h : n.val - 2048 - 512 < 512 then d2 (ix2 k ⟨n.val - 2048 - 512, h⟩)
  else if h : n.val - 2048 - 512 - 512 < 512 then d3 (ix2 k ⟨n.val - 2048 - 512 - 512, h⟩)
  else if h : n.val - 2048 - 512 - 512 - 512 < 1024 then d4 (ix2 k ⟨n.val - 2048 - 512 - 512 - 512, h⟩)
  else if h : n.val - 2048 - 512 - 512 - 512 - 1024 < 1024 then d5 (ix2 k ⟨n.val - 2048 - 512 - 512 - 512 - 1024, h⟩)
  else if h : n.val - 2048 - 512 - 512 - 512 - 1024 - 1024 < 1024 then d6 (ix2 k ⟨n.val - 2048 - 512 - 512 - 512 - 1024 - 1024, h⟩)
  else d7 (ix2 k ⟨n.val - 2048 - 512 - 512 - 512 - 1024 - 1024 - 1024, by omega⟩)

/-- The input weight's gradient, one row per column of the projection. -/
def dw (x : FVec Ideal S4096x1024 .f32) (d0 : FVec Ideal S4096x2048 .bf16) (d1 : FVec Ideal S4096x512 .bf16) (d2 : FVec Ideal S4096x512 .bf16) (d3 : FVec Ideal S4096x512 .bf16) (d4 : FVec Ideal S4096x1024 .bf16) (d5 : FVec Ideal S4096x1024 .bf16) (d6 : FVec Ideal S4096x1024 .bf16) (d7 : FVec Ideal S4096x1024 .bf16) : FVec Ideal S7680x1024 .f32 :=
  fun i => ∑ k : Fin 4096, parts d0 d1 d2 d3 d4 d5 d6 d7 k (i 0) * x (ix2 k (i 1))

theorem parts_0 (d0 : FVec Ideal S4096x2048 .bf16) (d1 : FVec Ideal S4096x512 .bf16) (d2 : FVec Ideal S4096x512 .bf16) (d3 : FVec Ideal S4096x512 .bf16) (d4 : FVec Ideal S4096x1024 .bf16) (d5 : FVec Ideal S4096x1024 .bf16) (d6 : FVec Ideal S4096x1024 .bf16) (d7 : FVec Ideal S4096x1024 .bf16) (k : Fin 4096) (n : Fin 7680) (h1 : 0 ≤ n.val) (h2 : n.val < 2048) : parts d0 d1 d2 d3 d4 d5 d6 d7 k n = d0 (ix2 k ⟨n.val, by omega⟩) := by
  unfold parts
  rw [dif_pos (by omega : n.val < 2048)]
theorem parts_1 (d0 : FVec Ideal S4096x2048 .bf16) (d1 : FVec Ideal S4096x512 .bf16) (d2 : FVec Ideal S4096x512 .bf16) (d3 : FVec Ideal S4096x512 .bf16) (d4 : FVec Ideal S4096x1024 .bf16) (d5 : FVec Ideal S4096x1024 .bf16) (d6 : FVec Ideal S4096x1024 .bf16) (d7 : FVec Ideal S4096x1024 .bf16) (k : Fin 4096) (n : Fin 7680) (h1 : 2048 ≤ n.val) (h2 : n.val < 2560) : parts d0 d1 d2 d3 d4 d5 d6 d7 k n = d1 (ix2 k ⟨n.val - 2048, by omega⟩) := by
  unfold parts
  rw [dif_neg (by omega : ¬ n.val < 2048), dif_pos (by omega : n.val - 2048 < 512)]
theorem parts_2 (d0 : FVec Ideal S4096x2048 .bf16) (d1 : FVec Ideal S4096x512 .bf16) (d2 : FVec Ideal S4096x512 .bf16) (d3 : FVec Ideal S4096x512 .bf16) (d4 : FVec Ideal S4096x1024 .bf16) (d5 : FVec Ideal S4096x1024 .bf16) (d6 : FVec Ideal S4096x1024 .bf16) (d7 : FVec Ideal S4096x1024 .bf16) (k : Fin 4096) (n : Fin 7680) (h1 : 2560 ≤ n.val) (h2 : n.val < 3072) : parts d0 d1 d2 d3 d4 d5 d6 d7 k n = d2 (ix2 k ⟨n.val - 2048 - 512, by omega⟩) := by
  unfold parts
  rw [dif_neg (by omega : ¬ n.val < 2048), dif_neg (by omega : ¬ n.val - 2048 < 512), dif_pos (by omega : n.val - 2048 - 512 < 512)]
theorem parts_3 (d0 : FVec Ideal S4096x2048 .bf16) (d1 : FVec Ideal S4096x512 .bf16) (d2 : FVec Ideal S4096x512 .bf16) (d3 : FVec Ideal S4096x512 .bf16) (d4 : FVec Ideal S4096x1024 .bf16) (d5 : FVec Ideal S4096x1024 .bf16) (d6 : FVec Ideal S4096x1024 .bf16) (d7 : FVec Ideal S4096x1024 .bf16) (k : Fin 4096) (n : Fin 7680) (h1 : 3072 ≤ n.val) (h2 : n.val < 3584) : parts d0 d1 d2 d3 d4 d5 d6 d7 k n = d3 (ix2 k ⟨n.val - 2048 - 512 - 512, by omega⟩) := by
  unfold parts
  rw [dif_neg (by omega : ¬ n.val < 2048), dif_neg (by omega : ¬ n.val - 2048 < 512), dif_neg (by omega : ¬ n.val - 2048 - 512 < 512), dif_pos (by omega : n.val - 2048 - 512 - 512 < 512)]
theorem parts_4 (d0 : FVec Ideal S4096x2048 .bf16) (d1 : FVec Ideal S4096x512 .bf16) (d2 : FVec Ideal S4096x512 .bf16) (d3 : FVec Ideal S4096x512 .bf16) (d4 : FVec Ideal S4096x1024 .bf16) (d5 : FVec Ideal S4096x1024 .bf16) (d6 : FVec Ideal S4096x1024 .bf16) (d7 : FVec Ideal S4096x1024 .bf16) (k : Fin 4096) (n : Fin 7680) (h1 : 3584 ≤ n.val) (h2 : n.val < 4608) : parts d0 d1 d2 d3 d4 d5 d6 d7 k n = d4 (ix2 k ⟨n.val - 2048 - 512 - 512 - 512, by omega⟩) := by
  unfold parts
  rw [dif_neg (by omega : ¬ n.val < 2048), dif_neg (by omega : ¬ n.val - 2048 < 512), dif_neg (by omega : ¬ n.val - 2048 - 512 < 512), dif_neg (by omega : ¬ n.val - 2048 - 512 - 512 < 512), dif_pos (by omega : n.val - 2048 - 512 - 512 - 512 < 1024)]
theorem parts_5 (d0 : FVec Ideal S4096x2048 .bf16) (d1 : FVec Ideal S4096x512 .bf16) (d2 : FVec Ideal S4096x512 .bf16) (d3 : FVec Ideal S4096x512 .bf16) (d4 : FVec Ideal S4096x1024 .bf16) (d5 : FVec Ideal S4096x1024 .bf16) (d6 : FVec Ideal S4096x1024 .bf16) (d7 : FVec Ideal S4096x1024 .bf16) (k : Fin 4096) (n : Fin 7680) (h1 : 4608 ≤ n.val) (h2 : n.val < 5632) : parts d0 d1 d2 d3 d4 d5 d6 d7 k n = d5 (ix2 k ⟨n.val - 2048 - 512 - 512 - 512 - 1024, by omega⟩) := by
  unfold parts
  rw [dif_neg (by omega : ¬ n.val < 2048), dif_neg (by omega : ¬ n.val - 2048 < 512), dif_neg (by omega : ¬ n.val - 2048 - 512 < 512), dif_neg (by omega : ¬ n.val - 2048 - 512 - 512 < 512), dif_neg (by omega : ¬ n.val - 2048 - 512 - 512 - 512 < 1024), dif_pos (by omega : n.val - 2048 - 512 - 512 - 512 - 1024 < 1024)]
theorem parts_6 (d0 : FVec Ideal S4096x2048 .bf16) (d1 : FVec Ideal S4096x512 .bf16) (d2 : FVec Ideal S4096x512 .bf16) (d3 : FVec Ideal S4096x512 .bf16) (d4 : FVec Ideal S4096x1024 .bf16) (d5 : FVec Ideal S4096x1024 .bf16) (d6 : FVec Ideal S4096x1024 .bf16) (d7 : FVec Ideal S4096x1024 .bf16) (k : Fin 4096) (n : Fin 7680) (h1 : 5632 ≤ n.val) (h2 : n.val < 6656) : parts d0 d1 d2 d3 d4 d5 d6 d7 k n = d6 (ix2 k ⟨n.val - 2048 - 512 - 512 - 512 - 1024 - 1024, by omega⟩) := by
  unfold parts
  rw [dif_neg (by omega : ¬ n.val < 2048), dif_neg (by omega : ¬ n.val - 2048 < 512), dif_neg (by omega : ¬ n.val - 2048 - 512 < 512), dif_neg (by omega : ¬ n.val - 2048 - 512 - 512 < 512), dif_neg (by omega : ¬ n.val - 2048 - 512 - 512 - 512 < 1024), dif_neg (by omega : ¬ n.val - 2048 - 512 - 512 - 512 - 1024 < 1024), dif_pos (by omega : n.val - 2048 - 512 - 512 - 512 - 1024 - 1024 < 1024)]
theorem parts_7 (d0 : FVec Ideal S4096x2048 .bf16) (d1 : FVec Ideal S4096x512 .bf16) (d2 : FVec Ideal S4096x512 .bf16) (d3 : FVec Ideal S4096x512 .bf16) (d4 : FVec Ideal S4096x1024 .bf16) (d5 : FVec Ideal S4096x1024 .bf16) (d6 : FVec Ideal S4096x1024 .bf16) (d7 : FVec Ideal S4096x1024 .bf16) (k : Fin 4096) (n : Fin 7680) (h1 : 6656 ≤ n.val) (h2 : n.val < 7680) : parts d0 d1 d2 d3 d4 d5 d6 d7 k n = d7 (ix2 k ⟨n.val - 2048 - 512 - 512 - 512 - 1024 - 1024 - 1024, by omega⟩) := by
  unfold parts
  rw [dif_neg (by omega : ¬ n.val < 2048), dif_neg (by omega : ¬ n.val - 2048 < 512), dif_neg (by omega : ¬ n.val - 2048 - 512 < 512), dif_neg (by omega : ¬ n.val - 2048 - 512 - 512 < 512), dif_neg (by omega : ¬ n.val - 2048 - 512 - 512 - 512 < 1024), dif_neg (by omega : ¬ n.val - 2048 - 512 - 512 - 512 - 1024 < 1024), dif_neg (by omega : ¬ n.val - 2048 - 512 - 512 - 512 - 1024 - 1024 < 1024)]

theorem idx : ∀ t : Fin cfg0.N, win0_8.index t = ![0, 0] ∧ win0_9.index t = ![t.val, 0] :=
  (by decide +kernel : ∀ t : Fin grid0.N, _)

theorem idx_0 : ∀ t : Fin cfg0.N, 0 ≤ t.val → t.val < 8 → win0_0.index t = ![0, t.val - 0] :=
  (by decide +kernel : ∀ t : Fin grid0.N, _)
theorem idx_1 : ∀ t : Fin cfg0.N, 8 ≤ t.val → t.val < 10 → win0_1.index t = ![0, t.val - 8] :=
  (by decide +kernel : ∀ t : Fin grid0.N, _)
theorem idx_2 : ∀ t : Fin cfg0.N, 10 ≤ t.val → t.val < 12 → win0_2.index t = ![0, t.val - 10] :=
  (by decide +kernel : ∀ t : Fin grid0.N, _)
theorem idx_3 : ∀ t : Fin cfg0.N, 12 ≤ t.val → t.val < 14 → win0_3.index t = ![0, t.val - 12] :=
  (by decide +kernel : ∀ t : Fin grid0.N, _)
theorem idx_4 : ∀ t : Fin cfg0.N, 14 ≤ t.val → t.val < 18 → win0_4.index t = ![0, t.val - 14] :=
  (by decide +kernel : ∀ t : Fin grid0.N, _)
theorem idx_5 : ∀ t : Fin cfg0.N, 18 ≤ t.val → t.val < 22 → win0_5.index t = ![0, t.val - 18] :=
  (by decide +kernel : ∀ t : Fin grid0.N, _)
theorem idx_6 : ∀ t : Fin cfg0.N, 22 ≤ t.val → t.val < 26 → win0_6.index t = ![0, t.val - 22] :=
  (by decide +kernel : ∀ t : Fin grid0.N, _)
theorem idx_7 : ∀ t : Fin cfg0.N, 26 ≤ t.val → t.val < 30 → win0_7.index t = ![0, t.val - 26] :=
  (by decide +kernel : ∀ t : Fin grid0.N, _)

theorem part_0 (c : Dev nD) (t : Fin cfg0.N) (h1 : 0 ≤ t.val) (h2 : t.val < 8) (y : ((cfg0.win 9).xblock (cfg0.grid.coords t)).Idx) :
    (dats m 0 c).after 9 t y = dw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb y) := by
  have hn : (((cfg0.win 9).blk t).view.emb y (0 : Fin 2)).val = t.val * 256 + (y (0 : Fin 2)).val := by
    blk_simp [idx t]
  have hy : (y (0 : Fin 2)).val < 256 := (y (0 : Fin 2)).isLt
  rw [after0_9, outsAt0_A m c t (by omega) (by omega) (by omega) (by omega) (by omega) (by omega) (by omega) (by omega)]; frame_out
  unfold dw
  simp only [fun k => parts_0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) k (((cfg0.win 9).blk t).view.emb y (0 : Fin 2)) (by omega) (by omega)]
  pointwise [k0_pay1, k0_pay2, k0_pay3, k0_pay4, k0_pay5, k0_pay6, k0_pay7, k0_pay8]
  blk_point [iblk, V, idx t, idx_0 t h1 h2]

theorem part_1 (c : Dev nD) (t : Fin cfg0.N) (h1 : 8 ≤ t.val) (h2 : t.val < 10) (y : ((cfg0.win 9).xblock (cfg0.grid.coords t)).Idx) :
    (dats m 0 c).after 9 t y = dw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb y) := by
  have hn : (((cfg0.win 9).blk t).view.emb y (0 : Fin 2)).val = t.val * 256 + (y (0 : Fin 2)).val := by
    blk_simp [idx t]
  have hy : (y (0 : Fin 2)).val < 256 := (y (0 : Fin 2)).isLt
  rw [after0_9, outsAt0_B m c t (by omega) (by omega) (by omega) (by omega) (by omega) (by omega) (by omega) (by omega)]; frame_out
  unfold dw
  simp only [fun k => parts_1 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) k (((cfg0.win 9).blk t).view.emb y (0 : Fin 2)) (by omega) (by omega)]
  pointwise [k0_pay1, k0_pay2, k0_pay3, k0_pay4, k0_pay5, k0_pay6, k0_pay7, k0_pay8]
  blk_point [iblk, V, idx t, idx_1 t h1 h2]

theorem part_2 (c : Dev nD) (t : Fin cfg0.N) (h1 : 10 ≤ t.val) (h2 : t.val < 12) (y : ((cfg0.win 9).xblock (cfg0.grid.coords t)).Idx) :
    (dats m 0 c).after 9 t y = dw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb y) := by
  have hn : (((cfg0.win 9).blk t).view.emb y (0 : Fin 2)).val = t.val * 256 + (y (0 : Fin 2)).val := by
    blk_simp [idx t]
  have hy : (y (0 : Fin 2)).val < 256 := (y (0 : Fin 2)).isLt
  rw [after0_9, outsAt0_C m c t (by omega) (by omega) (by omega) (by omega) (by omega) (by omega) (by omega) (by omega)]; frame_out
  unfold dw
  simp only [fun k => parts_2 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) k (((cfg0.win 9).blk t).view.emb y (0 : Fin 2)) (by omega) (by omega)]
  pointwise [k0_pay1, k0_pay2, k0_pay3, k0_pay4, k0_pay5, k0_pay6, k0_pay7, k0_pay8]
  blk_point [iblk, V, idx t, idx_2 t h1 h2]

theorem part_3 (c : Dev nD) (t : Fin cfg0.N) (h1 : 12 ≤ t.val) (h2 : t.val < 14) (y : ((cfg0.win 9).xblock (cfg0.grid.coords t)).Idx) :
    (dats m 0 c).after 9 t y = dw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb y) := by
  have hn : (((cfg0.win 9).blk t).view.emb y (0 : Fin 2)).val = t.val * 256 + (y (0 : Fin 2)).val := by
    blk_simp [idx t]
  have hy : (y (0 : Fin 2)).val < 256 := (y (0 : Fin 2)).isLt
  rw [after0_9, outsAt0_D m c t (by omega) (by omega) (by omega) (by omega) (by omega) (by omega) (by omega) (by omega)]; frame_out
  unfold dw
  simp only [fun k => parts_3 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) k (((cfg0.win 9).blk t).view.emb y (0 : Fin 2)) (by omega) (by omega)]
  pointwise [k0_pay1, k0_pay2, k0_pay3, k0_pay4, k0_pay5, k0_pay6, k0_pay7, k0_pay8]
  blk_point [iblk, V, idx t, idx_3 t h1 h2]

theorem part_4 (c : Dev nD) (t : Fin cfg0.N) (h1 : 14 ≤ t.val) (h2 : t.val < 18) (y : ((cfg0.win 9).xblock (cfg0.grid.coords t)).Idx) :
    (dats m 0 c).after 9 t y = dw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb y) := by
  have hn : (((cfg0.win 9).blk t).view.emb y (0 : Fin 2)).val = t.val * 256 + (y (0 : Fin 2)).val := by
    blk_simp [idx t]
  have hy : (y (0 : Fin 2)).val < 256 := (y (0 : Fin 2)).isLt
  rw [after0_9, outsAt0_E m c t (by omega) (by omega) (by omega) (by omega) (by omega) (by omega) (by omega) (by omega)]; frame_out
  unfold dw
  simp only [fun k => parts_4 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) k (((cfg0.win 9).blk t).view.emb y (0 : Fin 2)) (by omega) (by omega)]
  pointwise [k0_pay1, k0_pay2, k0_pay3, k0_pay4, k0_pay5, k0_pay6, k0_pay7, k0_pay8]
  blk_point [iblk, V, idx t, idx_4 t h1 h2]

theorem part_5 (c : Dev nD) (t : Fin cfg0.N) (h1 : 18 ≤ t.val) (h2 : t.val < 22) (y : ((cfg0.win 9).xblock (cfg0.grid.coords t)).Idx) :
    (dats m 0 c).after 9 t y = dw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb y) := by
  have hn : (((cfg0.win 9).blk t).view.emb y (0 : Fin 2)).val = t.val * 256 + (y (0 : Fin 2)).val := by
    blk_simp [idx t]
  have hy : (y (0 : Fin 2)).val < 256 := (y (0 : Fin 2)).isLt
  rw [after0_9, outsAt0_F m c t (by omega) (by omega) (by omega) (by omega) (by omega) (by omega) (by omega) (by omega)]; frame_out
  unfold dw
  simp only [fun k => parts_5 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) k (((cfg0.win 9).blk t).view.emb y (0 : Fin 2)) (by omega) (by omega)]
  pointwise [k0_pay1, k0_pay2, k0_pay3, k0_pay4, k0_pay5, k0_pay6, k0_pay7, k0_pay8]
  blk_point [iblk, V, idx t, idx_5 t h1 h2]

theorem part_6 (c : Dev nD) (t : Fin cfg0.N) (h1 : 22 ≤ t.val) (h2 : t.val < 26) (y : ((cfg0.win 9).xblock (cfg0.grid.coords t)).Idx) :
    (dats m 0 c).after 9 t y = dw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb y) := by
  have hn : (((cfg0.win 9).blk t).view.emb y (0 : Fin 2)).val = t.val * 256 + (y (0 : Fin 2)).val := by
    blk_simp [idx t]
  have hy : (y (0 : Fin 2)).val < 256 := (y (0 : Fin 2)).isLt
  rw [after0_9, outsAt0_G m c t (by omega) (by omega) (by omega) (by omega) (by omega) (by omega) (by omega) (by omega)]; frame_out
  unfold dw
  simp only [fun k => parts_6 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) k (((cfg0.win 9).blk t).view.emb y (0 : Fin 2)) (by omega) (by omega)]
  pointwise [k0_pay1, k0_pay2, k0_pay3, k0_pay4, k0_pay5, k0_pay6, k0_pay7, k0_pay8]
  blk_point [iblk, V, idx t, idx_6 t h1 h2]

theorem part_7 (c : Dev nD) (t : Fin cfg0.N) (h1 : 26 ≤ t.val) (h2 : t.val < 30) (y : ((cfg0.win 9).xblock (cfg0.grid.coords t)).Idx) :
    (dats m 0 c).after 9 t y = dw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb y) := by
  have hn : (((cfg0.win 9).blk t).view.emb y (0 : Fin 2)).val = t.val * 256 + (y (0 : Fin 2)).val := by
    blk_simp [idx t]
  have hy : (y (0 : Fin 2)).val < 256 := (y (0 : Fin 2)).isLt
  rw [after0_9, outsAt0_H m c t (by omega) (by omega) (by omega) (by omega) (by omega) (by omega) (by omega) (by omega)]; frame_out
  unfold dw
  simp only [fun k => parts_7 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) k (((cfg0.win 9).blk t).view.emb y (0 : Fin 2)) (by omega) (by omega)]
  pointwise [k0_pay1, k0_pay2, k0_pay3, k0_pay4, k0_pay5, k0_pay6, k0_pay7, k0_pay8]
  blk_point [iblk, V, idx t, idx_7 t h1 h2]

theorem final (c : Dev nD) : (dats m 0 c).arrAt 9 cfg0.N = dw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t _ y => ?_
  have ht : t.val < 30 := t.isLt
  blk_simp
  by_cases g0 : t.val < 8
  · exact part_0 m c t (by omega) (by omega) y
  by_cases g1 : t.val < 10
  · exact part_1 m c t (by omega) (by omega) y
  by_cases g2 : t.val < 12
  · exact part_2 m c t (by omega) (by omega) y
  by_cases g3 : t.val < 14
  · exact part_3 m c t (by omega) (by omega) y
  by_cases g4 : t.val < 18
  · exact part_4 m c t (by omega) (by omega) y
  by_cases g5 : t.val < 22
  · exact part_5 m c t (by omega) (by omega) y
  by_cases g6 : t.val < 26
  · exact part_6 m c t (by omega) (by omega) y
  exact part_7 m c t (by omega) (by omega) y

theorem algebraic : Cert.algebraic_Kernel5Ideal_Reference5Ideal := by
  intro m g m' g' _ hargs
  refine ⟨fun c => dw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)), ?_, ?_⟩
  · refine (θ_run defs _ _).mono (fun r h c => ?_) (run_blocks m g)
    exact ⟨(h c).1.trans (final m c), (h c).2⟩
  · refine (θ_run Reference5Ideal.defs _ _).mono (fun r h c => ?_) (Cert.Reference5Ideal.Value.run m' g')
    obtain ⟨h0, ha⟩ := h c
    obtain ⟨e0, e1, e2, e3, e4, e5, e6, e7, e8⟩ := hargs c
    refine ⟨h0.trans ?_, ha⟩
    rw [e0, e1, e2, e3, e4, e5, e6, e7, e8]
    clear h0 ha e0 e1 e2 e3 e4 e5 e6 e7 e8
    funext i
    pointwise [dw, parts]

end Cert.Kernel5Ideal.WIn

end
-- ==== Proof.Proj.lean ====
module

public import proofs.«01_k».proof.Proof.Gen.Kernel6Ideal.Value
public import proofs.«01_k».proof.Proof.Gen.Reference6Ideal.Run
public import proofs.«01_k».proof.Defs
public import Idealize.ShloMosaic.Lib.Pipeline.ValueKit

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

namespace Cert.Kernel6Ideal.Proj

open Cert.Kernel6Ideal Cert.Kernel6Ideal.Gen Cert.Kernel6Ideal.Value

variable (m : (ℓ : Loc nD τ sig) → Buf (Elt Ideal) ℓ) (ρ : Dev nD → PrngReg)

/-- The input projection. -/
def proj (x : FVec Ideal S4096x1024 .f32) (w : FVec Ideal S1024x7680 .f32) : FVec Ideal S4096x7680 .f32 :=
  fun i => ∑ k : Fin 1024, x (ix2 (i 0) k) * w (ix2 k (i 1))

theorem idx : ∀ t : Fin cfg0.N, win0_0.index t = ![t.val / 3, 0] ∧ win0_1.index t = ![t.val % 3, 0] ∧ win0_2.index t = ![t.val / 3, t.val % 3] :=
  (by decide +kernel : ∀ t : Fin grid0.N, _)

theorem x_in (c : Dev nD) (i : S4096x1024.Idx) : V m c main_v0 i = m ((c : Thread nD τ).loc main_arg0) i := by
  entry_read
  pointwise

theorem w_in (c : Dev nD) (i : S7680x1024.Idx) : V m c main_v1 i = m ((c : Thread nD τ).loc main_arg1) (ix2 (i 1) (i 0)) := by
  entry_read
  pointwise

theorem final (c : Dev nD) : (dats m 0 c).arrAt 2 cfg0.N = proj (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  pointwise [k0_pay1, proj]
  blk_simp [iblk]
  simp only [x_in, w_in]
  blk_point [idx t]

theorem algebraic : Cert.algebraic_Kernel6Ideal_Reference6Ideal := by
  intro m g m' g' _ hargs
  refine ⟨fun c => proj (m ((c : Thread nD τ).loc main_arg0)) (m ((c : Thread nD τ).loc main_arg1)), ?_, ?_⟩
  · refine (θ_run defs _ _).mono (fun r h c => ?_) (run_blocks m g)
    exact ⟨(h c).1.trans (final m c), (h c).2⟩
  · refine (θ_run Reference6Ideal.defs _ _).mono (fun r h c => ?_) (Cert.Reference6Ideal.Value.run m' g')
    obtain ⟨h0, ha⟩ := h c
    obtain ⟨e0, e1⟩ := hargs c
    refine ⟨h0.trans ?_, ha⟩
    rw [e0, e1]
    clear h0 ha e0 e1
    funext i
    pointwise [proj]

end Cert.Kernel6Ideal.Proj

end
-- ==== Proof.Post.lean ====
module

public import proofs.«01_k».proof.Proof.Gen.Kernel7Ideal.Frame
public import Idealize.ShloMosaic.Lib.Pipeline.ValueKit

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

namespace Cert.Kernel7Ideal.Post

open Cert.Kernel7Ideal Cert.Kernel7Ideal.Gen

variable (V : (c : Dev nD) → (b : Ref sig .tc) → Buf (Elt Ideal) ((c : Thread nD τ).loc b))

/-- The residual sum before the first norm: the scaled input plus the output product. -/
def resid1 (x : FVec Ideal S4096x1024 .f32) (a : FVec Ideal S4096x1024 .bf16) (w : FVec Ideal S1024x1024 .f32) : FVec Ideal S4096x1024 .f32 :=
  fun i => Ideal.ofBits FTy.f32 1068827891#32 * x i + ∑ k : Fin 1024, a (ix2 (i 0) k) * w (ix2 k (i 1))

/-- The residual sum before the second norm: the scaled input plus the down product. -/
def resid2 (x : FVec Ideal S4096x1024 .f32) (a : FVec Ideal S4096x4096 .bf16) (w : FVec Ideal S4096x1024 .f32) : FVec Ideal S4096x1024 .f32 :=
  fun i => Ideal.ofBits FTy.f32 1068827891#32 * x i + ∑ k : Fin 4096, a (ix2 (i 0) k) * w (ix2 k (i 1))

/-- A row's mean. -/
def mean (u : FVec Ideal S4096x1024 .f32) (r : Fin 4096) : EReal := Ideal.div (∑ k : Fin 1024, u (ix2 r k)) (Ideal.ofBits FTy.f32 1149239296#32)

/-- A row's mean squared deviation. -/
def var (u : FVec Ideal S4096x1024 .f32) (r : Fin 4096) : EReal :=
  Ideal.div (∑ k : Fin 1024, (u (ix2 r k) - mean u r) * (u (ix2 r k) - mean u r)) (Ideal.ofBits FTy.f32 1149239296#32)

/-- The layer norm of every row, with its gain and bias. -/
def lnorm (u : FVec Ideal S4096x1024 .f32) (g b : FVec Ideal S1x1024 .f32) : FVec Ideal S4096x1024 .f32 :=
  fun i => (u i - mean u (i 0)) * Ideal.rsqrt (var u (i 0) + Ideal.ofBits FTy.f32 925353388#32) * g (ix2 0 (i 1)) + b (ix2 0 (i 1))

/-- The activation: the squared positive part of the up product. -/
def up (x : FVec Ideal S4096x1024 .bf16) (w : FVec Ideal S1024x4096 .f32) : FVec Ideal S4096x4096 .bf16 :=
  fun i => max (∑ k : Fin 1024, x (ix2 (i 0) k) * w (ix2 k (i 1))) 0 * max (∑ k : Fin 1024, x (ix2 (i 0) k) * w (ix2 k (i 1))) 0

theorem idx0 : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

theorem idx1 : ∀ t : Fin cfg1.N, win1_0.index t = ![t.val, 0] ∧ win1_1.index t = ![0, 0] ∧ win1_2.index t = ![t.val, 0] :=
  (by decide +kernel : ∀ t : Fin grid1.N, _)

theorem idx2 : ∀ t : Fin cfg2.N, win2_0.index t = ![t.val, 0] ∧ win2_1.index t = ![0, 0] ∧ win2_2.index t = ![t.val, 0] ∧ win2_3.index t = ![0, 0]
    ∧ win2_4.index t = ![0, 0] ∧ win2_5.index t = ![t.val, 0] ∧ win2_6.index t = ![t.val, 0] ∧ win2_7.index t = ![t.val, 0] :=
  (by decide +kernel : ∀ t : Fin grid2.N, _)

theorem final0_u (c : Dev nD) : (dat0 V c).arrAt 5 cfg0.N = resid1 (V c main_arg0) (V c main_arg1) (V c main_arg2) := by
  refine (dat0 V c).arrAt_eq_of_covers 5 _ (by decide +kernel) fun t _ y => ?_
  blk_simp
  rw [after0_5]; unfold outsAt0; dsimp only; frame_out
  pointwise [k0_pay1, resid1]
  blk_point [iblk0, idx0 t]

theorem final0_y (c : Dev nD) : (dat0 V c).arrAt 6 cfg0.N = lnorm (resid1 (V c main_arg0) (V c main_arg1) (V c main_arg2)) (V c main_arg3) (V c main_arg4) := by
  refine (dat0 V c).arrAt_eq_of_covers 6 _ (by decide +kernel) fun t _ y => ?_
  blk_simp
  rw [after0_6]; unfold outsAt0; dsimp only; frame_out
  pointwise [k0_pay1, k0_pay2, resid1, lnorm, mean, var]
  blk_point [iblk0, idx0 t]

theorem final0_b (c : Dev nD) : (dat0 V c).arrAt 7 cfg0.N = (lnorm (resid1 (V c main_arg0) (V c main_arg1) (V c main_arg2)) (V c main_arg3) (V c main_arg4) : FVec Ideal S4096x1024 .bf16) := by
  refine (dat0 V c).arrAt_eq_of_covers 7 _ (by decide +kernel) fun t _ y => ?_
  blk_simp
  rw [after0_7]; unfold outsAt0; dsimp only; frame_out
  pointwise [k0_pay1, k0_pay2, k0_pay3, resid1, lnorm, mean, var]
  blk_point [iblk0, idx0 t]

theorem final1 (c : Dev nD) : (dat1 V c).arrAt 2 cfg1.N = up (V c main_v0_2) (V c main_arg5) := by
  refine (dat1 V c).arrAt_eq_of_covers 2 _ (by decide +kernel) fun t _ y => ?_
  blk_simp
  rw [after1_2]; unfold outsAt1; frame_out
  pointwise [k1_pay1, up]
  blk_point [iblk1, idx1 t]

theorem final2_u (c : Dev nD) : (dat2 V c).arrAt 5 cfg2.N = resid2 (V c main_v0_1) (V c main_v1) (V c main_arg6) := by
  refine (dat2 V c).arrAt_eq_of_covers 5 _ (by decide +kernel) fun t _ y => ?_
  blk_simp
  rw [after2_5]; unfold outsAt2; dsimp only; frame_out
  pointwise [k2_pay2, resid2]
  blk_point [iblk2, idx2 t]

theorem final2_y (c : Dev nD) : (dat2 V c).arrAt 6 cfg2.N = lnorm (resid2 (V c main_v0_1) (V c main_v1) (V c main_arg6)) (V c main_arg7) (V c main_arg8) := by
  refine (dat2 V c).arrAt_eq_of_covers 6 _ (by decide +kernel) fun t _ y => ?_
  blk_simp
  rw [after2_6]; unfold outsAt2; dsimp only; frame_out
  pointwise [k2_pay2, k2_pay3, resid2, lnorm, mean, var]
  blk_point [iblk2, idx2 t]

theorem final2_b (c : Dev nD) : (dat2 V c).arrAt 7 cfg2.N = (lnorm (resid2 (V c main_v0_1) (V c main_v1) (V c main_arg6)) (V c main_arg7) (V c main_arg8) : FVec Ideal S4096x1024 .bf16) := by
  refine (dat2 V c).arrAt_eq_of_covers 7 _ (by decide +kernel) fun t _ y => ?_
  blk_simp
  rw [after2_7]; unfold outsAt2; dsimp only; frame_out
  pointwise [k2_pay1, k2_pay2, k2_pay3, resid2, lnorm, mean, var]
  blk_point [iblk2, idx2 t]

set_option backward.isDefEq.respectTransparency.types false in
/-- The run of the whole program at any `F`: every unscoped buffer ends at the last boundary's contents. -/
theorem run_all {F : FTy → Type} [FloatOps F] (m : (ℓ : Loc nD τ sig) → Buf (Elt F) ℓ) (ρ : Dev nD → PrngReg) :
    θ_run defs (onTc (τ := τ) (main (F := F))) ⟨m, fun _ => 0, ρ⟩ (fun r =>
      (∀ c : Dev nD, ∀ b ∈ Pipeline.ucRefs τ sig, r.2.mem (c, b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => BI.emp) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

end Cert.Kernel7Ideal.Post

end
-- ==== Proof.PostClaim.lean ====
module

public import proofs.«01_k».proof.Proof.Post
public import proofs.«01_k».proof.Proof.Gen.Reference7Ideal.Run
public import proofs.«01_k».proof.Defs

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

namespace Cert.Reference7Ideal.Post

open Cert.Reference7Ideal Cert.Reference7Ideal.Gen
open Idealize.ShloMosaic.StableHlo

/-- The reference's first residual sum, as printed. -/
def r1 (x : FVec Ideal S4096x1024 .f32) (a : FVec Ideal S4096x1024 .bf16) (w : FVec Ideal S1024x1024 .f32) : FVec Ideal S4096x1024 .f32 :=
  addf (mulf (broadcastInDim S4096x1024 ![] bcast_S_S4096x1024 (constant S_ .f32 0x3FB504F3#32)) x) (Host.dotGeneral dot_S4096x1024_S1024x1024_S4096x1024_1_0_0_1_n_n none (extf .f32 a bitsLt_bf16_f32) w)

/-- The reference's layer norm, as printed. -/
def ln (u : FVec Ideal S4096x1024 .f32) (g b : FVec Ideal S1x1024 .f32) : FVec Ideal S4096x1024 .f32 :=
  addf (mulf (mulf (subf u (broadcastInDim S4096x1024 ![0, 1] bcast_S4096x1_S4096x1024_0_1 (Host.divf (broadcastInDim S4096x1 ![0] bcast_S4096_S4096x1_0 (Host.reduceAdd u (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf u (broadcastInDim S4096x1024 ![0, 1] bcast_S4096x1_S4096x1024_0_1 (Host.divf (broadcastInDim S4096x1 ![0] bcast_S4096_S4096x1_0 (Host.reduceAdd u (constant S_ .f32 0x00000000#32) reducesTo_S4096x1024_S4096_d1 h_S_)) (broadcastInDim S4096x1 ![] bcast_S_S4096x1 (constant S_ .f32 0x44800000#32))))) (subf u (broadcastInDim S4096x1024 ![0, 1] bcast_S4096x1_S4096x1024_0_1 (Host.divf (broadcastInDim S4096x1 ![0] bcast_S4096_S4096x1_0 (Host.reduceAdd u (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))) (broadcastInDim S4096x1024 ![0, 1] bcast_S1x1024_S4096x1024_0_1 g)) (broadcastInDim S4096x1024 ![0, 1] bcast_S1x1024_S4096x1024_0_1 b)

/-- The reference's squared positive part of the up product, as printed. -/
def act (x : FVec Ideal S4096x1024 .f32) (w : FVec Ideal S1024x4096 .f32) : FVec Ideal S4096x4096 .f32 :=
  mulf (maximumf (Host.dotGeneral dot_S4096x1024_S1024x4096_S4096x4096_1_0_0_1_n_n none x w) (broadcastInDim S4096x4096 ![] bcast_S_S4096x4096 (constant S_ .f32 0x00000000#32))) (maximumf (Host.dotGeneral dot_S4096x1024_S1024x4096_S4096x4096_1_0_0_1_n_n none x w) (broadcastInDim S4096x4096 ![] bcast_S_S4096x4096 (constant S_ .f32 0x00000000#32)))

/-- The reference's second residual sum, as printed. -/
def r2 (x : FVec Ideal S4096x1024 .f32) (a : FVec Ideal S4096x4096 .f32) (w : FVec Ideal S4096x1024 .f32) : FVec Ideal S4096x1024 .f32 :=
  addf (mulf (broadcastInDim S4096x1024 ![] bcast_S_S4096x1024 (constant S_ .f32 0x3FB504F3#32)) x) (Host.dotGeneral dot_S4096x4096_S4096x1024_S4096x1024_1_0_0_1_n_n none a w)

theorem r1_eq (x : FVec Ideal S4096x1024 .f32) (a : FVec Ideal S4096x1024 .bf16) (w : FVec Ideal S1024x1024 .f32) : r1 x a w = Kernel7Ideal.Post.resid1 x a w := by
  funext i
  pointwise [r1, Kernel7Ideal.Post.resid1]

theorem ln_eq (u : FVec Ideal S4096x1024 .f32) (g b : FVec Ideal S1x1024 .f32) : ln u g b = Kernel7Ideal.Post.lnorm u g b := by
  funext i
  pointwise [ln, Kernel7Ideal.Post.lnorm, Kernel7Ideal.Post.mean, Kernel7Ideal.Post.var]

theorem act_eq (x : FVec Ideal S4096x1024 .f32) (w : FVec Ideal S1024x4096 .f32) : act x w = (Kernel7Ideal.Post.up x w : FVec Ideal S4096x4096 .f32) := by
  funext i
  pointwise [act, Kernel7Ideal.Post.up]

theorem r2_eq (x : FVec Ideal S4096x1024 .f32) (a : FVec Ideal S4096x4096 .f32) (w : FVec Ideal S4096x1024 .f32) : r2 x a w = Kernel7Ideal.Post.resid2 x a w := by
  funext i
  pointwise [r2, Kernel7Ideal.Post.resid2]

end Cert.Reference7Ideal.Post

namespace Cert.Kernel7Ideal.Post

open Cert.Kernel7Ideal Cert.Kernel7Ideal.Gen

variable (m : (ℓ : Loc nD τ sig) → Buf (Elt Ideal) ℓ) (ρ : Dev nD → PrngReg)

abbrev A0 (c : Dev nD) : FVec Ideal S4096x1024 .f32 := m ((c : Thread nD τ).loc main_arg0)
abbrev A1 (c : Dev nD) : FVec Ideal S4096x1024 .bf16 := m ((c : Thread nD τ).loc main_arg1)
abbrev A2 (c : Dev nD) : FVec Ideal S1024x1024 .f32 := m ((c : Thread nD τ).loc main_arg2)
abbrev A3 (c : Dev nD) : FVec Ideal S1x1024 .f32 := m ((c : Thread nD τ).loc main_arg3)
abbrev A4 (c : Dev nD) : FVec Ideal S1x1024 .f32 := m ((c : Thread nD τ).loc main_arg4)
abbrev A5 (c : Dev nD) : FVec Ideal S1024x4096 .f32 := m ((c : Thread nD τ).loc main_arg5)
abbrev A6 (c : Dev nD) : FVec Ideal S4096x1024 .f32 := m ((c : Thread nD τ).loc main_arg6)
abbrev A7 (c : Dev nD) : FVec Ideal S1x1024 .f32 := m ((c : Thread nD τ).loc main_arg7)
abbrev A8 (c : Dev nD) : FVec Ideal S1x1024 .f32 := m ((c : Thread nD τ).loc main_arg8)

/-- The residual sum before the first norm, of the arguments. -/
def u1 (c : Dev nD) : FVec Ideal S4096x1024 .f32 := resid1 (A0 m c) (A1 m c) (A2 m c)
/-- The first norm, of the arguments. -/
def x1 (c : Dev nD) : FVec Ideal S4096x1024 .f32 := lnorm (u1 m c) (A3 m c) (A4 m c)
/-- The activation, of the arguments. -/
def ac (c : Dev nD) : FVec Ideal S4096x4096 .bf16 := up (x1 m c) (A5 m c)
/-- The residual sum before the second norm, of the arguments. -/
def u2 (c : Dev nD) : FVec Ideal S4096x1024 .f32 := resid2 (x1 m c) (ac m c) (A6 m c)
/-- The second norm, of the arguments. -/
def x2 (c : Dev nD) : FVec Ideal S4096x1024 .f32 := lnorm (u2 m c) (A7 m c) (A8 m c)

theorem W1_u (c : Dev nD) : W1 m ρ c (Proc.devRef .tc main_v0_0) = u1 m c := (W1_arr m ρ c 5).trans (final0_u (V0 m ρ) c)
theorem W1_y (c : Dev nD) : W1 m ρ c (Proc.devRef .tc main_v0_1) = x1 m c := (W1_arr m ρ c 6).trans (final0_y (V0 m ρ) c)
theorem W1_b (c : Dev nD) : W1 m ρ c (Proc.devRef .tc main_v0_2) = (x1 m c : FVec Ideal S4096x1024 .bf16) := (W1_arr m ρ c 7).trans (final0_b (V0 m ρ) c)

theorem W2_y (c : Dev nD) : W2 m ρ c (Proc.devRef .tc main_v0_1) = x1 m c := (W2_of m ρ c main_v0_1 (by decide)).trans (W1_y m ρ c)

theorem W2_a (c : Dev nD) : W2 m ρ c (Proc.devRef .tc main_v1) = ac m c := by
  refine (W2_arr m ρ c 2).trans ((final1 (V1 m ρ) c).trans ?_)
  rw [show V1 m ρ c main_arg5 = _ from W1_args m ρ c main_arg5 (by decide), show V1 m ρ c main_v0_2 = _ from W1_b m ρ c]
  rfl

theorem in2 (c : Dev nD) : resid2 (V2 m ρ c main_v0_1) (V2 m ρ c main_v1) (V2 m ρ c main_arg6) = u2 m c := by
  rw [show V2 m ρ c main_v0_1 = _ from W2_y m ρ c, show V2 m ρ c main_v1 = _ from W2_a m ρ c, show V2 m ρ c main_arg6 = _ from W2_args m ρ c main_arg6 (by decide)]
  rfl

theorem W3_u2 (c : Dev nD) : W3 m ρ c (Proc.devRef .tc main_v2_0) = u2 m c :=
  (W3_arr m ρ c 5).trans ((final2_u (V2 m ρ) c).trans (in2 m ρ c))

theorem W3_y2 (c : Dev nD) : W3 m ρ c (Proc.devRef .tc main_v2_1) = x2 m c := by
  refine (W3_arr m ρ c 6).trans ((final2_y (V2 m ρ) c).trans ?_)
  rw [in2, show V2 m ρ c main_arg7 = _ from W2_args m ρ c main_arg7 (by decide), show V2 m ρ c main_arg8 = _ from W2_args m ρ c main_arg8 (by decide)]
  rfl

theorem W3_b2 (c : Dev nD) : W3 m ρ c (Proc.devRef .tc main_v2_2) = (x2 m c : FVec Ideal S4096x1024 .bf16) := by
  refine (W3_arr m ρ c 7).trans ((final2_b (V2 m ρ) c).trans ?_)
  rw [in2, show V2 m ρ c main_arg7 = _ from W2_args m ρ c main_arg7 (by decide), show V2 m ρ c main_arg8 = _ from W2_args m ρ c main_arg8 (by decide)]
  rfl

theorem W3_u1 (c : Dev nD) : W3 m ρ c (Proc.devRef .tc main_v0_0) = u1 m c :=
  (W3_of_ne m ρ c main_v0_0 (by decide)).trans ((W2_of_ne m ρ c main_v0_0 (by decide)).trans (W1_u m ρ c))

theorem W3_x1 (c : Dev nD) : W3 m ρ c (Proc.devRef .tc main_v0_1) = x1 m c := (W3_of m ρ c main_v0_1 (by decide)).trans (W2_y m ρ c)

theorem W3_b1 (c : Dev nD) : W3 m ρ c (Proc.devRef .tc main_v0_2) = (x1 m c : FVec Ideal S4096x1024 .bf16) :=
  (W3_of_ne m ρ c main_v0_2 (by decide)).trans ((W2_of m ρ c main_v0_2 (by decide)).trans (W1_b m ρ c))

theorem W3_ac (c : Dev nD) : W3 m ρ c (Proc.devRef .tc main_v1) = ac m c := (W3_of m ρ c main_v1 (by decide)).trans (W2_a m ρ c)

open Cert.Reference7Ideal.Post in
theorem algebraic : Cert.algebraic_Kernel7Ideal_Reference7Ideal := by
  intro m g m' g' _ hargs
  refine ⟨fun c => u1 m c, fun c => x1 m c, fun c => x1 m c, fun c => ac m c, fun c => u2 m c, fun c => x2 m c, fun c => x2 m c, ?_, ?_⟩
  · refine (θ_run defs _ _).mono (fun r h c => ⟨?_, ?_, ?_, ?_, ?_, ?_, ?_, ?_, ?_, ?_, ?_, ?_, ?_, ?_, ?_, ?_⟩) (run_all m g)
    · exact (h.1 c _ (mem_uc main_v0_0 (by decide))).trans (W3_u1 m g c)
    · exact (h.1 c _ (mem_uc main_v0_1 (by decide))).trans (W3_x1 m g c)
    · exact (h.1 c _ (mem_uc main_v0_2 (by decide))).trans (W3_b1 m g c)
    · exact (h.1 c _ (mem_uc main_v1 (by decide))).trans (W3_ac m g c)
    · exact (h.1 c _ (mem_uc main_v2_0 (by decide))).trans (W3_u2 m g c)
    · exact (h.1 c _ (mem_uc main_v2_1 (by decide))).trans (W3_y2 m g c)
    · exact (h.1 c _ (mem_uc main_v2_2 (by decide))).trans (W3_b2 m g c)
    · exact (h.1 c _ (mem_uc main_arg0 (by decide))).trans (W3_main_arg0 m g c)
    · exact (h.1 c _ (mem_uc main_arg1 (by decide))).trans (W3_main_arg1 m g c)
    · exact (h.1 c _ (mem_uc main_arg2 (by decide))).trans (W3_main_arg2 m g c)
    · exact (h.1 c _ (mem_uc main_arg3 (by decide))).trans (W3_main_arg3 m g c)
    · exact (h.1 c _ (mem_uc main_arg4 (by decide))).trans (W3_main_arg4 m g c)
    · exact (h.1 c _ (mem_uc main_arg5 (by decide))).trans (W3_main_arg5 m g c)
    · exact (h.1 c _ (mem_uc main_arg6 (by decide))).trans (W3_main_arg6 m g c)
    · exact (h.1 c _ (mem_uc main_arg7 (by decide))).trans (W3_main_arg7 m g c)
    · exact (h.1 c _ (mem_uc main_arg8 (by decide))).trans (W3_main_arg8 m g c)
  · refine (θ_run Reference7Ideal.defs _ _).mono (fun r h c => ?_) (Cert.Reference7Ideal.Value.run m' g')
    obtain ⟨h0, h1, h2, h3, h4, h5, h6, ha⟩ := h c
    obtain ⟨e0, e1, e2, e3, e4, e5, e6, e7, e8⟩ := hargs c
    have k0 : r1 (m' ((c : Thread Cert.Reference7Ideal.nD Cert.Reference7Ideal.τ).loc Cert.Reference7Ideal.main_arg0)) (m' ((c : Thread Cert.Reference7Ideal.nD Cert.Reference7Ideal.τ).loc Cert.Reference7Ideal.main_arg1)) (m' ((c : Thread Cert.Reference7Ideal.nD Cert.Reference7Ideal.τ).loc Cert.Reference7Ideal.main_arg2)) = u1 m c := by
      rw [e0, e1, e2]; exact r1_eq _ _ _
    have k1 : ln (u1 m c) (m' ((c : Thread Cert.Reference7Ideal.nD Cert.Reference7Ideal.τ).loc Cert.Reference7Ideal.main_arg3)) (m' ((c : Thread Cert.Reference7Ideal.nD Cert.Reference7Ideal.τ).loc Cert.Reference7Ideal.main_arg4)) = x1 m c := by
      rw [e3, e4]; exact ln_eq _ _ _
    have k2 : act (x1 m c) (m' ((c : Thread Cert.Reference7Ideal.nD Cert.Reference7Ideal.τ).loc Cert.Reference7Ideal.main_arg5)) = ac m c := by
      rw [e5]; exact act_eq _ _
    have k3 : r2 (x1 m c) (ac m c) (m' ((c : Thread Cert.Reference7Ideal.nD Cert.Reference7Ideal.τ).loc Cert.Reference7Ideal.main_arg6)) = u2 m c := by
      rw [e6]; exact r2_eq _ _ _
    have k4 : ln (u2 m c) (m' ((c : Thread Cert.Reference7Ideal.nD Cert.Reference7Ideal.τ).loc Cert.Reference7Ideal.main_arg7)) (m' ((c : Thread Cert.Reference7Ideal.nD Cert.Reference7Ideal.τ).loc Cert.Reference7Ideal.main_arg8)) = x2 m c := by
      rw [e7, e8]; exact ln_eq _ _ _
    have j1 : ln (r1 (m' ((c : Thread Cert.Reference7Ideal.nD Cert.Reference7Ideal.τ).loc Cert.Reference7Ideal.main_arg0)) (m' ((c : Thread Cert.Reference7Ideal.nD Cert.Reference7Ideal.τ).loc Cert.Reference7Ideal.main_arg1)) (m' ((c : Thread Cert.Reference7Ideal.nD Cert.Reference7Ideal.τ).loc Cert.Reference7Ideal.main_arg2))) (m' ((c : Thread Cert.Reference7Ideal.nD Cert.Reference7Ideal.τ).loc Cert.Reference7Ideal.main_arg3)) (m' ((c : Thread Cert.Reference7Ideal.nD Cert.Reference7Ideal.τ).loc Cert.Reference7Ideal.main_arg4)) = x1 m c := by rw [k0]; exact k1
    have j2 : act (ln (r1 (m' ((c : Thread Cert.Reference7Ideal.nD Cert.Reference7Ideal.τ).loc Cert.Reference7Ideal.main_arg0)) (m' ((c : Thread Cert.Reference7Ideal.nD Cert.Reference7Ideal.τ).loc Cert.Reference7Ideal.main_arg1)) (m' ((c : Thread Cert.Reference7Ideal.nD Cert.Reference7Ideal.τ).loc Cert.Reference7Ideal.main_arg2))) (m' ((c : Thread Cert.Reference7Ideal.nD Cert.Reference7Ideal.τ).loc Cert.Reference7Ideal.main_arg3)) (m' ((c : Thread Cert.Reference7Ideal.nD Cert.Reference7Ideal.τ).loc Cert.Reference7Ideal.main_arg4))) (m' ((c : Thread Cert.Reference7Ideal.nD Cert.Reference7Ideal.τ).loc Cert.Reference7Ideal.main_arg5)) = ac m c := by rw [j1]; exact k2
    have j3 : r2 (ln (r1 (m' ((c : Thread Cert.Reference7Ideal.nD Cert.Reference7Ideal.τ).loc Cert.Reference7Ideal.main_arg0)) (m' ((c : Thread Cert.Reference7Ideal.nD Cert.Reference7Ideal.τ).loc Cert.Reference7Ideal.main_arg1)) (m' ((c : Thread Cert.Reference7Ideal.nD Cert.Reference7Ideal.τ).loc Cert.Reference7Ideal.main_arg2))) (m' ((c : Thread Cert.Reference7Ideal.nD Cert.Reference7Ideal.τ).loc Cert.Reference7Ideal.main_arg3)) (m' ((c : Thread Cert.Reference7Ideal.nD Cert.Reference7Ideal.τ).loc Cert.Reference7Ideal.main_arg4))) (act (ln (r1 (m' ((c : Thread Cert.Reference7Ideal.nD Cert.Reference7Ideal.τ).loc Cert.Reference7Ideal.main_arg0)) (m' ((c : Thread Cert.Reference7Ideal.nD Cert.Reference7Ideal.τ).loc Cert.Reference7Ideal.main_arg1)) (m' ((c : Thread Cert.Reference7Ideal.nD Cert.Reference7Ideal.τ).loc Cert.Reference7Ideal.main_arg2))) (m' ((c : Thread Cert.Reference7Ideal.nD Cert.Reference7Ideal.τ).loc Cert.Reference7Ideal.main_arg3)) (m' ((c : Thread Cert.Reference7Ideal.nD Cert.Reference7Ideal.τ).loc Cert.Reference7Ideal.main_arg4))) (m' ((c : Thread Cert.Reference7Ideal.nD Cert.Reference7Ideal.τ).loc Cert.Reference7Ideal.main_arg5))) (m' ((c : Thread Cert.Reference7Ideal.nD Cert.Reference7Ideal.τ).loc Cert.Reference7Ideal.main_arg6)) = u2 m c := by
      rw [j2, j1]; exact k3
    have j4 : ln (r2 (ln (r1 (m' ((c : Thread Cert.Reference7Ideal.nD Cert.Reference7Ideal.τ).loc Cert.Reference7Ideal.main_arg0)) (m' ((c : Thread Cert.Reference7Ideal.nD Cert.Reference7Ideal.τ).loc Cert.Reference7Ideal.main_arg1)) (m' ((c : Thread Cert.Reference7Ideal.nD Cert.Reference7Ideal.τ).loc Cert.Reference7Ideal.main_arg2))) (m' ((c : Thread Cert.Reference7Ideal.nD Cert.Reference7Ideal.τ).loc Cert.Reference7Ideal.main_arg3)) (m' ((c : Thread Cert.Reference7Ideal.nD Cert.Reference7Ideal.τ).loc Cert.Reference7Ideal.main_arg4))) (act (ln (r1 (m' ((c : Thread Cert.Reference7Ideal.nD Cert.Reference7Ideal.τ).loc Cert.Reference7Ideal.main_arg0)) (m' ((c : Thread Cert.Reference7Ideal.nD Cert.Reference7Ideal.τ).loc Cert.Reference7Ideal.main_arg1)) (m' ((c : Thread Cert.Reference7Ideal.nD Cert.Reference7Ideal.τ).loc Cert.Reference7Ideal.main_arg2))) (m' ((c : Thread Cert.Reference7Ideal.nD Cert.Reference7Ideal.τ).loc Cert.Reference7Ideal.main_arg3)) (m' ((c : Thread Cert.Reference7Ideal.nD Cert.Reference7Ideal.τ).loc Cert.Reference7Ideal.main_arg4))) (m' ((c : Thread Cert.Reference7Ideal.nD Cert.Reference7Ideal.τ).loc Cert.Reference7Ideal.main_arg5))) (m' ((c : Thread Cert.Reference7Ideal.nD Cert.Reference7Ideal.τ).loc Cert.Reference7Ideal.main_arg6))) (m' ((c : Thread Cert.Reference7Ideal.nD Cert.Reference7Ideal.τ).loc Cert.Reference7Ideal.main_arg7)) (m' ((c : Thread Cert.Reference7Ideal.nD Cert.Reference7Ideal.τ).loc Cert.Reference7Ideal.main_arg8)) = x2 m c := by
      rw [j3]; exact k4
    exact ⟨h0.trans k0, h1.trans j1, h2.trans j1, h3.trans j2, h4.trans j3, h5.trans j4, h6.trans j4, ha⟩

end Cert.Kernel7Ideal.Post

end
-- ==== Proof.Norm.lean ====
module

public import Idealize.ShloMosaic.PureOps.Ideal
public import Idealize.ShloMosaic.Lib.Pipeline.ValueKit
public import Mathlib.Tactic.FieldSimp
public import Mathlib.Tactic.Positivity
public import Mathlib.Tactic.Linarith

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

namespace Cert.Norm

variable {n : Nat}

theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- A row's mean. -/
def mean (N : EReal) (u : Fin n → EReal) : EReal := Ideal.div (∑ k, u k) N

/-- A row's mean squared deviation. -/
def var (N : EReal) (u : Fin n → EReal) : EReal := Ideal.div (∑ k, (u k - mean N u) * (u k - mean N u)) N

/-- The reciprocal of a row's standard deviation. -/
def rstd (N e : EReal) (u : Fin n → EReal) : EReal := Ideal.rsqrt (var N u + e)

/-- The gradient of a row's norm, by the row's means. -/
def back (N e : EReal) (u z : Fin n → EReal) (j : Fin n) : EReal :=
  rstd N e u * (z j - Ideal.div (∑ k, z k) N
    - (u j - mean N u) * rstd N e u * Ideal.div (∑ k, z k * ((u k - mean N u) * rstd N e u)) N)

/-- The gradient of a row's norm, step by step through the deviation, the variance and the mean. -/
def chain (N e two mhalf : EReal) (u z : Fin n → EReal) (j : Fin n) : EReal :=
  let dv := Ideal.div ((∑ k, (u k - mean N u) * z k) * (mhalf * Ideal.div (rstd N e u) (var N u + e))) N
  z j * rstd N e u + dv * (two * (u j - mean N u))
    + Ideal.div ((∑ k, -(z k * rstd N e u)) + ∑ k, -(dv * (two * (u k - mean N u)))) N

/-- On finite rows the two gradients agree. -/
theorem chain_eq (N e : ℝ) (hN : (n : ℝ) = N) (hn : N ≠ 0) (hN0 : 0 < N) (he : 0 < e) (u z : Fin n → ℝ) (j : Fin n) :
    chain N e ((2 : ℝ) : EReal) ((-(1 / 2) : ℝ) : EReal) (fun k => (u k : EReal)) (fun k => (z k : EReal)) j
      = back N e (fun k => (u k : EReal)) (fun k => (z k : EReal)) j := by
  have hm : mean (N : EReal) (fun k => (u k : EReal)) = ((((∑ k, u k) * (1 / N) : ℝ)) : EReal) := by
    unfold mean
    rw [Ideal.div_coe hn, coe_sum, ← EReal.coe_mul]
  generalize hmu : (∑ k, u k) * (1 / N) = mu at hm
  have hd : ∑ k, (u k - mu) = 0 := by
    rw [Finset.sum_sub_distrib, Finset.sum_const, Finset.card_univ, Fintype.card_fin, nsmul_eq_mul, hN, ← hmu]
    field_simp
    ring
  have hv : var (N : EReal) (fun k => (u k : EReal)) = ((((∑ k, (u k - mu) * (u k - mu)) * (1 / N) : ℝ)) : EReal) := by
    unfold var
    rw [Ideal.div_coe hn, hm]
    simp only [← EReal.coe_sub, ← EReal.coe_mul, coe_sum]
  have hv0 : 0 ≤ (∑ k, (u k - mu) * (u k - mu)) * (1 / N) :=
    mul_nonneg (Finset.sum_nonneg fun k _ => mul_self_nonneg _) (by positivity)
  generalize (∑ k, (u k - mu) * (u k - mu)) * (1 / N) = v at hv hv0
  have hr : rstd (N : EReal) (e : EReal) (fun k => (u k : EReal)) = (((Real.sqrt (v + e))⁻¹ : ℝ) : EReal) := by
    unfold rstd
    rw [hv, ← EReal.coe_add, Ideal.rsqrt_coe, if_neg (by linarith), if_neg (by linarith : v + e ≠ 0 )]
  have hve : 0 < v + e := by linarith
  have hr2 : 1 / (v + e) = (Real.sqrt (v + e))⁻¹ * (Real.sqrt (v + e))⁻¹ := by
    rw [← mul_inv, Real.mul_self_sqrt hve.le, one_div]
  generalize (Real.sqrt (v + e))⁻¹ = r at hr hr2
  unfold chain back
  dsimp only
  rw [hm, hr, hv, ← EReal.coe_add, Ideal.div_coe hve.ne', hr2]
  simp only [Ideal.div_coe hn, ← EReal.coe_sub, ← EReal.coe_mul, ← EReal.coe_neg, ← EReal.coe_add, coe_sum]
  refine congrArg _ ?_
  have h1 : ∑ k, -(z k * r) = -((∑ k, z k) * r) := by rw [Finset.sum_neg_distrib, Finset.sum_mul]
  have h2 : ∀ a : ℝ, ∑ k, -(a * (2 * (u k - mu))) = 0 := fun a => by
    rw [Finset.sum_neg_distrib, ← Finset.mul_sum, ← Finset.mul_sum, hd]; ring
  have h3 : ∑ k, z k * ((u k - mu) * r) = (∑ k, (u k - mu) * z k) * r := by
    rw [Finset.sum_mul]; exact Finset.sum_congr rfl fun k _ => by ring
  rw [h1, h2, h3]
  ring

theorem real_of_sum {ι : Type} (s : Finset ι) (f : ι → EReal) : (∃ r : ℝ, ∑ k ∈ s, f k = r) → ∀ k ∈ s, ∃ r : ℝ, f k = r := by
  classical
  induction s using Finset.induction_on with
  | empty => intro _ k hk; exact absurd hk (Finset.notMem_empty k)
  | insert a s ha ih =>
    rw [Finset.sum_insert ha]
    intro h k hk
    have h2 : (∃ r : ℝ, f a = r) ∧ ∃ r : ℝ, ∑ k ∈ s, f k = r := by
      obtain ⟨r, hr⟩ := h
      generalize f a = x at hr
      generalize ∑ k ∈ s, f k = y at hr
      induction x using EReal.rec <;> induction y using EReal.rec <;> simp_all
    rcases Finset.mem_insert.mp hk with rfl | hk
    · exact h2.1
    · exact ih h2.2 k hk

/-- On a row with an infinite entry the reciprocal deviation is zero. -/
theorem rstd_inf (N e : ℝ) (hn : 0 < N) (u : Fin n → EReal) (hu : ¬ ∀ k, ∃ r : ℝ, u k = r) :
    var (N : EReal) u = ⊤ ∧ rstd (N : EReal) (e : EReal) u = 0 := by
  have hs : ∑ k, u k = ⊤ ∨ ∑ k, u k = ⊥ := by
    by_contra hc
    push Not at hc
    exact hu fun k => real_of_sum Finset.univ u ⟨_, (EReal.coe_toReal hc.1 hc.2).symm⟩ k (Finset.mem_univ k)
  have hp : (0 : ℝ) < 1 / N := by positivity
  have hm : mean (N : EReal) u = ⊤ ∨ mean (N : EReal) u = ⊥ := by
    unfold mean
    rw [Ideal.div_coe hn.ne']
    rcases hs with h | h <;> rw [h]
    · exact .inl (EReal.top_mul_coe_of_pos hp)
    · exact .inr (EReal.bot_mul_coe_of_pos hp)
  have hq : ∀ k, (u k - mean (N : EReal) u) * (u k - mean (N : EReal) u) = ⊤ := by
    intro k
    rcases hm with h | h <;> rw [h]
    · rw [EReal.sub_top]; rfl
    · induction u k using EReal.rec
      · rfl
      · rfl
      · rfl
  have hv : var (N : EReal) u = ⊤ := by
    unfold var
    rw [Ideal.div_coe hn.ne', Finset.sum_congr rfl fun k _ => hq k]
    have h0 : ∃ k : Fin n, True := by
      by_contra hc
      exact hu fun k => absurd ⟨k, trivial⟩ hc
    obtain ⟨k, -⟩ := h0
    have h1 : ∑ _k : Fin n, (⊤ : EReal) = ⊤ := by
      rw [← Finset.add_sum_erase _ _ (Finset.mem_univ k)]
      refine EReal.top_add_of_ne_bot fun h => ?_
      have := Finset.sum_nonneg (s := Finset.univ.erase k) (f := fun _ : Fin n => (⊤ : EReal)) (fun _ _ => le_top)
      rw [h] at this
      exact absurd this (by simp)
    rw [h1]
    exact EReal.top_mul_coe_of_pos hp
  refine ⟨hv, ?_⟩
  unfold rstd
  rw [hv, EReal.top_add_coe]
  rfl

/-- On a row with an infinite entry both gradients are zero. -/
theorem chain_eq_inf (N e : ℝ) (hn : 0 < N) (two mhalf : EReal) (u z : Fin n → EReal) (hu : ¬ ∀ k, ∃ r : ℝ, u k = r) (j : Fin n) :
    chain (N : EReal) (e : EReal) two mhalf u z j = back (N : EReal) (e : EReal) u z j := by
  obtain ⟨hv, hr⟩ := rstd_inf N e hn u hu
  unfold chain back
  dsimp only
  rw [hv, hr, EReal.top_add_coe]
  have h0 : Ideal.div 0 ⊤ = 0 := by
    unfold Ideal.div
    rw [if_neg (by simp), zero_mul]
  rw [h0]
  simp [Ideal.div_coe hn.ne']

end Cert.Norm

end
-- ==== Proof.LnBwd.lean ====
module

public import proofs.«01_k».proof.Proof.Gen.Kernel8Ideal.Value
public import proofs.«01_k».proof.Proof.Gen.Reference8Ideal.Run
public import proofs.«01_k».proof.Defs
public import Idealize.ShloMosaic.Lib.Pipeline.ValueKit
public import proofs.«01_k».proof.Proof.Norm

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

namespace Cert.Kernel8Ideal.LnBwd

open Cert.Kernel8Ideal Cert.Kernel8Ideal.Gen Cert.Kernel8Ideal.Value

variable (m : (ℓ : Loc nD τ sig) → Buf (Elt Ideal) ℓ) (ρ : Dev nD → PrngReg)

/-- The norm's input gradient, row by row. -/
def du (dy u : FVec Ideal S4096x1024 .f32) (g : FVec Ideal S1x1024 .f32) : FVec Ideal S4096x1024 .f32 :=
  fun i => Norm.back (Ideal.ofBits FTy.f32 1149239296#32) (Ideal.ofBits FTy.f32 925353388#32) (fun k : Fin 1024 => u (ix2 (i 0) k)) (fun k : Fin 1024 => dy (ix2 (i 0) k) * g (ix2 0 k)) (i 1)

/-- The gain's gradient: the output gradient times the normalised rows, summed over the rows. -/
def dg (dy u : FVec Ideal S4096x1024 .f32) : FVec Ideal S1x1024 .f32 :=
  fun j => ∑ r : Fin 4096, dy (ix2 r (j 1)) * ((u (ix2 r (j 1)) - Norm.mean (Ideal.ofBits FTy.f32 1149239296#32) (fun k : Fin 1024 => u (ix2 r k))) * Norm.rstd (Ideal.ofBits FTy.f32 1149239296#32) (Ideal.ofBits FTy.f32 925353388#32) (fun k : Fin 1024 => u (ix2 r k)))

/-- The bias's gradient: the output gradient summed over the rows. -/
def db (dy : FVec Ideal S4096x1024 .f32) : FVec Ideal S1x1024 .f32 := fun j => ∑ r : Fin 4096, dy (ix2 r (j 1))

theorem idx : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![0, 0] ∧ win0_6.index t = ![0, 0] :=
  (by decide +kernel : ∀ t : Fin grid0.N, _)

theorem out_du (c : Dev nD) (t : Fin cfg0.N) : (outsAt0 m c t.val t.isLt).1
    = k0_pay1 (iblk m c 0 t) (k0_pay6 (iblk m c 1 t)) (k0_pay7 (iblk m c 1 t)) (iblk m c 2 t) := by
  by_cases h : t.val % 8 = 0
  · rw [outsAt0_A m c t h]; frame_out
  · rw [outsAt0_B m c t h]; frame_out

theorem out_db (c : Dev nD) (t : Fin cfg0.N) : (outsAt0 m c t.val t.isLt).2.1
    = k0_pay2 (iblk m c 0 t) (k0_pay6 (iblk m c 1 t)) (k0_pay7 (iblk m c 1 t)) (iblk m c 2 t) := by
  by_cases h : t.val % 8 = 0
  · rw [outsAt0_A m c t h]; frame_out
  · rw [outsAt0_B m c t h]; frame_out

theorem final3 (c : Dev nD) : (dats m 0 c).arrAt 3 cfg0.N = du (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, out_du]
  pointwise [k0_pay1, k0_pay5, k0_pay6, k0_pay7, du, Norm.back, Norm.rstd, Norm.var, Norm.mean]
  blk_point [iblk, V, idx t]

theorem final4 (c : Dev nD) : (dats m 0 c).arrAt 4 cfg0.N = (du (m ((c : Thread nD τ).loc main_arg0)) (m ((c : Thread nD τ).loc main_arg1)) (m ((c : Thread nD τ).loc main_arg2)) : FVec Ideal S4096x1024 .bf16) := by
  refine (dats m 0 c).arrAt_eq_of_covers 4 _ (by decide +kernel) fun t _ y => ?_
  blk_simp
  rw [after0_4, out_db]
  pointwise [k0_pay1, k0_pay2, k0_pay5, k0_pay6, k0_pay7, du, Norm.back, Norm.rstd, Norm.var, Norm.mean]
  blk_point [iblk, V, idx t]

theorem zero3 (j) : k0_pay3 (F := Ideal) j = 0 := by pointwise [k0_pay3]
theorem zero4 (j) : k0_pay4 (F := Ideal) j = 0 := by pointwise [k0_pay4]

theorem acc8 (dy u : FVec Ideal S512x1024 .f32) (a : FVec Ideal S1x1024 .f32) (j) : k0_pay8 (F := Ideal) dy u a j
    = a j + ∑ r : Fin 512, dy (ix2 r (j 1)) * ((u (ix2 r (j 1)) - Norm.mean (Ideal.ofBits FTy.f32 1149239296#32) (fun k : Fin 1024 => u (ix2 r k))) * Norm.rstd (Ideal.ofBits FTy.f32 1149239296#32) (Ideal.ofBits FTy.f32 925353388#32) (fun k : Fin 1024 => u (ix2 r k))) := by
  pointwise [k0_pay8, k0_pay7, k0_pay6, k0_pay5, Norm.rstd, Norm.var, Norm.mean]

theorem acc9 (dy : FVec Ideal S512x1024 .f32) (a : FVec Ideal S1x1024 .f32) (j) : k0_pay9 (F := Ideal) dy a j
    = a j + ∑ r : Fin 512, dy (ix2 r (j 1)) := by
  pointwise [k0_pay9]

theorem final5 (c : Dev nD) : (dats m 0 c).arrAt 5 cfg0.N = dg (m ((c : Thread nD τ).loc main_arg0)) (m ((c : Thread nD τ).loc main_arg1)) := by
  refine (dats m 0 c).arrAt_eq_of_after_last 5 t0_7 (by decide +kernel) _ fun j => ?_
  blk_simp
  rw [after0_5, Pipeline.eq_sum_fin_of_reset_step_apply_last (fun n h => (outsAt0 m c n h).2.2.1) 8 (fun _ => 0) _
    (fun t h j => by rw [outsAt0_A m c t h]; frame_out; rw [acc8, zero3])
    (fun t h j => by rw [outsAt0_B m c t h]; frame_out; rw [acc8])
    (le_of_eq N_0) t0_7 rfl j, zero_add]
  unfold dg
  refine Fin.sum_mul_add_congr fun t k hl => ?_
  unfold Norm.rstd Norm.var Norm.mean
  blk_point [iblk, V, idx t]
  · refine Fin.sum_fin_congr fun x => ?_
    blk_point [V, idx t]
  · blk_point [V, idx t]

theorem final6 (c : Dev nD) : (dats m 0 c).arrAt 6 cfg0.N = db (m ((c : Thread nD τ).loc main_arg0)) := by
  refine (dats m 0 c).arrAt_eq_of_after_last 6 t0_7 (by decide +kernel) _ fun j => ?_
  blk_simp
  rw [after0_6, Pipeline.eq_sum_fin_of_reset_step_apply_last (fun n h => (outsAt0 m c n h).2.2.2) 8 (fun _ => 0) _
    (fun t h j => by rw [outsAt0_A m c t h]; frame_out; rw [acc9, zero4])
    (fun t h j => by rw [outsAt0_B m c t h]; frame_out; rw [acc9])
    (le_of_eq N_0) t0_7 rfl j, zero_add]
  unfold db
  refine Fin.sum_mul_add_congr fun t k hl => ?_
  blk_point [iblk, V, idx t]

end Cert.Kernel8Ideal.LnBwd

end
-- ==== Proof.LnBwdClaim.lean ====
module

public import proofs.«01_k».proof.Proof.LnBwd

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

namespace Cert.Reference8Ideal.LnBwd

open Cert.Reference8Ideal Cert.Reference8Ideal.Gen

/-- The reference's input gradient, step by step. -/
def du (dy u : FVec Ideal S4096x1024 .f32) (g : FVec Ideal S1x1024 .f32) : FVec Ideal S4096x1024 .f32 :=
  fun i => Norm.chain (Ideal.ofBits FTy.f32 1149239296#32) (Ideal.ofBits FTy.f32 925353388#32) (Ideal.ofBits FTy.f32 1073741824#32) (Ideal.ofBits FTy.f32 3204448256#32)
    (fun k : Fin 1024 => u (ix2 (i 0) k)) (fun k : Fin 1024 => dy (ix2 (i 0) k) * g (ix2 0 k)) (i 1)

theorem du_eq (m : (ℓ : Loc nD τ sig) → Buf (Elt Ideal) ℓ) (c : Dev nD) : Value.res_main_v59 m c
    = du (m ((c : Thread nD τ).loc main_arg0)) (m ((c : Thread nD τ).loc main_arg1)) (m ((c : Thread nD τ).loc main_arg2)) := by
  funext i
  unfold Value.res_main_v59
  pointwise [du, Norm.chain, Norm.rstd, Norm.var, Norm.mean]
  simp only [Fin.sum_univ_one]

theorem du_bf_eq (m : (ℓ : Loc nD τ sig) → Buf (Elt Ideal) ℓ) (c : Dev nD) : Value.res_main_v60 m c
    = (du (m ((c : Thread nD τ).loc main_arg0)) (m ((c : Thread nD τ).loc main_arg1)) (m ((c : Thread nD τ).loc main_arg2)) : FVec Ideal S4096x1024 .bf16) := by
  funext i
  unfold Value.res_main_v60
  pointwise [du, Norm.chain, Norm.rstd, Norm.var, Norm.mean]
  simp only [Fin.sum_univ_one]

end Cert.Reference8Ideal.LnBwd

namespace Cert.Kernel8Ideal.LnBwd

open Cert.Kernel8Ideal Cert.Kernel8Ideal.Gen Cert.Kernel8Ideal.Value

/-- The side conditions of the precondition's operations. -/
instance preFacts : Cert.Pre_finite8.Facts where
  bcast_S_S4096x1024 := by decide
  bcast_S_S1x1024 := by decide

/-- A value whose absolute value is below infinity is a real number. -/
theorem real_of_abs (x : EReal) (h : Ideal.cmp .olt (max x (-x)) ⊤ = 1#1) : ∃ r : ℝ, x = r := by
  have h2 : max x (-x) < ⊤ := by
    by_contra hn
    simp [Ideal.cmp, hn] at h
  refine ⟨x.toReal, (EReal.coe_toReal ?_ ?_).symm⟩
  · rintro rfl
    simp at h2
  · rintro rfl
    simp at h2

theorem pre_real (s : Shape) (hb : Cert.Pre_finite8.S_.BroadcastsInDim s (![] : Fin 0 → Fin s.rank)) (x : FVec Ideal s .f32)
    (h : cmpf .olt (Host.absf x) (broadcastInDim s ![] hb (constant Cert.Pre_finite8.S_ .f32 0x7F800000#32)) = fun _ => 1#1) (i : s.Idx) : ∃ r : ℝ, x i = r := by
  refine real_of_abs (x i) ?_
  have h1 := congrFun h i
  have h3 : Ideal.ofBits FTy.f32 0x7F800000#32 = ⊤ := by simp [Ideal.ofBits, Ideal.ieee]
  rw [← h3]
  exact h1

theorem bits_N : Ideal.ofBits FTy.f32 1149239296#32 = ((1024 : ℝ) : EReal) := by
  simp [Ideal.ofBits, Ideal.ieee]
  rw [← EReal.coe_mul]; norm_num

theorem bits_two : Ideal.ofBits FTy.f32 1073741824#32 = ((2 : ℝ) : EReal) := by
  simp [Ideal.ofBits, Ideal.ieee]
  rw [← EReal.coe_mul]; norm_num

theorem bits_mhalf : Ideal.ofBits FTy.f32 3204448256#32 = ((-(1 / 2) : ℝ) : EReal) := by
  simp [Ideal.ofBits, Ideal.ieee]
  rw [← EReal.coe_mul]; norm_num

theorem bits_E : Ideal.ofBits FTy.f32 925353388#32 = ((10995116 / 1099511627776 : ℝ) : EReal) := by
  simp [Ideal.ofBits, Ideal.ieee]
  rw [← EReal.coe_mul]; norm_num

open Cert.Reference8Ideal.LnBwd in
theorem ref_eq (dy u : FVec Ideal S4096x1024 .f32) (g : FVec Ideal S1x1024 .f32) (hd : ∀ i, ∃ r : ℝ, dy i = r) (hg : ∀ i, ∃ r : ℝ, g i = r) :
    Cert.Reference8Ideal.LnBwd.du dy u g = du dy u g := by
  funext i
  choose d hd using hd
  choose w hw using hg
  unfold Cert.Reference8Ideal.LnBwd.du du
  have hz : (fun k : Fin 1024 => dy (ix2 (i 0) k) * g (ix2 0 k)) = fun k : Fin 1024 => ((d (ix2 (i 0) k) * w (ix2 0 k) : ℝ) : EReal) := by
    funext k
    rw [hd, hw, ← EReal.coe_mul]
  rw [hz, bits_N, bits_two, bits_mhalf, bits_E]
  by_cases hu : ∀ k : Fin 1024, ∃ r : ℝ, u (ix2 (i 0) k) = r
  · choose v hv using hu
    rw [show (fun k : Fin 1024 => u (ix2 (i 0) k)) = fun k : Fin 1024 => ((v k : ℝ) : EReal) from funext hv]
    exact Norm.chain_eq 1024 _ (by norm_num) (by norm_num) (by norm_num) (by norm_num) _ _ _
  · exact Norm.chain_eq_inf 1024 _ (by norm_num) _ _ _ _ hu _

theorem algebraic : Cert.algebraic_Kernel8Ideal_Reference8Ideal_pre_finite8 := by
  intro m g m' g' hpre hargs
  refine ⟨fun c => du (m ((c : Thread nD τ).loc main_arg0)) (m ((c : Thread nD τ).loc main_arg1)) (m ((c : Thread nD τ).loc main_arg2)),
    fun c => du (m ((c : Thread nD τ).loc main_arg0)) (m ((c : Thread nD τ).loc main_arg1)) (m ((c : Thread nD τ).loc main_arg2)),
    fun c => dg (m ((c : Thread nD τ).loc main_arg0)) (m ((c : Thread nD τ).loc main_arg1)), fun c => db (m ((c : Thread nD τ).loc main_arg0)), ?_, ?_⟩
  · refine (θ_run defs _ _).mono (fun r h c => ?_) (run_main m g)
    exact ⟨(post3 m r h c).trans (final3 m c), (post4 m r h c).trans (final4 m c), (post5 m r h c).trans (final5 m c), (post6 m r h c).trans (final6 m c),
      kept_main_arg0 m r h c, kept_main_arg1 m r h c, kept_main_arg2 m r h c⟩
  · refine (θ_run Reference8Ideal.defs _ _).mono (fun r h c => ?_) (Cert.Reference8Ideal.Value.run m' g')
    obtain ⟨h0, h1, h2, h3, ha⟩ := h c
    obtain ⟨e0, e1, e2⟩ := hargs c
    obtain ⟨p0, p2⟩ := hpre c
    have k := ref_eq _ (m ((c : Thread nD τ).loc main_arg1)) _ (pre_real _ _ _ p0) (pre_real _ _ _ p2)
    refine ⟨h0.trans ?_, h1.trans ?_, h2.trans ?_, h3.trans ?_, ha⟩
    · rw [Cert.Reference8Ideal.LnBwd.du_eq, e0, e1, e2]
      exact k
    · refine (Cert.Reference8Ideal.LnBwd.du_bf_eq m' c).trans ?_
      rw [e0, e1, e2]
      exact k
    · rw [e0, e1]
      funext j
      pointwise [dg, Norm.rstd, Norm.var, Norm.mean]
      refine Finset.sum_congr rfl fun x _ => ?_
      rw [mul_comm]
    · rw [e0]
      funext j
      pointwise [db]

end Cert.Kernel8Ideal.LnBwd

end
-- ==== Proof.SguFwd.lean ====
module

public import proofs.«01_k».proof.Proof.Gen.Kernel9Ideal.Value
public import proofs.«01_k».proof.Proof.Gen.Reference9Ideal.Run
public import proofs.«01_k».proof.Defs
public import Idealize.ShloMosaic.Lib.Pipeline.ValueKit
public import proofs.«01_k».proof.Proof.Norm

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

namespace Cert.Kernel9Ideal.SguFwd

open Cert.Kernel9Ideal Cert.Kernel9Ideal.Gen Cert.Kernel9Ideal.Value

variable (m : (ℓ : Loc nD τ sig) → Buf (Elt Ideal) ℓ) (ρ : Dev nD → PrngReg)

/-- The tanh form of the gelu, on a number. -/
def gelu (x : EReal) : EReal :=
  x * (Ideal.ofBits FTy.f32 1056964608#32 * (1 + Ideal.tanh (Ideal.ofBits FTy.f32 1061962282#32 * (x + Ideal.ofBits FTy.f32 1027024659#32 * (x * x * x)))))

/-- An entry of the lower triangle is kept, one above it is zero. -/
def low (r k : Fin 128) (x : EReal) : EReal := Scalar.select (IntOp.cmpi CmpIPredicate.sge (BitVec.ofNat 32 r.val) (BitVec.ofNat 32 k.val)) x 0

/-- Entry `j` of the layer norm of the gelu of a row. -/
def nrm (u g b : Fin 512 → EReal) (j : Fin 512) : EReal :=
  (gelu (u j) - Norm.mean (Ideal.ofBits FTy.f32 1140850688#32) (fun k => gelu (u k)))
    * Norm.rstd (Ideal.ofBits FTy.f32 1140850688#32) (Ideal.ofBits FTy.f32 925353388#32) (fun k => gelu (u k)) * g j + b j

def tri (w : FVec Ideal S1x128x128 .f32) : FVec Ideal S128x128 .bf16 := fun i => low (i 0) (i 1) (w (ix3 0 (i 0) (i 1)))

def gl (x : FVec Ideal S128x512 .f32) : FVec Ideal S128x512 .f32 := fun i => gelu (x i)

def nr (x : FVec Ideal S128x512 .f32) (g b : FVec Ideal S1x512 .f32) : FVec Ideal S128x512 .f32 :=
  fun i => nrm (fun k => x (ix2 (i 0) k)) (fun k => g (ix2 0 k)) (fun k => b (ix2 0 k)) (i 1)

/-- The gated product of one chunk and one group, whose columns start at `o`. -/
def tile (w : FVec Ideal S128x128 .bf16) (u v : FVec Ideal S128x512 .f32) (b : FVec Ideal S1x128x1 .f32) (o : ℕ) (ho : o ≤ 384) : FVec Ideal S128x128 .f32 :=
  fun i => u (ix2 (i 0) ⟨o + (i 1).val, by have : (i 1).val < 128 := (i 1).isLt; omega⟩)
    * ((∑ k : Fin 128, w (ix2 (i 0) k) * v (ix2 k ⟨o + (i 1).val, by have : (i 1).val < 128 := (i 1).isLt; omega⟩)) + b (ix3 0 (i 0) 0))

theorem mk1 (w : FVec Ideal S1x128x128 .f32) : k0_pay1 (F := Ideal) w = tri w := by
  funext i
  pointwise [k0_pay1, tri, low]

theorem mk2 (w : FVec Ideal S1x128x128 .f32) : k0_pay2 (F := Ideal) w = tri w := by
  funext i
  pointwise [k0_pay2, tri, low]

theorem mk3 (w : FVec Ideal S1x128x128 .f32) : k0_pay3 (F := Ideal) w = tri w := by
  funext i
  pointwise [k0_pay3, tri, low]

theorem mk4 (w : FVec Ideal S1x128x128 .f32) : k0_pay4 (F := Ideal) w = tri w := by
  funext i
  pointwise [k0_pay4, tri, low]

theorem u0 (x : FVec Ideal S128x512 .f32) : k0_pay7 (F := Ideal) x (k0_pay5 x) k0_pay6 = gl x := by
  funext i
  pointwise [k0_pay7, k0_pay6, k0_pay5, gl, gelu]

theorem u1 (x : FVec Ideal S128x512 .f32) : k0_pay16 (F := Ideal) x = gl x := by
  funext i
  pointwise [k0_pay16, gl, gelu]

theorem u2 (x : FVec Ideal S128x512 .f32) : k0_pay26 (F := Ideal) x = gl x := by
  funext i
  pointwise [k0_pay26, gl, gelu]

theorem u3 (x : FVec Ideal S128x512 .f32) : k0_pay35 (F := Ideal) x = gl x := by
  funext i
  pointwise [k0_pay35, gl, gelu]

theorem v0 (x : FVec Ideal S128x512 .f32) (g b : FVec Ideal S1x512 .f32) : k0_pay8 (F := Ideal) x g b = nr x g b := by
  funext i
  pointwise [k0_pay8, nr, nrm, Norm.rstd, Norm.var, Norm.mean, gelu]

theorem v1 (x : FVec Ideal S128x512 .f32) (g b : FVec Ideal S1x512 .f32) : k0_pay19 (F := Ideal) (k0_pay17 x) (k0_pay18 x) g b = nr x g b := by
  funext i
  pointwise [k0_pay19, k0_pay18, k0_pay17, nr, nrm, Norm.rstd, Norm.var, Norm.mean, gelu]

theorem v2 (x : FVec Ideal S128x512 .f32) (g b : FVec Ideal S1x512 .f32) : k0_pay28 (F := Ideal) x (k0_pay27 x) g b = nr x g b := by
  funext i
  pointwise [k0_pay28, k0_pay27, nr, nrm, Norm.rstd, Norm.var, Norm.mean, gelu]

theorem v3 (x : FVec Ideal S128x512 .f32) (g b : FVec Ideal S1x512 .f32) : k0_pay36 (F := Ideal) x g b = nr x g b := by
  funext i
  pointwise [k0_pay36, nr, nrm, Norm.rstd, Norm.var, Norm.mean, gelu]

theorem t10 (w : FVec Ideal S128x128 .bf16) (u : FVec Ideal S128x512 .f32) (v : FVec Ideal S128x512 .f32) (b : FVec Ideal S1x128x1 .f32) (i : S128x128.Idx) : k0_pay10 (F := Ideal) w u v b i = tile w u v b 0 (by omega) i := by
  pointwise [k0_pay10, k0_pay9, tile]

theorem t11 (w : FVec Ideal S128x128 .bf16) (u : FVec Ideal S128x512 .f32) (v : FVec Ideal S128x512 .f32) (b : FVec Ideal S1x128x1 .f32) (i : S128x128.Idx) : k0_pay11 (F := Ideal) w u v b i = tile w u v b 128 (by omega) i := by
  pointwise [k0_pay11, k0_pay9, tile]

theorem t12 (w : FVec Ideal S128x128 .bf16) (u : FVec Ideal S128x512 .f32) (v : FVec Ideal S128x512 .f32) (b : FVec Ideal S1x128x1 .f32) (i : S128x128.Idx) : k0_pay12 (F := Ideal) w u v b i = tile w u v b 256 (by omega) i := by
  pointwise [k0_pay12, k0_pay9, tile]

theorem t15 (w : FVec Ideal S128x128 .bf16) (u : FVec Ideal S128x512 .f32) (v : FVec Ideal S128x512 .f32) (b : FVec Ideal S1x128x1 .f32) (i : S128x128.Idx) : k0_pay15 (F := Ideal) (k0_pay13 u) (k0_pay14 w v b) i = tile w u v b 384 (by omega) i := by
  pointwise [k0_pay15, k0_pay14, k0_pay13, k0_pay9, tile]

theorem t20 (w : FVec Ideal S128x128 .bf16) (u : FVec Ideal S128x512 .f32) (p : FVec Ideal S128x512 .f32) (q : FVec Ideal S128x1 .f32) (g d : FVec Ideal S1x512 .f32) (b : FVec Ideal S1x128x1 .f32) (i : S128x128.Idx) : k0_pay20 (F := Ideal) w u p q g d b i = tile w u (k0_pay19 p q g d) b 0 (by omega) i := by
  pointwise [k0_pay20, tile]

theorem t21 (w : FVec Ideal S128x128 .bf16) (u : FVec Ideal S128x512 .f32) (p : FVec Ideal S128x512 .f32) (q : FVec Ideal S128x1 .f32) (g d : FVec Ideal S1x512 .f32) (b : FVec Ideal S1x128x1 .f32) (i : S128x128.Idx) : k0_pay21 (F := Ideal) w u p q g d b i = tile w u (k0_pay19 p q g d) b 128 (by omega) i := by
  pointwise [k0_pay21, tile]

theorem t24 (w : FVec Ideal S128x128 .bf16) (u : FVec Ideal S128x512 .f32) (p : FVec Ideal S128x512 .f32) (q : FVec Ideal S128x1 .f32) (g d : FVec Ideal S1x512 .f32) (b : FVec Ideal S1x128x1 .f32) (i : S128x128.Idx) : k0_pay24 (F := Ideal) (k0_pay22 u) (k0_pay23 w p q g d b) i = tile w u (k0_pay19 p q g d) b 256 (by omega) i := by
  pointwise [k0_pay24, k0_pay23, k0_pay22, tile]

theorem t25 (w : FVec Ideal S128x128 .bf16) (u : FVec Ideal S128x512 .f32) (v : FVec Ideal S128x512 .bf16) (b : FVec Ideal S1x128x1 .f32) (i : S128x128.Idx) : k0_pay25 (F := Ideal) w u v b i = tile w u v b 384 (by omega) i := by
  pointwise [k0_pay25, tile]

theorem t29 (w : FVec Ideal S128x128 .bf16) (u : FVec Ideal S128x512 .f32) (p q : FVec Ideal S128x512 .f32) (g d : FVec Ideal S1x512 .f32) (b : FVec Ideal S1x128x1 .f32) (i : S128x128.Idx) : k0_pay29 (F := Ideal) w u p q g d b i = tile w u (k0_pay28 p q g d) b 0 (by omega) i := by
  pointwise [k0_pay29, tile]

theorem t32 (w : FVec Ideal S128x128 .bf16) (u : FVec Ideal S128x512 .f32) (p q : FVec Ideal S128x512 .f32) (g d : FVec Ideal S1x512 .f32) (b : FVec Ideal S1x128x1 .f32) (i : S128x128.Idx) : k0_pay32 (F := Ideal) (k0_pay30 u) (k0_pay31 w p q g d b) i = tile w u (k0_pay28 p q g d) b 128 (by omega) i := by
  pointwise [k0_pay32, k0_pay31, k0_pay30, tile]

theorem t33 (w : FVec Ideal S128x128 .bf16) (u : FVec Ideal S128x512 .f32) (v : FVec Ideal S128x512 .bf16) (b : FVec Ideal S1x128x1 .f32) (i : S128x128.Idx) : k0_pay33 (F := Ideal) w u v b i = tile w u v b 256 (by omega) i := by
  pointwise [k0_pay33, tile]

theorem t34 (w : FVec Ideal S128x128 .bf16) (u : FVec Ideal S128x512 .f32) (v : FVec Ideal S128x512 .bf16) (b : FVec Ideal S1x128x1 .f32) (i : S128x128.Idx) : k0_pay34 (F := Ideal) w u v b i = tile w u v b 384 (by omega) i := by
  pointwise [k0_pay34, tile]

theorem t39 (w : FVec Ideal S128x128 .bf16) (u : FVec Ideal S128x512 .f32) (p : FVec Ideal S128x512 .f32) (g d : FVec Ideal S1x512 .f32) (b : FVec Ideal S1x128x1 .f32) (i : S128x128.Idx) : k0_pay39 (F := Ideal) (k0_pay37 u) (k0_pay38 w p g d b) i = tile w u (k0_pay36 (F := Ideal) p g d) b 0 (by omega) i := by
  pointwise [k0_pay39, k0_pay38, k0_pay37, tile]

theorem t40 (w : FVec Ideal S128x128 .bf16) (u : FVec Ideal S128x512 .f32) (v : FVec Ideal S128x512 .bf16) (b : FVec Ideal S1x128x1 .f32) (i : S128x128.Idx) : k0_pay40 (F := Ideal) w u v b i = tile w u v b 128 (by omega) i := by
  pointwise [k0_pay40, tile]

theorem t41 (w : FVec Ideal S128x128 .bf16) (u : FVec Ideal S128x512 .f32) (v : FVec Ideal S128x512 .bf16) (b : FVec Ideal S1x128x1 .f32) (i : S128x128.Idx) : k0_pay41 (F := Ideal) w u v b i = tile w u v b 256 (by omega) i := by
  pointwise [k0_pay41, tile]

theorem t42 (w : FVec Ideal S128x128 .bf16) (u : FVec Ideal S128x512 .f32) (v : FVec Ideal S128x512 .bf16) (b : FVec Ideal S1x128x1 .f32) (i : S128x128.Idx) : k0_pay42 (F := Ideal) w u v b i = tile w u v b 384 (by omega) i := by
  pointwise [k0_pay42, tile]

/-- One grid point's block of the result, from the blocks it reads. -/
def blkT (x0 x1 : FVec Ideal S512x512 .f32) (x2 x3 : FVec Ideal S1x512 .f32) (x4 : FVec Ideal S4x128x128 .f32) (x5 : FVec Ideal S4x128x1 .f32) : FVec Ideal S512x512 .f32 :=
  fun y => gelu (x0 y)
    * ((∑ k : Fin 128, low ⟨(y 0).val % 128, by omega⟩ k (x4 (ix3 ⟨(y 1).val / 128, by have : (y 1).val < 512 := (y 1).isLt; omega⟩ ⟨(y 0).val % 128, by omega⟩ k))
        * nrm (fun l => x1 (ix2 ⟨(y 0).val / 128 * 128 + k.val, by have : (y 0).val < 512 := (y 0).isLt; omega⟩ l)) (fun l => x2 (ix2 0 l)) (fun l => x3 (ix2 0 l)) (y 1))
      + x5 (ix3 ⟨(y 1).val / 128, by have : (y 1).val < 512 := (y 1).isLt; omega⟩ ⟨(y 0).val % 128, by omega⟩ 0))

theorem blk_at (x0 x1 : FVec Ideal S512x512 .f32) (x2 x3 : FVec Ideal S1x512 .f32) (x4 : FVec Ideal S4x128x128 .f32) (x5 : FVec Ideal S4x128x1 .f32)
    (X0 X1 : FVec Ideal S128x512 .f32) (X2 X3 : FVec Ideal S1x512 .f32) (W : FVec Ideal S1x128x128 .f32) (B : FVec Ideal S1x128x1 .f32)
    (ro co : ℕ) (hro : ro % 128 = 0) (hco : co % 128 = 0) (ho : co ≤ 384) (y : S512x512.Idx) (x : S128x128.Idx)
    (h0 : (y 0).val = ro + (x 0).val) (h1 : (y 1).val = co + (x 1).val)
    (e0 : ∀ (i : S128x512.Idx) (j : S512x512.Idx), (j 0).val = ro + (i 0).val → (j 1).val = (i 1).val → X0 i = x0 j)
    (e1 : ∀ (i : S128x512.Idx) (j : S512x512.Idx), (j 0).val = ro + (i 0).val → (j 1).val = (i 1).val → X1 i = x1 j)
    (e2 : ∀ k : Fin 512, X2 (ix2 0 k) = x2 (ix2 0 k)) (e3 : ∀ k : Fin 512, X3 (ix2 0 k) = x3 (ix2 0 k))
    (e4 : ∀ (i : S1x128x128.Idx) (j : S4x128x128.Idx), (j 0).val = co / 128 → (j 1).val = (i 1).val → (j 2).val = (i 2).val → W i = x4 j)
    (e5 : ∀ (i : S1x128x1.Idx) (j : S4x128x1.Idx), (j 0).val = co / 128 → (j 1).val = (i 1).val → B i = x5 j) :
    tile (tri W) (gl X0) (nr X1 X2 X3) B co ho x = blkT x0 x1 x2 x3 x4 x5 y := by
  have hx0 : (x 0).val < 128 := (x 0).isLt
  have hx1 : (x 1).val < 128 := (x 1).isLt
  have hr : (y 0).val % 128 = (x 0).val := by omega
  have hc : (y 1).val / 128 = co / 128 := by omega
  have hq : (y 0).val / 128 * 128 = ro := by omega
  unfold tile tri gl nr blkT
  dsimp only
  refine congrArg₂ (· * ·) (congrArg gelu (e0 _ _ h0 h1)) (congrArg₂ (· + ·) (Fin.sum_fin_congr fun k => congrArg₂ (· * ·) ?_ ?_) ?_)
  · refine congrArg₂ (fun r z => low r k z) (Fin.ext hr.symm) (e4 _ _ hc hr rfl)
  · have a : (⟨co + (x 1).val, by omega⟩ : Fin 512) = y 1 := Fin.ext h1.symm
    have b : ∀ l : Fin 512, X1 (ix2 k l) = x1 (ix2 ⟨(y 0).val / 128 * 128 + k.val, by have : (y 0).val < 512 := (y 0).isLt; omega⟩ l) :=
      fun l => e1 _ _ (congrArg (· + k.val) hq) rfl
    show nrm (fun l => X1 (ix2 k l)) (fun l => X2 (ix2 0 l)) (fun l => X3 (ix2 0 l)) ⟨co + (x 1).val, by omega⟩ = _
    rw [a, funext b, funext e2, funext e3]
  · exact e5 _ _ hc hr

theorem ld_row (ro : ℕ) (h) (x : FVec Ideal S512x512 .f32) (i : S128x512.Idx) (j : S512x512.Idx) (h0 : (j 0).val = ro + (i 0).val) (h1 : (j 1).val = (i 1).val) :
    View.ld (Val := Elt Ideal) (e' := .f32) x (Rect.unit (s := S512x512) ![ro, 0] S128x512.size h) i = x j := by
  refine View.ld_unit_apply_of _ _ _ _ _ _ (Fin.forall_fin_two.mpr ⟨h0, h1.trans (Nat.zero_add _).symm⟩)

theorem ld_all (h) (x : FVec Ideal S1x512 .f32) (k : Fin 512) :
    View.ld (Val := Elt Ideal) (e' := .f32) x (Rect.unit (s := S1x512) ![0, 0] S1x512.size h) (ix2 0 k) = x (ix2 0 k) := by
  refine View.ld_unit_apply_of _ _ _ _ _ _ (Fin.forall_fin_two.mpr ⟨(Nat.zero_add _).symm, (Nat.zero_add _).symm⟩)

theorem ld_w (g : ℕ) (h) (x : FVec Ideal S4x128x128 .f32) (i : S1x128x128.Idx) (j : S4x128x128.Idx) (h0 : (j 0).val = g) (h1 : (j 1).val = (i 1).val)
    (h2 : (j 2).val = (i 2).val) : View.ld (Val := Elt Ideal) (e' := .f32) x (Rect.unit (s := S4x128x128) ![g, 0, 0] S1x128x128.size h) i = x j := by
  have hi : (i 0).val < 1 := (i 0).isLt
  refine View.ld_unit_apply_of _ _ _ _ _ _ fun q => ?_
  fin_cases q
  · exact h0.trans (by show g = g + (i 0).val; omega)
  · exact h1.trans (Nat.zero_add _).symm
  · exact h2.trans (Nat.zero_add _).symm

theorem ld_b (g : ℕ) (h) (x : FVec Ideal S4x128x1 .f32) (i : S1x128x1.Idx) (j : S4x128x1.Idx) (h0 : (j 0).val = g) (h1 : (j 1).val = (i 1).val) :
    View.ld (Val := Elt Ideal) (e' := .f32) x (Rect.unit (s := S4x128x1) ![g, 0, 0] S1x128x1.size h) i = x j := by
  have hi : (i 0).val < 1 := (i 0).isLt
  have hi2 : (i 2).val < 1 := (i 2).isLt
  have hj2 : (j 2).val < 1 := (j 2).isLt
  refine View.ld_unit_apply_of _ _ _ _ _ _ fun q => ?_
  fin_cases q
  · exact h0.trans (by show g = g + (i 0).val; omega)
  · exact h1.trans (Nat.zero_add _).symm
  · show (j 2).val = 0 + (i 2).val
    omega

theorem out_eq (x0 x1 : FVec Ideal S512x512 .f32) (x2 x3 : FVec Ideal S1x512 .f32) (x4 : FVec Ideal S4x128x128 .f32) (x5 : FVec Ideal S4x128x1 .f32) (y) :
    out0_6 (F := Ideal) x0 x1 x2 x3 x4 x5 y = blkT x0 x1 x2 x3 x4 x5 y := by
  unfold_out out0_6
  simp only [mk1, mk2, mk3, mk4]
  canon_tiles x h
  case piece0 =>
    rw [t42, u3, v3]
    exact blk_at _ _ _ _ _ _ _ _ _ _ _ _ 384 384 rfl rfl _ y x (by omega) (by omega)
      (fun i j a b => ld_row 384 _ _ i j a b) (fun i j a b => ld_row 384 _ _ i j a b) (fun k => ld_all _ _ k) (fun k => ld_all _ _ k)
      (fun i j a b d => ld_w 3 _ _ i j a b d) (fun i j a b => ld_b 3 _ _ i j a b)
  case piece1 =>
    rw [t41, u3, v3]
    exact blk_at _ _ _ _ _ _ _ _ _ _ _ _ 384 256 rfl rfl _ y x (by omega) (by omega)
      (fun i j a b => ld_row 384 _ _ i j a b) (fun i j a b => ld_row 384 _ _ i j a b) (fun k => ld_all _ _ k) (fun k => ld_all _ _ k)
      (fun i j a b d => ld_w 2 _ _ i j a b d) (fun i j a b => ld_b 2 _ _ i j a b)
  case piece2 =>
    rw [t40, u3, v3]
    exact blk_at _ _ _ _ _ _ _ _ _ _ _ _ 384 128 rfl rfl _ y x (by omega) (by omega)
      (fun i j a b => ld_row 384 _ _ i j a b) (fun i j a b => ld_row 384 _ _ i j a b) (fun k => ld_all _ _ k) (fun k => ld_all _ _ k)
      (fun i j a b d => ld_w 1 _ _ i j a b d) (fun i j a b => ld_b 1 _ _ i j a b)
  case piece3 =>
    rw [t39, u3, v3]
    exact blk_at _ _ _ _ _ _ _ _ _ _ _ _ 384 0 rfl rfl _ y x (by omega) (by omega)
      (fun i j a b => ld_row 384 _ _ i j a b) (fun i j a b => ld_row 384 _ _ i j a b) (fun k => ld_all _ _ k) (fun k => ld_all _ _ k)
      (fun i j a b d => ld_w 0 _ _ i j a b d) (fun i j a b => ld_b 0 _ _ i j a b)
  case piece4 =>
    rw [t34, u2, v2]
    exact blk_at _ _ _ _ _ _ _ _ _ _ _ _ 256 384 rfl rfl _ y x (by omega) (by omega)
      (fun i j a b => ld_row 256 _ _ i j a b) (fun i j a b => ld_row 256 _ _ i j a b) (fun k => ld_all _ _ k) (fun k => ld_all _ _ k)
      (fun i j a b d => ld_w 3 _ _ i j a b d) (fun i j a b => ld_b 3 _ _ i j a b)
  case piece5 =>
    rw [t33, u2, v2]
    exact blk_at _ _ _ _ _ _ _ _ _ _ _ _ 256 256 rfl rfl _ y x (by omega) (by omega)
      (fun i j a b => ld_row 256 _ _ i j a b) (fun i j a b => ld_row 256 _ _ i j a b) (fun k => ld_all _ _ k) (fun k => ld_all _ _ k)
      (fun i j a b d => ld_w 2 _ _ i j a b d) (fun i j a b => ld_b 2 _ _ i j a b)
  case piece6 =>
    rw [t32, u2, v2]
    exact blk_at _ _ _ _ _ _ _ _ _ _ _ _ 256 128 rfl rfl _ y x (by omega) (by omega)
      (fun i j a b => ld_row 256 _ _ i j a b) (fun i j a b => ld_row 256 _ _ i j a b) (fun k => ld_all _ _ k) (fun k => ld_all _ _ k)
      (fun i j a b d => ld_w 1 _ _ i j a b d) (fun i j a b => ld_b 1 _ _ i j a b)
  case piece7 =>
    rw [t29, u2, v2]
    exact blk_at _ _ _ _ _ _ _ _ _ _ _ _ 256 0 rfl rfl _ y x (by omega) (by omega)
      (fun i j a b => ld_row 256 _ _ i j a b) (fun i j a b => ld_row 256 _ _ i j a b) (fun k => ld_all _ _ k) (fun k => ld_all _ _ k)
      (fun i j a b d => ld_w 0 _ _ i j a b d) (fun i j a b => ld_b 0 _ _ i j a b)
  case piece8 =>
    rw [t25, u1, v1]
    exact blk_at _ _ _ _ _ _ _ _ _ _ _ _ 128 384 rfl rfl _ y x (by omega) (by omega)
      (fun i j a b => ld_row 128 _ _ i j a b) (fun i j a b => ld_row 128 _ _ i j a b) (fun k => ld_all _ _ k) (fun k => ld_all _ _ k)
      (fun i j a b d => ld_w 3 _ _ i j a b d) (fun i j a b => ld_b 3 _ _ i j a b)
  case piece9 =>
    rw [t24, u1, v1]
    exact blk_at _ _ _ _ _ _ _ _ _ _ _ _ 128 256 rfl rfl _ y x (by omega) (by omega)
      (fun i j a b => ld_row 128 _ _ i j a b) (fun i j a b => ld_row 128 _ _ i j a b) (fun k => ld_all _ _ k) (fun k => ld_all _ _ k)
      (fun i j a b d => ld_w 2 _ _ i j a b d) (fun i j a b => ld_b 2 _ _ i j a b)
  case piece10 =>
    rw [t21, u1, v1]
    exact blk_at _ _ _ _ _ _ _ _ _ _ _ _ 128 128 rfl rfl _ y x (by omega) (by omega)
      (fun i j a b => ld_row 128 _ _ i j a b) (fun i j a b => ld_row 128 _ _ i j a b) (fun k => ld_all _ _ k) (fun k => ld_all _ _ k)
      (fun i j a b d => ld_w 1 _ _ i j a b d) (fun i j a b => ld_b 1 _ _ i j a b)
  case piece11 =>
    rw [t20, u1, v1]
    exact blk_at _ _ _ _ _ _ _ _ _ _ _ _ 128 0 rfl rfl _ y x (by omega) (by omega)
      (fun i j a b => ld_row 128 _ _ i j a b) (fun i j a b => ld_row 128 _ _ i j a b) (fun k => ld_all _ _ k) (fun k => ld_all _ _ k)
      (fun i j a b d => ld_w 0 _ _ i j a b d) (fun i j a b => ld_b 0 _ _ i j a b)
  case piece12 =>
    rw [t15, u0, v0]
    exact blk_at _ _ _ _ _ _ _ _ _ _ _ _ 0 384 rfl rfl _ y x (by omega) (by omega)
      (fun i j a b => ld_row 0 _ _ i j a b) (fun i j a b => ld_row 0 _ _ i j a b) (fun k => ld_all _ _ k) (fun k => ld_all _ _ k)
      (fun i j a b d => ld_w 3 _ _ i j a b d) (fun i j a b => ld_b 3 _ _ i j a b)
  case piece13 =>
    rw [t12, u0, v0]
    exact blk_at _ _ _ _ _ _ _ _ _ _ _ _ 0 256 rfl rfl _ y x (by omega) (by omega)
      (fun i j a b => ld_row 0 _ _ i j a b) (fun i j a b => ld_row 0 _ _ i j a b) (fun k => ld_all _ _ k) (fun k => ld_all _ _ k)
      (fun i j a b d => ld_w 2 _ _ i j a b d) (fun i j a b => ld_b 2 _ _ i j a b)
  case piece14 =>
    rw [t11, u0, v0]
    exact blk_at _ _ _ _ _ _ _ _ _ _ _ _ 0 128 rfl rfl _ y x (by omega) (by omega)
      (fun i j a b => ld_row 0 _ _ i j a b) (fun i j a b => ld_row 0 _ _ i j a b) (fun k => ld_all _ _ k) (fun k => ld_all _ _ k)
      (fun i j a b d => ld_w 1 _ _ i j a b d) (fun i j a b => ld_b 1 _ _ i j a b)
  case piece15 =>
    rw [t10, u0, v0]
    exact blk_at _ _ _ _ _ _ _ _ _ _ _ _ 0 0 rfl rfl _ y x (by omega) (by omega)
      (fun i j a b => ld_row 0 _ _ i j a b) (fun i j a b => ld_row 0 _ _ i j a b) (fun k => ld_all _ _ k) (fun k => ld_all _ _ k)
      (fun i j a b d => ld_w 0 _ _ i j a b d) (fun i j a b => ld_b 0 _ _ i j a b)

/-- The spatial gating unit: each chunk of 128 rows is mixed by a group's lower-triangular matrix, shifted and gated. -/
def sgu (p : FVec Ideal S4096x7680 .f32) (g b : FVec Ideal S1x512 .f32) (w : FVec Ideal S4x128x128 .f32) (s : FVec Ideal S4x128x1 .f32) : FVec Ideal S4096x512 .f32 :=
  fun y => gelu (p (ix2 (y 0) ⟨3584 + (y 1).val, by have : (y 1).val < 512 := (y 1).isLt; omega⟩))
    * ((∑ k : Fin 128, low ⟨(y 0).val % 128, by omega⟩ k (w (ix3 ⟨(y 1).val / 128, by have : (y 1).val < 512 := (y 1).isLt; omega⟩ ⟨(y 0).val % 128, by omega⟩ k))
        * nrm (fun l => p (ix2 ⟨(y 0).val / 128 * 128 + k.val, by have : (y 0).val < 4096 := (y 0).isLt; omega⟩ ⟨4096 + l.val, by omega⟩)) (fun l => g (ix2 0 l)) (fun l => b (ix2 0 l)) (y 1))
      + s (ix3 ⟨(y 1).val / 128, by have : (y 1).val < 512 := (y 1).isLt; omega⟩ ⟨(y 0).val % 128, by omega⟩ 0))

theorem idx : ∀ t : Fin cfg0.N, win0_0.index t = ![t.val, 7] ∧ win0_1.index t = ![t.val, 8] ∧ win0_2.index t = ![0, 0] ∧ win0_3.index t = ![0, 0]
    ∧ win0_4.index t = ![0, 0, 0] ∧ win0_5.index t = ![0, 0, 0] ∧ win0_6.index t = ![t.val, 0] :=
  (by decide +kernel : ∀ t : Fin grid0.N, _)

theorem final6 (c : Dev nD) : (dats m 0 c).arrAt 6 cfg0.N = sgu (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  have ht : t.val < 8 := lt_of_lt_of_eq t.isLt N_0
  blk_simp
  rw [after0_6, out_eq]
  unfold blkT sgu
  blk_point [iblk, V, idx t]
  exact Fin.ext (by show (y 0).val % 128 = (t.val * 512 + (y 0).val) % 128; omega)

end Cert.Kernel9Ideal.SguFwd

end
-- ==== Proof.SguFwdClaim.lean ====
module

public import proofs.«01_k».proof.Proof.Gen.Kernel9Ideal.Value
public import proofs.«01_k».proof.Proof.Gen.Reference9Ideal.Run
public import proofs.«01_k».proof.Defs
public import Idealize.ShloMosaic.Lib.Pipeline.ValueKit
public import proofs.«01_k».proof.Proof.Norm
public import proofs.«01_k».proof.Proof.SguFwd

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

namespace Cert.Reference9Ideal.SguFwd

open Cert.Reference9Ideal Cert.Reference9Ideal.Gen
open Cert.Kernel9Ideal.SguFwd (sgu nrm gelu low)

theorem sel_mul (c : BitVec 1) (a w : EReal) : Scalar.select (α := EReal) c (a * w) 0 = Scalar.select (α := EReal) c w 0 * a := by
  unfold Scalar.select
  split
  · exact mul_comm _ _
  · exact (zero_mul _).symm

theorem ref_eq (m : (ℓ : Loc nD τ sig) → Buf (Elt Ideal) ℓ) (c : Dev nD) : Value.res_main_v64 m c
    = sgu (m ((c : Thread nD τ).loc main_arg0)) (m ((c : Thread nD τ).loc main_arg1)) (m ((c : Thread nD τ).loc main_arg2)) (m ((c : Thread nD τ).loc main_arg3)) (m ((c : Thread nD τ).loc main_arg4)) := by
  funext i
  unfold Value.res_main_v64
  pointwise [sgu, nrm, gelu, Norm.rstd, Norm.var, Norm.mean]
  refine congrArg₂ (fun a b : EReal => a * b) rfl (congrArg (fun a : EReal => a + _) (Fin.sum_fin_congr fun k => ?_))
  refine (sel_mul _ _ _).trans (congrArg (fun a : EReal => a * _) ?_)
  unfold low
  refine congrArg (fun c => Scalar.select c _ _) ?_
  exact congrArg (fun a => IntOp.cmpi CmpIPredicate.sge a _) (BitVec.add_zero _)

end Cert.Reference9Ideal.SguFwd

namespace Cert.Kernel9Ideal.SguFwd

open Cert.Kernel9Ideal Cert.Kernel9Ideal.Gen Cert.Kernel9Ideal.Value

theorem algebraic : Cert.algebraic_Kernel9Ideal_Reference9Ideal := by
  intro m g m' g' _ hargs
  refine ⟨fun c => sgu (m ((c : Thread nD τ).loc main_arg0)) (m ((c : Thread nD τ).loc main_arg1)) (m ((c : Thread nD τ).loc main_arg2)) (m ((c : Thread nD τ).loc main_arg3)) (m ((c : Thread nD τ).loc main_arg4)), ?_, ?_⟩
  · refine (θ_run defs _ _).mono (fun r h c => ?_) (run_main m g)
    exact ⟨(post6 m r h c).trans (final6 m c), kept_main_arg0 m r h c, kept_main_arg1 m r h c, kept_main_arg2 m r h c, kept_main_arg3 m r h c, kept_main_arg4 m r h c⟩
  · refine (θ_run Reference9Ideal.defs _ _).mono (fun r h c => ?_) (Cert.Reference9Ideal.Value.run m' g')
    obtain ⟨h0, ha⟩ := h c
    obtain ⟨e0, e1, e2, e3, e4⟩ := hargs c
    refine ⟨(h0.trans (Cert.Reference9Ideal.SguFwd.ref_eq m' c)).trans ?_, ha⟩
    rw [e0, e1, e2, e3, e4]

end Cert.Kernel9Ideal.SguFwd

end
-- ==== Proof.LnLoss.lean ====
module

public import proofs.«01_k».proof.Proof.Gen.Kernel10Ideal.Value
public import proofs.«01_k».proof.Proof.Gen.Reference10Ideal.Run
public import proofs.«01_k».proof.Defs
public import Idealize.ShloMosaic.Lib.Pipeline.ValueKit
public import proofs.«01_k».proof.Proof.Norm

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

namespace Cert.Kernel10Ideal.LnLoss

open Cert.Kernel10Ideal Cert.Kernel10Ideal.Gen Cert.Kernel10Ideal.Value

variable (m : (ℓ : Loc nD τ sig) → Buf (Elt Ideal) ℓ) (ρ : Dev nD → PrngReg)

/-- The loss's gradient: the error divided by the row's length. -/
def dloss (h t : FVec Ideal S4096x1024 .f32) : FVec Ideal S4096x1024 .f32 := fun i => (h i - t i) * Ideal.ofBits FTy.f32 981467136#32

/-- The squared errors summed over the rows. -/
def sq (h t : FVec Ideal S4096x1024 .f32) : FVec Ideal S1x1024 .f32 :=
  fun j => ∑ r : Fin 4096, (h (ix2 r (j 1)) - t (ix2 r (j 1))) * (h (ix2 r (j 1)) - t (ix2 r (j 1)))

/-- The norm's input gradient, row by row. -/
def du (dy u : FVec Ideal S4096x1024 .f32) (g : FVec Ideal S1x1024 .f32) : FVec Ideal S4096x1024 .f32 :=
  fun i => Norm.back (Ideal.ofBits FTy.f32 1149239296#32) (Ideal.ofBits FTy.f32 925353388#32) (fun k : Fin 1024 => u (ix2 (i 0) k)) (fun k : Fin 1024 => dy (ix2 (i 0) k) * g (ix2 0 k)) (i 1)

/-- The gain's gradient: the output gradient times the normalised rows, summed over the rows. -/
def dg (dy u : FVec Ideal S4096x1024 .f32) : FVec Ideal S1x1024 .f32 :=
  fun j => ∑ r : Fin 4096, dy (ix2 r (j 1)) * ((u (ix2 r (j 1)) - Norm.mean (Ideal.ofBits FTy.f32 1149239296#32) (fun k : Fin 1024 => u (ix2 r k))) * Norm.rstd (Ideal.ofBits FTy.f32 1149239296#32) (Ideal.ofBits FTy.f32 925353388#32) (fun k : Fin 1024 => u (ix2 r k)))

/-- The bias's gradient: the output gradient summed over the rows. -/
def db (dy : FVec Ideal S4096x1024 .f32) : FVec Ideal S1x1024 .f32 := fun j => ∑ r : Fin 4096, dy (ix2 r (j 1))

theorem idx : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![t.val, 0] ∧ win0_6.index t = ![0, 0] ∧ win0_7.index t = ![0, 0] ∧ win0_8.index t = ![0, 0] :=
  (by decide +kernel : ∀ t : Fin grid0.N, _)

theorem out_du (c : Dev nD) (t : Fin cfg0.N) : (outsAt0 m c t.val t.isLt).1
    = k0_pay3 (k0_pay10 (iblk m c 0 t) (iblk m c 3 t)) (k0_pay12 (iblk m c 1 t)) (k0_pay13 (iblk m c 1 t)) (iblk m c 2 t) := by
  by_cases h : t.val % 8 = 0
  · rw [outsAt0_A m c t h]; frame_out
  · rw [outsAt0_B m c t h]; frame_out

theorem out_db (c : Dev nD) (t : Fin cfg0.N) : (outsAt0 m c t.val t.isLt).2.1
    = k0_pay4 (k0_pay10 (iblk m c 0 t) (iblk m c 3 t)) (k0_pay12 (iblk m c 1 t)) (k0_pay13 (iblk m c 1 t)) (iblk m c 2 t) := by
  by_cases h : t.val % 8 = 0
  · rw [outsAt0_A m c t h]; frame_out
  · rw [outsAt0_B m c t h]; frame_out

theorem final4 (c : Dev nD) : (dats m 0 c).arrAt 4 cfg0.N = (du (dloss (m ((c : Thread nD τ).loc main_arg0)) (m ((c : Thread nD τ).loc main_arg3))) (m ((c : Thread nD τ).loc main_arg1)) (m ((c : Thread nD τ).loc main_arg2)) : FVec Ideal S4096x1024 .f32) := by
  refine (dats m 0 c).arrAt_eq_of_covers 4 _ (by decide +kernel) fun t _ y => ?_
  blk_simp
  rw [after0_4, out_du]
  pointwise [k0_pay3, k0_pay4, k0_pay8, k0_pay10, k0_pay11, k0_pay12, k0_pay13, du, dloss, Norm.back, Norm.rstd, Norm.var, Norm.mean]
  blk_point [iblk, V, idx t]

theorem final5 (c : Dev nD) : (dats m 0 c).arrAt 5 cfg0.N = (du (dloss (m ((c : Thread nD τ).loc main_arg0)) (m ((c : Thread nD τ).loc main_arg3))) (m ((c : Thread nD τ).loc main_arg1)) (m ((c : Thread nD τ).loc main_arg2)) : FVec Ideal S4096x1024 .bf16) := by
  refine (dats m 0 c).arrAt_eq_of_covers 5 _ (by decide +kernel) fun t _ y => ?_
  blk_simp
  rw [after0_5, out_db]
  pointwise [k0_pay3, k0_pay4, k0_pay8, k0_pay10, k0_pay11, k0_pay12, k0_pay13, du, dloss, Norm.back, Norm.rstd, Norm.var, Norm.mean]
  blk_point [iblk, V, idx t]

theorem zero5 (j) : k0_pay5 (F := Ideal) j = 0 := by pointwise [k0_pay5]
theorem zero6 (j) : k0_pay6 (F := Ideal) j = 0 := by pointwise [k0_pay6]
theorem zero7 (j) : k0_pay7 (F := Ideal) j = 0 := by pointwise [k0_pay7]

theorem acc1 (h t u : FVec Ideal S512x1024 .f32) (a : FVec Ideal S1x1024 .f32) (j) : k0_pay1 (F := Ideal) (k0_pay14 a) (k0_pay15 h t u) j
    = a j + ∑ r : Fin 512, ((h (ix2 r (j 1)) - t (ix2 r (j 1))) * Ideal.ofBits FTy.f32 981467136#32) * ((u (ix2 r (j 1)) - Norm.mean (Ideal.ofBits FTy.f32 1149239296#32) (fun k : Fin 1024 => u (ix2 r k))) * Norm.rstd (Ideal.ofBits FTy.f32 1149239296#32) (Ideal.ofBits FTy.f32 925353388#32) (fun k : Fin 1024 => u (ix2 r k))) := by
  pointwise [k0_pay1, k0_pay14, k0_pay15, k0_pay8, k0_pay10, k0_pay11, k0_pay12, k0_pay13, Norm.rstd, Norm.var, Norm.mean]

theorem acc2 (h t : FVec Ideal S512x1024 .f32) (a : FVec Ideal S1x1024 .f32) (j) : k0_pay2 (F := Ideal) (k0_pay10 h t) a j
    = a j + ∑ r : Fin 512, (h (ix2 r (j 1)) - t (ix2 r (j 1))) * Ideal.ofBits FTy.f32 981467136#32 := by
  pointwise [k0_pay2, k0_pay8, k0_pay10]

theorem acc9 (h t : FVec Ideal S512x1024 .f32) (a : FVec Ideal S1x1024 .f32) (j) : k0_pay9 (F := Ideal) h t a j
    = a j + ∑ r : Fin 512, (h (ix2 r (j 1)) - t (ix2 r (j 1))) * (h (ix2 r (j 1)) - t (ix2 r (j 1))) := by
  pointwise [k0_pay9, k0_pay8]

theorem final6 (c : Dev nD) : (dats m 0 c).arrAt 6 cfg0.N = dg (dloss (m ((c : Thread nD τ).loc main_arg0)) (m ((c : Thread nD τ).loc main_arg3))) (m ((c : Thread nD τ).loc main_arg1)) := by
  refine (dats m 0 c).arrAt_eq_of_after_last 6 t0_7 (by decide +kernel) _ fun j => ?_
  blk_simp
  rw [after0_6, Pipeline.eq_sum_fin_of_reset_step_apply_last (fun n h => (outsAt0 m c n h).2.2.1) 8 (fun _ => 0) _
    (fun t h j => by rw [outsAt0_A m c t h]; frame_out; rw [acc1, zero5])
    (fun t h j => by rw [outsAt0_B m c t h]; frame_out; rw [acc1])
    (le_of_eq N_0) t0_7 rfl j, zero_add]
  unfold dg dloss
  refine Fin.sum_mul_add_congr fun t k hl => ?_
  unfold Norm.rstd Norm.var Norm.mean
  blk_point [iblk, V, idx t]
  · refine Fin.sum_fin_congr fun x => ?_
    blk_point [V, idx t]
  · blk_point [V, idx t]

theorem final7 (c : Dev nD) : (dats m 0 c).arrAt 7 cfg0.N = db (dloss (m ((c : Thread nD τ).loc main_arg0)) (m ((c : Thread nD τ).loc main_arg3))) := by
  refine (dats m 0 c).arrAt_eq_of_after_last 7 t0_7 (by decide +kernel) _ fun j => ?_
  blk_simp
  rw [after0_7, Pipeline.eq_sum_fin_of_reset_step_apply_last (fun n h => (outsAt0 m c n h).2.2.2.1) 8 (fun _ => 0) _
    (fun t h j => by rw [outsAt0_A m c t h]; frame_out; rw [acc2, zero6])
    (fun t h j => by rw [outsAt0_B m c t h]; frame_out; rw [acc2])
    (le_of_eq N_0) t0_7 rfl j, zero_add]
  unfold db dloss
  refine Fin.sum_mul_add_congr fun t k hl => ?_
  blk_point [iblk, V, idx t]

theorem final8 (c : Dev nD) : (dats m 0 c).arrAt 8 cfg0.N = sq (m ((c : Thread nD τ).loc main_arg0)) (m ((c : Thread nD τ).loc main_arg3)) := by
  refine (dats m 0 c).arrAt_eq_of_after_last 8 t0_7 (by decide +kernel) _ fun j => ?_
  blk_simp
  rw [after0_8, Pipeline.eq_sum_fin_of_reset_step_apply_last (fun n h => (outsAt0 m c n h).2.2.2.2) 8 (fun _ => 0) _
    (fun t h j => by rw [outsAt0_A m c t h]; frame_out; rw [acc9, zero7])
    (fun t h j => by rw [outsAt0_B m c t h]; frame_out; rw [acc9])
    (le_of_eq N_0) t0_7 rfl j, zero_add]
  unfold sq
  refine Fin.sum_mul_add_congr fun t k hl => ?_
  blk_point [iblk, V, idx t]

end Cert.Kernel10Ideal.LnLoss

end
-- ==== Proof.LnLossClaim.lean ====
module

public import proofs.«01_k».proof.Proof.LnLoss
public import proofs.«01_k».proof.Proof.LnBwdClaim

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

namespace Cert.Reference10Ideal.LnLoss

open Cert.Reference10Ideal Cert.Reference10Ideal.Gen

/-- The loss's gradient, as the reference's steps give it. -/
def dloss (h t : FVec Ideal S4096x1024 .f32) : FVec Ideal S4096x1024 .f32 :=
  fun i => Ideal.div (Ideal.ofBits FTy.f32 1056964608#32 * Ideal.ofBits FTy.f32 1065353216#32) (Ideal.ofBits FTy.f32 1149239296#32) * (Ideal.ofBits FTy.f32 1073741824#32 * (h i - t i))

/-- The reference's input gradient, step by step. -/
def du (dy u : FVec Ideal S4096x1024 .f32) (g : FVec Ideal S1x1024 .f32) : FVec Ideal S4096x1024 .f32 :=
  fun i => Norm.chain (Ideal.ofBits FTy.f32 1149239296#32) (Ideal.ofBits FTy.f32 925353388#32) (Ideal.ofBits FTy.f32 1073741824#32) (Ideal.ofBits FTy.f32 3204448256#32)
    (fun k : Fin 1024 => u (ix2 (i 0) k)) (fun k : Fin 1024 => dy (ix2 (i 0) k) * g (ix2 0 k)) (i 1)

theorem du_eq (m : (ℓ : Loc nD τ sig) → Buf (Elt Ideal) ℓ) (c : Dev nD) : Value.res_main_v74 m c
    = du (dloss (m ((c : Thread nD τ).loc main_arg0)) (m ((c : Thread nD τ).loc main_arg3))) (m ((c : Thread nD τ).loc main_arg1)) (m ((c : Thread nD τ).loc main_arg2)) := by
  funext i
  unfold Value.res_main_v74
  pointwise [du, dloss, Norm.chain, Norm.rstd, Norm.var, Norm.mean]
  simp only [Fin.sum_univ_one]

theorem du_bf_eq (m : (ℓ : Loc nD τ sig) → Buf (Elt Ideal) ℓ) (c : Dev nD) : Value.res_main_v79 m c
    = (du (dloss (m ((c : Thread nD τ).loc main_arg0)) (m ((c : Thread nD τ).loc main_arg3))) (m ((c : Thread nD τ).loc main_arg1)) (m ((c : Thread nD τ).loc main_arg2)) : FVec Ideal S4096x1024 .bf16) := by
  funext i
  unfold Value.res_main_v79
  pointwise [du, dloss, Norm.chain, Norm.rstd, Norm.var, Norm.mean]
  simp only [Fin.sum_univ_one]

end Cert.Reference10Ideal.LnLoss

namespace Cert.Kernel10Ideal.LnLoss

open Cert.Kernel10Ideal Cert.Kernel10Ideal.Gen Cert.Kernel10Ideal.Value
open Cert.Kernel8Ideal.LnBwd (real_of_abs bits_N bits_two bits_mhalf bits_E)

/-- The side conditions of the precondition's operations. -/
instance preFacts : Cert.Pre_finite10.Facts where
  bcast_S_S4096x1024 := by decide
  bcast_S_S1x1024 := by decide

theorem pre_real (s : Shape) (hb : Cert.Pre_finite10.S_.BroadcastsInDim s (![] : Fin 0 → Fin s.rank)) (x : FVec Ideal s .f32)
    (h : cmpf .olt (Host.absf x) (broadcastInDim s ![] hb (constant Cert.Pre_finite10.S_ .f32 0x7F800000#32)) = fun _ => 1#1) (i : s.Idx) : ∃ r : ℝ, x i = r := by
  refine real_of_abs (x i) ?_
  have h1 := congrFun h i
  have h3 : Ideal.ofBits FTy.f32 0x7F800000#32 = ⊤ := by simp [Ideal.ofBits, Ideal.ieee]
  rw [← h3]
  exact h1

theorem bits_half : Ideal.ofBits FTy.f32 1056964608#32 = ((1 / 2 : ℝ) : EReal) := by
  simp [Ideal.ofBits, Ideal.ieee]
  rw [← EReal.coe_mul]; norm_num

theorem bits_one : Ideal.ofBits FTy.f32 1065353216#32 = ((1 : ℝ) : EReal) := by
  simp [Ideal.ofBits, Ideal.ieee]
  rw [← EReal.coe_mul]; norm_num

theorem bits_invN : Ideal.ofBits FTy.f32 981467136#32 = ((1 / 1024 : ℝ) : EReal) := by
  simp [Ideal.ofBits, Ideal.ieee]
  rw [← EReal.coe_mul]; norm_num

theorem dloss_eq (h t : FVec Ideal S4096x1024 .f32) : Cert.Reference10Ideal.LnLoss.dloss h t = dloss h t := by
  funext i
  unfold Cert.Reference10Ideal.LnLoss.dloss dloss
  rw [bits_half, bits_one, bits_two, bits_N, bits_invN, Ideal.div_coe (by norm_num), ← mul_assoc, ← EReal.coe_mul, ← EReal.coe_mul, ← EReal.coe_mul, mul_comm]
  norm_num

theorem dloss_real (h t : FVec Ideal S4096x1024 .f32) (hh : ∀ i, ∃ r : ℝ, h i = r) (ht : ∀ i, ∃ r : ℝ, t i = r) (i) : ∃ r : ℝ, dloss h t i = r := by
  obtain ⟨a, ha⟩ := hh i
  obtain ⟨b, hb⟩ := ht i
  refine ⟨(a - b) * (1 / 1024), ?_⟩
  unfold dloss
  rw [ha, hb, bits_invN, ← EReal.coe_sub, ← EReal.coe_mul]

open Cert.Reference10Ideal.LnLoss in
theorem ref_eq (dy u : FVec Ideal S4096x1024 .f32) (g : FVec Ideal S1x1024 .f32) (hd : ∀ i, ∃ r : ℝ, dy i = r) (hg : ∀ i, ∃ r : ℝ, g i = r) :
    Cert.Reference10Ideal.LnLoss.du dy u g = du dy u g := by
  funext i
  choose d hd using hd
  choose w hw using hg
  unfold Cert.Reference10Ideal.LnLoss.du du
  have hz : (fun k : Fin 1024 => dy (ix2 (i 0) k) * g (ix2 0 k)) = fun k : Fin 1024 => ((d (ix2 (i 0) k) * w (ix2 0 k) : ℝ) : EReal) := by
    funext k
    rw [hd, hw, ← EReal.coe_mul]
  rw [hz, bits_N, bits_two, bits_mhalf, bits_E]
  by_cases hu : ∀ k : Fin 1024, ∃ r : ℝ, u (ix2 (i 0) k) = r
  · choose v hv using hu
    rw [show (fun k : Fin 1024 => u (ix2 (i 0) k)) = fun k : Fin 1024 => ((v k : ℝ) : EReal) from funext hv]
    exact Norm.chain_eq 1024 _ (by norm_num) (by norm_num) (by norm_num) (by norm_num) _ _ _
  · exact Norm.chain_eq_inf 1024 _ (by norm_num) _ _ _ _ hu _

theorem algebraic : Cert.algebraic_Kernel10Ideal_Reference10Ideal_pre_finite10 := by
  intro m g m' g' hpre hargs
  refine ⟨fun c => du (dloss (m ((c : Thread nD τ).loc main_arg0)) (m ((c : Thread nD τ).loc main_arg3))) (m ((c : Thread nD τ).loc main_arg1)) (m ((c : Thread nD τ).loc main_arg2)), fun c => du (dloss (m ((c : Thread nD τ).loc main_arg0)) (m ((c : Thread nD τ).loc main_arg3))) (m ((c : Thread nD τ).loc main_arg1)) (m ((c : Thread nD τ).loc main_arg2)), fun c => dg (dloss (m ((c : Thread nD τ).loc main_arg0)) (m ((c : Thread nD τ).loc main_arg3))) (m ((c : Thread nD τ).loc main_arg1)), fun c => db (dloss (m ((c : Thread nD τ).loc main_arg0)) (m ((c : Thread nD τ).loc main_arg3))), fun c => sq (m ((c : Thread nD τ).loc main_arg0)) (m ((c : Thread nD τ).loc main_arg3)), ?_, ?_⟩
  · refine (θ_run defs _ _).mono (fun r h c => ?_) (run_main m g)
    exact ⟨(post4 m r h c).trans (final4 m c), (post5 m r h c).trans (final5 m c), (post6 m r h c).trans (final6 m c), (post7 m r h c).trans (final7 m c),
      (post8 m r h c).trans (final8 m c), kept_main_arg0 m r h c, kept_main_arg1 m r h c, kept_main_arg2 m r h c, kept_main_arg3 m r h c⟩
  · refine (θ_run Reference10Ideal.defs _ _).mono (fun r h c => ?_) (Cert.Reference10Ideal.Value.run m' g')
    obtain ⟨h0, h1, h2, h3, h4, ha⟩ := h c
    obtain ⟨e0, e1, e2, e3⟩ := hargs c
    obtain ⟨p0, p2, p3⟩ := hpre c
    have k := ref_eq _ (m ((c : Thread nD τ).loc main_arg1)) _ (dloss_real _ _ (pre_real _ _ _ p0) (pre_real _ _ _ p3)) (pre_real _ _ _ p2)
    refine ⟨h0.trans ?_, h1.trans ?_, h2.trans ?_, h3.trans ?_, h4.trans ?_, ha⟩
    · rw [Cert.Reference10Ideal.LnLoss.du_eq, e0, e1, e2, e3, dloss_eq]
      exact k
    · refine (Cert.Reference10Ideal.LnLoss.du_bf_eq m' c).trans ?_
      rw [e0, e1, e2, e3, dloss_eq]
      exact k
    · rw [e0, e1, e3]
      show _ = dg (dloss (m ((c : Thread nD τ).loc main_arg0)) (m ((c : Thread nD τ).loc main_arg3))) (m ((c : Thread nD τ).loc main_arg1))
      rw [← dloss_eq]
      funext j
      pointwise [dg, Cert.Reference10Ideal.LnLoss.dloss, Norm.rstd, Norm.var, Norm.mean]
      refine Finset.sum_congr rfl fun x _ => ?_
      rw [mul_comm]
    · rw [e0, e3]
      show _ = db (dloss (m ((c : Thread nD τ).loc main_arg0)) (m ((c : Thread nD τ).loc main_arg3)))
      rw [← dloss_eq]
      funext j
      pointwise [db, Cert.Reference10Ideal.LnLoss.dloss]
    · rw [e0, e3]
      funext j
      pointwise [sq]

end Cert.Kernel10Ideal.LnLoss

end
-- ==== Proof.Adam15.lean ====
module

public import proofs.«01_k».proof.Proof.Gen.Kernel15Ideal.Value
public import proofs.«01_k».proof.Proof.Gen.Reference15Ideal.Run
public import proofs.«01_k».proof.Defs
public import Idealize.ShloMosaic.Lib.Pipeline.ValueKit

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

namespace Cert.Kernel15Ideal.Adam

open Cert.Kernel15Ideal Cert.Kernel15Ideal.Gen Cert.Kernel15Ideal.Value

variable (m : (ℓ : Loc nD τ sig) → Buf (Elt Ideal) ℓ) (ρ : Dev nD → PrngReg)

/-- The new first moment of an entry. -/
def am (g m : EReal) : EReal := Ideal.ofBits FTy.f32 1063675494#32 * m + Ideal.ofBits FTy.f32 1036831949#32 * g

/-- The new second moment of an entry. -/
def av (g v : EReal) : EReal := Ideal.ofBits FTy.f32 1065336439#32 * v + Ideal.ofBits FTy.f32 981668463#32 * (g * g)

/-- The step of an entry. -/
def ad (w g m v : EReal) : EReal :=
  Ideal.ofBits FTy.f32 3129152111#32 * (Ideal.div (Ideal.div (am g m) (Ideal.ofBits FTy.f32 1059503362#32)) (Ideal.sqrt (Ideal.div (av g v) (Ideal.ofBits FTy.f32 1008933580#32)) + Ideal.ofBits FTy.f32 841731191#32) + Ideal.ofBits FTy.f32 1008981770#32 * w)

/-- The gradient of a weight: the sum of the first layer's four parts and of the second's eight. -/
def grad (p0 : FVec Ideal S4x960x1024 .bf16) (p1 : FVec Ideal S8x960x1024 .bf16) : FVec Ideal S2x960x1024 .f32 :=
  fun i => if (i 0).val = 1 then ∑ q : Fin 8, p1 (ix3 q (i 1) (i 2)) else ∑ q : Fin 4, p0 (ix3 q (i 1) (i 2))

def moment (g m : FVec Ideal S2x960x1024 .f32) : FVec Ideal S2x960x1024 .f32 := fun i => am (g i) (m i)

def square (g v : FVec Ideal S2x960x1024 .f32) : FVec Ideal S2x960x1024 .f32 := fun i => av (g i) (v i)

def step (w g m v : FVec Ideal S2x960x1024 .f32) : FVec Ideal S2x960x1024 .f32 := fun i => ad (w i) (g i) (m i) (v i)

/-- A block's gradient at a grid point. -/
def gb (a : ℕ) (x1 : FVec Ideal S4x320x1024 .bf16) (x2 : FVec Ideal S8x320x1024 .bf16) (r : Fin 320) (k : Fin 1024) : EReal :=
  if a = 1 then ∑ q : Fin 8, x2 (ix3 q r k) else ∑ q : Fin 4, x1 (ix3 q r k)

theorem ld_p (q : ℕ) (hq : q < 8) (h) (x : FVec Ideal S8x320x1024 .bf16) :
    View.ld (Val := Elt Ideal) (e' := .bf16) x (Rect.unit (s := S8x320x1024) ![q, 0, 0] S1x320x1024.size h) = fun i : S1x320x1024.Idx => x (ix3 ⟨q, hq⟩ (i 1) (i 2)) := by
  funext i
  have hi : (i 0).val < 1 := (i 0).isLt
  refine View.ld_unit_apply_of _ _ _ _ _ _ fun k => ?_
  fin_cases k
  · show q = q + (i 0).val; omega
  · exact (Nat.zero_add _).symm
  · exact (Nat.zero_add _).symm

theorem ld_q (q : ℕ) (hq : q < 4) (h) (x : FVec Ideal S4x320x1024 .bf16) :
    View.ld (Val := Elt Ideal) (e' := .bf16) x (Rect.unit (s := S4x320x1024) ![q, 0, 0] S1x320x1024.size h) = fun i : S1x320x1024.Idx => x (ix3 ⟨q, hq⟩ (i 1) (i 2)) := by
  funext i
  have hi : (i 0).val < 1 := (i 0).isLt
  refine View.ld_unit_apply_of _ _ _ _ _ _ fun k => ?_
  fin_cases k
  · show q = q + (i 0).val; omega
  · exact (Nat.zero_add _).symm
  · exact (Nat.zero_add _).symm

theorem ld_a (h) (x : FVec Ideal S1x320x1024 .f32) :
    View.ld (Val := Elt Ideal) (e' := .f32) x (Rect.unit (s := S1x320x1024) ![0, 0, 0] S1x320x1024.size h) = x := by
  funext i
  refine View.ld_unit_apply_of _ _ _ _ _ _ fun k => ?_
  fin_cases k <;> exact (Nat.zero_add _).symm

theorem g_eq (i : grid0.Coords) (x0 : FVec Ideal S1x320x1024 .f32) (x1 : FVec Ideal S4x320x1024 .bf16) (x2 : FVec Ideal S8x320x1024 .bf16) (x3 x4 : FVec Ideal S1x320x1024 .f32) :
    k0_pay7 (F := Ideal) (BitVec.ofNat 32 (i 0).val) (k0_pay13 i x0 x1 x2 x3 x4) (k0_pay14 i x0 x1 x2 x3 x4) (View.ld x2 r0_8) (View.ld x2 r0_9) (View.ld x2 r0_10) (View.ld x2 r0_11) = fun j : S320x1024.Idx => gb (i 0).val x1 x2 (j 0) (j 1) := by
  funext j
  have hi : (i 0).val < 2 := (i 0).isLt
  unfold k0_pay13 k0_pay14 gb
  simp only [ld_p 0 (by omega), ld_p 1 (by omega), ld_p 2 (by omega), ld_p 3 (by omega), ld_p 4 (by omega), ld_p 5 (by omega), ld_p 6 (by omega), ld_p 7 (by omega), ld_q 0 (by omega), ld_q 1 (by omega), ld_q 2 (by omega), ld_q 3 (by omega)]
  rcases (by omega : (i 0).val = 0 ∨ (i 0).val = 1) with h | h <;> rw [h]
  · rw [if_neg (by decide), Fin.sum_univ_four]
    pointwise [k0_pay5, k0_pay6, k0_pay7]
    rfl
  · rw [if_pos rfl, Fin.sum_univ_eight]
    pointwise [k0_pay5, k0_pay6, k0_pay7]

theorem out5 (i : grid0.Coords) (x0 : FVec Ideal S1x320x1024 .f32) (x1 : FVec Ideal S4x320x1024 .bf16) (x2 : FVec Ideal S8x320x1024 .bf16) (x3 x4 : FVec Ideal S1x320x1024 .f32) (y) :
    out0_5 (F := Ideal) i x0 x1 x2 x3 x4 y = gb (i 0).val x1 x2 (y 1) (y 2) := by
  unfold out0_5 k0_pay8
  rw [g_eq]
  canon_tiles z h
  have ez : y = z := by
    funext k
    fin_cases k
    exacts [Fin.ext h0, Fin.ext h1, Fin.ext h2]
  subst ez
  pointwise []

theorem out6 (i : grid0.Coords) (x0 : FVec Ideal S1x320x1024 .f32) (x1 : FVec Ideal S4x320x1024 .bf16) (x2 : FVec Ideal S8x320x1024 .bf16) (x3 x4 : FVec Ideal S1x320x1024 .f32) (y) :
    out0_6 (F := Ideal) i x0 x1 x2 x3 x4 y = ad (x0 y) (gb (i 0).val x1 x2 (y 1) (y 2)) (x3 y) (x4 y) := by
  unfold out0_6 k0_pay15 k0_pay16 k0_pay17 k0_pay10 k0_pay12
  rw [g_eq, ld_a, ld_a, ld_a]
  canon_tiles z h
  have ez : y = z := by
    funext k
    fin_cases k
    exacts [Fin.ext h0, Fin.ext h1, Fin.ext h2]
  subst ez
  pointwise [k0_pay1, k0_pay2, k0_pay9, k0_pay11, ad, am, av]

theorem out7 (i : grid0.Coords) (x0 : FVec Ideal S1x320x1024 .f32) (x1 : FVec Ideal S4x320x1024 .bf16) (x2 : FVec Ideal S8x320x1024 .bf16) (x3 x4 : FVec Ideal S1x320x1024 .f32) (y) :
    out0_7 (F := Ideal) i x0 x1 x2 x3 x4 y = am (gb (i 0).val x1 x2 (y 1) (y 2)) (x3 y) := by
  unfold out0_7 k0_pay15 k0_pay10
  rw [g_eq, ld_a]
  canon_tiles z h
  have ez : y = z := by
    funext k
    fin_cases k
    exacts [Fin.ext h0, Fin.ext h1, Fin.ext h2]
  subst ez
  pointwise [k0_pay3, am]

theorem out8 (i : grid0.Coords) (x0 : FVec Ideal S1x320x1024 .f32) (x1 : FVec Ideal S4x320x1024 .bf16) (x2 : FVec Ideal S8x320x1024 .bf16) (x3 x4 : FVec Ideal S1x320x1024 .f32) (y) :
    out0_8 (F := Ideal) i x0 x1 x2 x3 x4 y = av (gb (i 0).val x1 x2 (y 1) (y 2)) (x4 y) := by
  unfold out0_8 k0_pay16 k0_pay17 k0_pay12
  rw [g_eq, ld_a]
  canon_tiles z h
  have ez : y = z := by
    funext k
    fin_cases k
    exacts [Fin.ext h0, Fin.ext h1, Fin.ext h2]
  subst ez
  pointwise [k0_pay1, k0_pay4, k0_pay11, av]

theorem idx : ∀ t : Fin cfg0.N, win0_0.index t = ![t.val / 3, t.val % 3, 0] ∧ win0_3.index t = ![t.val / 3, t.val % 3, 0] ∧ win0_4.index t = ![t.val / 3, t.val % 3, 0] ∧ win0_5.index t = ![t.val / 3, t.val % 3, 0] ∧ win0_6.index t = ![t.val / 3, t.val % 3, 0] ∧ win0_7.index t = ![t.val / 3, t.val % 3, 0] ∧ win0_8.index t = ![t.val / 3, t.val % 3, 0] :=
  (by decide +kernel : ∀ t : Fin grid0.N, _)

theorem idxA : ∀ t : Fin cfg0.N, t.val / 3 = 0 → win0_1.index t = ![0, t.val % 3, 0] :=
  (by decide +kernel : ∀ t : Fin grid0.N, _)

theorem idxB : ∀ t : Fin cfg0.N, t.val / 3 = 1 → win0_2.index t = ![0, t.val % 3, 0] :=
  (by decide +kernel : ∀ t : Fin grid0.N, _)

theorem co : ∀ t : Fin cfg0.N, (grid0.coords t 0).val = t.val / 3 :=
  (by decide +kernel : ∀ t : Fin grid0.N, _)

theorem gb_eq (c : Dev nD) (t : Fin cfg0.N) (r : Fin 320) (k : Fin 1024) (i : S2x960x1024.Idx) (h0 : (i 0).val = t.val / 3) (h1 : (i 1).val = t.val % 3 * 320 + r.val) (h2 : (i 2).val = k.val) :
    gb (grid0.coords t 0).val (iblk m c 1 t) (iblk m c 2 t) r k = grad (m ((c : Thread nD τ).loc main_arg1)) (m ((c : Thread nD τ).loc main_arg2)) i := by
  have ht : t.val < 6 := lt_of_lt_of_eq t.isLt N_0
  have e1 : i 1 = ⟨t.val % 3 * 320 + r.val, h1 ▸ (i 1).isLt⟩ := Fin.ext h1
  have e2 : i 2 = ⟨k.val, k.isLt⟩ := Fin.ext h2
  unfold gb grad
  rw [co, h0, e1, e2]
  rcases (by omega : t.val / 3 = 0 ∨ t.val / 3 = 1) with h | h
  · rw [if_neg (by omega), if_neg (by omega)]
    refine Finset.sum_congr rfl fun q _ => ?_
    blk_point [iblk, V, idxA t h]
  · rw [if_pos h, if_pos h]
    refine Finset.sum_congr rfl fun q _ => ?_
    blk_point [iblk, V, idxB t h]

theorem final5 (c : Dev nD) : (dats m 0 c).arrAt 5 cfg0.N = grad (m ((c : Thread nD τ).loc main_arg1)) (m ((c : Thread nD τ).loc main_arg2)) := by
  refine (dats m 0 c).arrAt_eq_of_covers 5 _ (by decide +kernel) fun t _ y => ?_
  have ht : t.val < 6 := lt_of_lt_of_eq t.isLt N_0
  have hy : (y 0).val < 1 := (y 0).isLt
  blk_simp
  rw [after0_5, out5]
  have he : (((cfg0.win 5).blk t).view.emb y : S2x960x1024.Idx) = ix3 ⟨t.val / 3, by omega⟩ ⟨t.val % 3 * 320 + (y 1).val, by have : (y 1).val < 320 := (y 1).isLt; omega⟩ (y 2) := by
    blk_ext [idx t]
  rw [he]
  skip
  rw [gb_eq m c t (y 1) (y 2) (ix3 ⟨t.val / 3, by omega⟩ ⟨t.val % 3 * 320 + (y 1).val, by have : (y 1).val < 320 := (y 1).isLt; omega⟩ (y 2)) rfl rfl rfl]
  rfl

theorem final6 (c : Dev nD) : (dats m 0 c).arrAt 6 cfg0.N = step (m ((c : Thread nD τ).loc main_arg0)) (grad (m ((c : Thread nD τ).loc main_arg1)) (m ((c : Thread nD τ).loc main_arg2))) (m ((c : Thread nD τ).loc main_arg3)) (m ((c : Thread nD τ).loc main_arg4)) := by
  refine (dats m 0 c).arrAt_eq_of_covers 6 _ (by decide +kernel) fun t _ y => ?_
  have ht : t.val < 6 := lt_of_lt_of_eq t.isLt N_0
  have hy : (y 0).val < 1 := (y 0).isLt
  blk_simp
  rw [after0_6, out6]
  have he : (((cfg0.win 6).blk t).view.emb y : S2x960x1024.Idx) = ix3 ⟨t.val / 3, by omega⟩ ⟨t.val % 3 * 320 + (y 1).val, by have : (y 1).val < 320 := (y 1).isLt; omega⟩ (y 2) := by
    blk_ext [idx t]
  rw [he]
  unfold step
  rw [gb_eq m c t (y 1) (y 2) (ix3 ⟨t.val / 3, by omega⟩ ⟨t.val % 3 * 320 + (y 1).val, by have : (y 1).val < 320 := (y 1).isLt; omega⟩ (y 2)) rfl rfl rfl]
  blk_point [iblk, V, idx t]

theorem final7 (c : Dev nD) : (dats m 0 c).arrAt 7 cfg0.N = moment (grad (m ((c : Thread nD τ).loc main_arg1)) (m ((c : Thread nD τ).loc main_arg2))) (m ((c : Thread nD τ).loc main_arg3)) := by
  refine (dats m 0 c).arrAt_eq_of_covers 7 _ (by decide +kernel) fun t _ y => ?_
  have ht : t.val < 6 := lt_of_lt_of_eq t.isLt N_0
  have hy : (y 0).val < 1 := (y 0).isLt
  blk_simp
  rw [after0_7, out7]
  have he : (((cfg0.win 7).blk t).view.emb y : S2x960x1024.Idx) = ix3 ⟨t.val / 3, by omega⟩ ⟨t.val % 3 * 320 + (y 1).val, by have : (y 1).val < 320 := (y 1).isLt; omega⟩ (y 2) := by
    blk_ext [idx t]
  rw [he]
  unfold moment
  rw [gb_eq m c t (y 1) (y 2) (ix3 ⟨t.val / 3, by omega⟩ ⟨t.val % 3 * 320 + (y 1).val, by have : (y 1).val < 320 := (y 1).isLt; omega⟩ (y 2)) rfl rfl rfl]
  blk_point [iblk, V, idx t]

theorem final8 (c : Dev nD) : (dats m 0 c).arrAt 8 cfg0.N = square (grad (m ((c : Thread nD τ).loc main_arg1)) (m ((c : Thread nD τ).loc main_arg2))) (m ((c : Thread nD τ).loc main_arg4)) := by
  refine (dats m 0 c).arrAt_eq_of_covers 8 _ (by decide +kernel) fun t _ y => ?_
  have ht : t.val < 6 := lt_of_lt_of_eq t.isLt N_0
  have hy : (y 0).val < 1 := (y 0).isLt
  blk_simp
  rw [after0_8, out8]
  have he : (((cfg0.win 8).blk t).view.emb y : S2x960x1024.Idx) = ix3 ⟨t.val / 3, by omega⟩ ⟨t.val % 3 * 320 + (y 1).val, by have : (y 1).val < 320 := (y 1).isLt; omega⟩ (y 2) := by
    blk_ext [idx t]
  rw [he]
  unfold square
  rw [gb_eq m c t (y 1) (y 2) (ix3 ⟨t.val / 3, by omega⟩ ⟨t.val % 3 * 320 + (y 1).val, by have : (y 1).val < 320 := (y 1).isLt; omega⟩ (y 2)) rfl rfl rfl]
  blk_point [iblk, V, idx t]

theorem ref_grad (p0 : FVec Ideal S4x960x1024 .bf16) (p1 : FVec Ideal S8x960x1024 .bf16) :
    concatenate S2x960x1024 0 [⟨Reference15Ideal.S1x960x1024, (broadcastInDim Reference15Ideal.S1x960x1024 ![1, 2] Reference15Ideal.Gen.bcast_S960x1024_S1x960x1024_1_2 (Host.reduceAdd (extf .f32 p0 Reference15Ideal.Gen.bitsLt_bf16_f32) (constant Reference15Ideal.S_ .f32 0x00000000#32) Reference15Ideal.Gen.reducesTo_S4x960x1024_S960x1024_d0 Reference15Ideal.Gen.h_S_))⟩, ⟨Reference15Ideal.S1x960x1024, (broadcastInDim Reference15Ideal.S1x960x1024 ![1, 2] Reference15Ideal.Gen.bcast_S960x1024_S1x960x1024_1_2 (Host.reduceAdd (extf .f32 p1 Reference15Ideal.Gen.bitsLt_bf16_f32) (constant Reference15Ideal.S_ .f32 0x00000000#32) Reference15Ideal.Gen.reducesTo_S8x960x1024_S960x1024_d0 Reference15Ideal.Gen.h_S_))⟩] Reference15Ideal.Gen.concatenates_S1x960x1024_S1x960x1024_S2x960x1024_d0
      = grad p0 p1 := by
  funext i
  have hi : (i 0).val < 2 := (i 0).isLt
  pointwise [grad]
  rcases (by omega : (i 0).val = 0 ∨ (i 0).val = 1) with h | h
  · simp [h]
  · simp [h]

theorem algebraic : Cert.algebraic_Kernel15Ideal_Reference15Ideal := by
  intro m g m' g' _ hargs
  refine ⟨fun c => grad (m ((c : Thread nD τ).loc main_arg1)) (m ((c : Thread nD τ).loc main_arg2)), fun c => step (m ((c : Thread nD τ).loc main_arg0)) (grad (m ((c : Thread nD τ).loc main_arg1)) (m ((c : Thread nD τ).loc main_arg2))) (m ((c : Thread nD τ).loc main_arg3)) (m ((c : Thread nD τ).loc main_arg4)), fun c => moment (grad (m ((c : Thread nD τ).loc main_arg1)) (m ((c : Thread nD τ).loc main_arg2))) (m ((c : Thread nD τ).loc main_arg3)), fun c => square (grad (m ((c : Thread nD τ).loc main_arg1)) (m ((c : Thread nD τ).loc main_arg2))) (m ((c : Thread nD τ).loc main_arg4)), ?_, ?_⟩
  · refine (θ_run defs _ _).mono (fun r h c => ?_) (run_main m g)
    exact ⟨(post5 m r h c).trans (final5 m c), (post6 m r h c).trans (final6 m c), (post7 m r h c).trans (final7 m c), (post8 m r h c).trans (final8 m c),
      kept_main_arg0 m r h c, kept_main_arg1 m r h c, kept_main_arg2 m r h c, kept_main_arg3 m r h c, kept_main_arg4 m r h c⟩
  · refine (θ_run Reference15Ideal.defs _ _).mono (fun r h c => ?_) (Cert.Reference15Ideal.Value.run m' g')
    obtain ⟨h0, h1, h2, h3, ha⟩ := h c
    obtain ⟨e0, e1, e2, e3, e4⟩ := hargs c
    rw [e1, e2, ref_grad] at h0
    rw [e0, e1, e2, e3, e4, ref_grad] at h1
    rw [e1, e2, e3, ref_grad] at h2
    rw [e1, e2, e4, ref_grad] at h3
    refine ⟨h0, h1.trans ?_, h2.trans ?_, h3.trans ?_, ha⟩
    · funext i
      pointwise [step, ad, am, av]
    · funext i
      pointwise [moment, am]
    · funext i
      pointwise [square, av]

end Cert.Kernel15Ideal.Adam

end
-- ==== Proof.Adam14.lean ====
module

public import proofs.«01_k».proof.Proof.Gen.Kernel14Ideal.Value
public import proofs.«01_k».proof.Proof.Gen.Reference14Ideal.Run
public import proofs.«01_k».proof.Defs
public import Idealize.ShloMosaic.Lib.Pipeline.ValueKit

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

namespace Cert.Kernel14Ideal.Adam

open Cert.Kernel14Ideal Cert.Kernel14Ideal.Gen Cert.Kernel14Ideal.Value

variable (m : (ℓ : Loc nD τ sig) → Buf (Elt Ideal) ℓ) (ρ : Dev nD → PrngReg)

/-- The new first moment of an entry. -/
def am (g m : EReal) : EReal := Ideal.ofBits FTy.f32 1063675494#32 * m + Ideal.ofBits FTy.f32 1036831949#32 * g

/-- The new second moment of an entry. -/
def av (g v : EReal) : EReal := Ideal.ofBits FTy.f32 1065336439#32 * v + Ideal.ofBits FTy.f32 981668463#32 * (g * g)

/-- The step of an entry. -/
def ad (w g m v : EReal) : EReal :=
  Ideal.ofBits FTy.f32 3129152111#32 * (Ideal.div (Ideal.div (am g m) (Ideal.ofBits FTy.f32 1059503362#32)) (Ideal.sqrt (Ideal.div (av g v) (Ideal.ofBits FTy.f32 1008933580#32)) + Ideal.ofBits FTy.f32 841731191#32) + Ideal.ofBits FTy.f32 1008981770#32 * w)

/-- The gradient of a weight: for each of the two layers the eight parts' sum. -/
def grad (p0 p1 : FVec Ideal S8x512x128 .bf16) : FVec Ideal S2x512x128 .f32 :=
  fun i => if (i 0).val = 1 then ∑ q : Fin 8, p1 (ix3 q (i 1) (i 2)) else ∑ q : Fin 8, p0 (ix3 q (i 1) (i 2))

def moment (g m : FVec Ideal S2x512x128 .f32) : FVec Ideal S2x512x128 .f32 := fun i => am (g i) (m i)

def square (g v : FVec Ideal S2x512x128 .f32) : FVec Ideal S2x512x128 .f32 := fun i => av (g i) (v i)

def step (w g m v : FVec Ideal S2x512x128 .f32) : FVec Ideal S2x512x128 .f32 := fun i => ad (w i) (g i) (m i) (v i)

/-- A block's gradient at a grid point. -/
def gb (a : ℕ) (x1 x2 : FVec Ideal S8x256x128 .bf16) (r : Fin 256) (k : Fin 128) : EReal :=
  if a = 1 then ∑ q : Fin 8, x2 (ix3 q r k) else ∑ q : Fin 8, x1 (ix3 q r k)

theorem ld_p (q : ℕ) (hq : q < 8) (h) (x : FVec Ideal S8x256x128 .bf16) :
    View.ld (Val := Elt Ideal) (e' := .bf16) x (Rect.unit (s := S8x256x128) ![q, 0, 0] S1x256x128.size h) = fun i : S1x256x128.Idx => x (ix3 ⟨q, hq⟩ (i 1) (i 2)) := by
  funext i
  have hi : (i 0).val < 1 := (i 0).isLt
  refine View.ld_unit_apply_of _ _ _ _ _ _ fun k => ?_
  fin_cases k
  · show q = q + (i 0).val; omega
  · exact (Nat.zero_add _).symm
  · exact (Nat.zero_add _).symm

theorem ld_a (h) (x : FVec Ideal S1x256x128 .f32) :
    View.ld (Val := Elt Ideal) (e' := .f32) x (Rect.unit (s := S1x256x128) ![0, 0, 0] S1x256x128.size h) = x := by
  funext i
  refine View.ld_unit_apply_of _ _ _ _ _ _ fun k => ?_
  fin_cases k <;> exact (Nat.zero_add _).symm

theorem g_eq (i : grid0.Coords) (x0 : FVec Ideal S1x256x128 .f32) (x1 x2 : FVec Ideal S8x256x128 .bf16) (x3 x4 : FVec Ideal S1x256x128 .f32) :
    k0_pay9 (F := Ideal) i x0 x1 x2 x3 x4 = fun j : S256x128.Idx => gb (i 0).val x1 x2 (j 0) (j 1) := by
  funext j
  have hi : (i 0).val < 2 := (i 0).isLt
  unfold k0_pay9 gb
  simp only [ld_p 0 (by omega), ld_p 1 (by omega), ld_p 2 (by omega), ld_p 3 (by omega), ld_p 4 (by omega), ld_p 5 (by omega), ld_p 6 (by omega), ld_p 7 (by omega)]
  rcases (by omega : (i 0).val = 0 ∨ (i 0).val = 1) with h | h <;> rw [h]
  · rw [if_neg (by decide), Fin.sum_univ_eight]
    pointwise [k0_pay3, k0_pay4]
    rfl
  · rw [if_pos rfl, Fin.sum_univ_eight]
    pointwise [k0_pay3, k0_pay4]

theorem out5 (i : grid0.Coords) (x0 : FVec Ideal S1x256x128 .f32) (x1 x2 : FVec Ideal S8x256x128 .bf16) (x3 x4 : FVec Ideal S1x256x128 .f32) (y) :
    out0_5 (F := Ideal) i x0 x1 x2 x3 x4 y = gb (i 0).val x1 x2 (y 1) (y 2) := by
  unfold out0_5
  rw [g_eq]
  canon_tiles z h
  have ez : y = z := by
    funext k
    fin_cases k
    exacts [Fin.ext h0, Fin.ext h1, Fin.ext h2]
  subst ez
  pointwise [k0_pay5]

theorem out6 (i : grid0.Coords) (x0 : FVec Ideal S1x256x128 .f32) (x1 x2 : FVec Ideal S8x256x128 .bf16) (x3 x4 : FVec Ideal S1x256x128 .f32) (y) :
    out0_6 (F := Ideal) i x0 x1 x2 x3 x4 y = ad (x0 y) (gb (i 0).val x1 x2 (y 1) (y 2)) (x3 y) (x4 y) := by
  unfold out0_6
  rw [g_eq, ld_a, ld_a, ld_a]
  canon_tiles z h
  have ez : y = z := by
    funext k
    fin_cases k
    exacts [Fin.ext h0, Fin.ext h1, Fin.ext h2]
  subst ez
  pointwise [k0_pay8, k0_pay7, k0_pay6, ad, am, av]

theorem out7 (i : grid0.Coords) (x0 : FVec Ideal S1x256x128 .f32) (x1 x2 : FVec Ideal S8x256x128 .bf16) (x3 x4 : FVec Ideal S1x256x128 .f32) (y) :
    out0_7 (F := Ideal) i x0 x1 x2 x3 x4 y = am (gb (i 0).val x1 x2 (y 1) (y 2)) (x3 y) := by
  unfold out0_7
  rw [g_eq, ld_a]
  canon_tiles z h
  have ez : y = z := by
    funext k
    fin_cases k
    exacts [Fin.ext h0, Fin.ext h1, Fin.ext h2]
  subst ez
  pointwise [k0_pay1, k0_pay6, am]

theorem out8 (i : grid0.Coords) (x0 : FVec Ideal S1x256x128 .f32) (x1 x2 : FVec Ideal S8x256x128 .bf16) (x3 x4 : FVec Ideal S1x256x128 .f32) (y) :
    out0_8 (F := Ideal) i x0 x1 x2 x3 x4 y = av (gb (i 0).val x1 x2 (y 1) (y 2)) (x4 y) := by
  unfold out0_8
  rw [g_eq, ld_a]
  canon_tiles z h
  have ez : y = z := by
    funext k
    fin_cases k
    exacts [Fin.ext h0, Fin.ext h1, Fin.ext h2]
  subst ez
  pointwise [k0_pay2, k0_pay7, av]

theorem idx : ∀ t : Fin cfg0.N, win0_0.index t = ![t.val / 2, t.val % 2, 0] ∧ win0_3.index t = ![t.val / 2, t.val % 2, 0] ∧ win0_4.index t = ![t.val / 2, t.val % 2, 0] ∧ win0_5.index t = ![t.val / 2, t.val % 2, 0] ∧ win0_6.index t = ![t.val / 2, t.val % 2, 0] ∧ win0_7.index t = ![t.val / 2, t.val % 2, 0] ∧ win0_8.index t = ![t.val / 2, t.val % 2, 0] :=
  (by decide +kernel : ∀ t : Fin grid0.N, _)

theorem idxA : ∀ t : Fin cfg0.N, t.val / 2 = 0 → win0_1.index t = ![0, t.val % 2, 0] :=
  (by decide +kernel : ∀ t : Fin grid0.N, _)

theorem idxB : ∀ t : Fin cfg0.N, t.val / 2 = 1 → win0_2.index t = ![0, t.val % 2, 0] :=
  (by decide +kernel : ∀ t : Fin grid0.N, _)

theorem co : ∀ t : Fin cfg0.N, (grid0.coords t 0).val = t.val / 2 :=
  (by decide +kernel : ∀ t : Fin grid0.N, _)

theorem gb_eq (c : Dev nD) (t : Fin cfg0.N) (r : Fin 256) (k : Fin 128) (i : S2x512x128.Idx) (h0 : (i 0).val = t.val / 2) (h1 : (i 1).val = t.val % 2 * 256 + r.val) (h2 : (i 2).val = k.val) :
    gb (grid0.coords t 0).val (iblk m c 1 t) (iblk m c 2 t) r k = grad (m ((c : Thread nD τ).loc main_arg1)) (m ((c : Thread nD τ).loc main_arg2)) i := by
  have ht : t.val < 4 := lt_of_lt_of_eq t.isLt N_0
  have e1 : i 1 = ⟨t.val % 2 * 256 + r.val, h1 ▸ (i 1).isLt⟩ := Fin.ext h1
  have e2 : i 2 = ⟨k.val, k.isLt⟩ := Fin.ext h2
  unfold gb grad
  rw [co, h0, e1, e2]
  rcases (by omega : t.val / 2 = 0 ∨ t.val / 2 = 1) with h | h
  · rw [if_neg (by omega), if_neg (by omega)]
    refine Finset.sum_congr rfl fun q _ => ?_
    blk_point [iblk, V, idxA t h]
  · rw [if_pos h, if_pos h]
    refine Finset.sum_congr rfl fun q _ => ?_
    blk_point [iblk, V, idxB t h]

theorem final5 (c : Dev nD) : (dats m 0 c).arrAt 5 cfg0.N = grad (m ((c : Thread nD τ).loc main_arg1)) (m ((c : Thread nD τ).loc main_arg2)) := by
  refine (dats m 0 c).arrAt_eq_of_covers 5 _ (by decide +kernel) fun t _ y => ?_
  have ht : t.val < 4 := lt_of_lt_of_eq t.isLt N_0
  have hy : (y 0).val < 1 := (y 0).isLt
  blk_simp
  rw [after0_5, out5]
  have he : (((cfg0.win 5).blk t).view.emb y : S2x512x128.Idx) = ix3 ⟨t.val / 2, by omega⟩ ⟨t.val % 2 * 256 + (y 1).val, by have : (y 1).val < 256 := (y 1).isLt; omega⟩ (y 2) := by
    blk_ext [idx t]
  rw [he]
  skip
  rw [gb_eq m c t (y 1) (y 2) (ix3 ⟨t.val / 2, by omega⟩ ⟨t.val % 2 * 256 + (y 1).val, by have : (y 1).val < 256 := (y 1).isLt; omega⟩ (y 2)) rfl rfl rfl]
  rfl

theorem final6 (c : Dev nD) : (dats m 0 c).arrAt 6 cfg0.N = step (m ((c : Thread nD τ).loc main_arg0)) (grad (m ((c : Thread nD τ).loc main_arg1)) (m ((c : Thread nD τ).loc main_arg2))) (m ((c : Thread nD τ).loc main_arg3)) (m ((c : Thread nD τ).loc main_arg4)) := by
  refine (dats m 0 c).arrAt_eq_of_covers 6 _ (by decide +kernel) fun t _ y => ?_
  have ht : t.val < 4 := lt_of_lt_of_eq t.isLt N_0
  have hy : (y 0).val < 1 := (y 0).isLt
  blk_simp
  rw [after0_6, out6]
  have he : (((cfg0.win 6).blk t).view.emb y : S2x512x128.Idx) = ix3 ⟨t.val / 2, by omega⟩ ⟨t.val % 2 * 256 + (y 1).val, by have : (y 1).val < 256 := (y 1).isLt; omega⟩ (y 2) := by
    blk_ext [idx t]
  rw [he]
  unfold step
  rw [gb_eq m c t (y 1) (y 2) (ix3 ⟨t.val / 2, by omega⟩ ⟨t.val % 2 * 256 + (y 1).val, by have : (y 1).val < 256 := (y 1).isLt; omega⟩ (y 2)) rfl rfl rfl]
  blk_point [iblk, V, idx t]

theorem final7 (c : Dev nD) : (dats m 0 c).arrAt 7 cfg0.N = moment (grad (m ((c : Thread nD τ).loc main_arg1)) (m ((c : Thread nD τ).loc main_arg2))) (m ((c : Thread nD τ).loc main_arg3)) := by
  refine (dats m 0 c).arrAt_eq_of_covers 7 _ (by decide +kernel) fun t _ y => ?_
  have ht : t.val < 4 := lt_of_lt_of_eq t.isLt N_0
  have hy : (y 0).val < 1 := (y 0).isLt
  blk_simp
  rw [after0_7, out7]
  have he : (((cfg0.win 7).blk t).view.emb y : S2x512x128.Idx) = ix3 ⟨t.val / 2, by omega⟩ ⟨t.val % 2 * 256 + (y 1).val, by have : (y 1).val < 256 := (y 1).isLt; omega⟩ (y 2) := by
    blk_ext [idx t]
  rw [he]
  unfold moment
  rw [gb_eq m c t (y 1) (y 2) (ix3 ⟨t.val / 2, by omega⟩ ⟨t.val % 2 * 256 + (y 1).val, by have : (y 1).val < 256 := (y 1).isLt; omega⟩ (y 2)) rfl rfl rfl]
  blk_point [iblk, V, idx t]

theorem final8 (c : Dev nD) : (dats m 0 c).arrAt 8 cfg0.N = square (grad (m ((c : Thread nD τ).loc main_arg1)) (m ((c : Thread nD τ).loc main_arg2))) (m ((c : Thread nD τ).loc main_arg4)) := by
  refine (dats m 0 c).arrAt_eq_of_covers 8 _ (by decide +kernel) fun t _ y => ?_
  have ht : t.val < 4 := lt_of_lt_of_eq t.isLt N_0
  have hy : (y 0).val < 1 := (y 0).isLt
  blk_simp
  rw [after0_8, out8]
  have he : (((cfg0.win 8).blk t).view.emb y : S2x512x128.Idx) = ix3 ⟨t.val / 2, by omega⟩ ⟨t.val % 2 * 256 + (y 1).val, by have : (y 1).val < 256 := (y 1).isLt; omega⟩ (y 2) := by
    blk_ext [idx t]
  rw [he]
  unfold square
  rw [gb_eq m c t (y 1) (y 2) (ix3 ⟨t.val / 2, by omega⟩ ⟨t.val % 2 * 256 + (y 1).val, by have : (y 1).val < 256 := (y 1).isLt; omega⟩ (y 2)) rfl rfl rfl]
  blk_point [iblk, V, idx t]

theorem ref_grad (p0 p1 : FVec Ideal S8x512x128 .bf16) :
    concatenate S2x512x128 0 [⟨Reference14Ideal.S1x512x128, (broadcastInDim Reference14Ideal.S1x512x128 ![1, 2] Reference14Ideal.Gen.bcast_S512x128_S1x512x128_1_2 (Host.reduceAdd (extf .f32 p0 Reference14Ideal.Gen.bitsLt_bf16_f32) (constant Reference14Ideal.S_ .f32 0x00000000#32) Reference14Ideal.Gen.reducesTo_S8x512x128_S512x128_d0 Reference14Ideal.Gen.h_S_))⟩, ⟨Reference14Ideal.S1x512x128, (broadcastInDim Reference14Ideal.S1x512x128 ![1, 2] Reference14Ideal.Gen.bcast_S512x128_S1x512x128_1_2 (Host.reduceAdd (extf .f32 p1 Reference14Ideal.Gen.bitsLt_bf16_f32) (constant Reference14Ideal.S_ .f32 0x00000000#32) Reference14Ideal.Gen.reducesTo_S8x512x128_S512x128_d0 Reference14Ideal.Gen.h_S_))⟩] Reference14Ideal.Gen.concatenates_S1x512x128_S1x512x128_S2x512x128_d0
      = grad p0 p1 := by
  funext i
  have hi : (i 0).val < 2 := (i 0).isLt
  pointwise [grad]
  rcases (by omega : (i 0).val = 0 ∨ (i 0).val = 1) with h | h
  · simp [h]
  · simp [h]

theorem algebraic : Cert.algebraic_Kernel14Ideal_Reference14Ideal := by
  intro m g m' g' _ hargs
  refine ⟨fun c => grad (m ((c : Thread nD τ).loc main_arg1)) (m ((c : Thread nD τ).loc main_arg2)), fun c => step (m ((c : Thread nD τ).loc main_arg0)) (grad (m ((c : Thread nD τ).loc main_arg1)) (m ((c : Thread nD τ).loc main_arg2))) (m ((c : Thread nD τ).loc main_arg3)) (m ((c : Thread nD τ).loc main_arg4)), fun c => moment (grad (m ((c : Thread nD τ).loc main_arg1)) (m ((c : Thread nD τ).loc main_arg2))) (m ((c : Thread nD τ).loc main_arg3)), fun c => square (grad (m ((c : Thread nD τ).loc main_arg1)) (m ((c : Thread nD τ).loc main_arg2))) (m ((c : Thread nD τ).loc main_arg4)), ?_, ?_⟩
  · refine (θ_run defs _ _).mono (fun r h c => ?_) (run_main m g)
    exact ⟨(post5 m r h c).trans (final5 m c), (post6 m r h c).trans (final6 m c), (post7 m r h c).trans (final7 m c), (post8 m r h c).trans (final8 m c),
      kept_main_arg0 m r h c, kept_main_arg1 m r h c, kept_main_arg2 m r h c, kept_main_arg3 m r h c, kept_main_arg4 m r h c⟩
  · refine (θ_run Reference14Ideal.defs _ _).mono (fun r h c => ?_) (Cert.Reference14Ideal.Value.run m' g')
    obtain ⟨h0, h1, h2, h3, ha⟩ := h c
    obtain ⟨e0, e1, e2, e3, e4⟩ := hargs c
    rw [e1, e2, ref_grad] at h0
    rw [e0, e1, e2, e3, e4, ref_grad] at h1
    rw [e1, e2, e3, ref_grad] at h2
    rw [e1, e2, e4, ref_grad] at h3
    refine ⟨h0, h1.trans ?_, h2.trans ?_, h3.trans ?_, ha⟩
    · funext i
      pointwise [step, ad, am, av]
    · funext i
      pointwise [moment, am]
    · funext i
      pointwise [square, av]

end Cert.Kernel14Ideal.Adam

end
-- ==== Proof.Adam13.lean ====
module

public import proofs.«01_k».proof.Proof.Gen.Kernel13Ideal.Value
public import proofs.«01_k».proof.Proof.Gen.Reference13Ideal.Run
public import proofs.«01_k».proof.Defs
public import Idealize.ShloMosaic.Lib.Pipeline.ValueKit

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

namespace Cert.Kernel13Ideal.Adam

open Cert.Kernel13Ideal Cert.Kernel13Ideal.Gen Cert.Kernel13Ideal.Value

variable (m : (ℓ : Loc nD τ sig) → Buf (Elt Ideal) ℓ) (ρ : Dev nD → PrngReg)

/-- The new first moment of an entry. -/
def am (g m : EReal) : EReal := Ideal.ofBits FTy.f32 1063675494#32 * m + Ideal.ofBits FTy.f32 1036831949#32 * g

/-- The new second moment of an entry. -/
def av (g v : EReal) : EReal := Ideal.ofBits FTy.f32 1065336439#32 * v + Ideal.ofBits FTy.f32 981668463#32 * (g * g)

/-- The step of an entry. -/
def ad (w g m v : EReal) : EReal :=
  Ideal.ofBits FTy.f32 3129152111#32 * (Ideal.div (Ideal.div (am g m) (Ideal.ofBits FTy.f32 1059503362#32)) (Ideal.sqrt (Ideal.div (av g v) (Ideal.ofBits FTy.f32 1008933580#32)) + Ideal.ofBits FTy.f32 841731191#32) + Ideal.ofBits FTy.f32 1008981770#32 * w)

/-- The gradient of a weight: for each of the two layers the eight parts' sum. -/
def grad (p0 p1 : FVec Ideal S8x128x1024 .bf16) : FVec Ideal S2x128x1024 .f32 :=
  fun i => if (i 0).val = 1 then ∑ q : Fin 8, p1 (ix3 q (i 1) (i 2)) else ∑ q : Fin 8, p0 (ix3 q (i 1) (i 2))

def moment (g m : FVec Ideal S2x128x1024 .f32) : FVec Ideal S2x128x1024 .f32 := fun i => am (g i) (m i)

def square (g v : FVec Ideal S2x128x1024 .f32) : FVec Ideal S2x128x1024 .f32 := fun i => av (g i) (v i)

def step (w g m v : FVec Ideal S2x128x1024 .f32) : FVec Ideal S2x128x1024 .f32 := fun i => ad (w i) (g i) (m i) (v i)

/-- A block's gradient at a grid point. -/
def gb (a : ℕ) (x1 x2 : FVec Ideal S8x128x1024 .bf16) (r : Fin 128) (k : Fin 1024) : EReal :=
  if a = 1 then ∑ q : Fin 8, x2 (ix3 q r k) else ∑ q : Fin 8, x1 (ix3 q r k)

theorem ld_p (q : ℕ) (hq : q < 8) (h) (x : FVec Ideal S8x128x1024 .bf16) :
    View.ld (Val := Elt Ideal) (e' := .bf16) x (Rect.unit (s := S8x128x1024) ![q, 0, 0] S1x128x1024.size h) = fun i : S1x128x1024.Idx => x (ix3 ⟨q, hq⟩ (i 1) (i 2)) := by
  funext i
  have hi : (i 0).val < 1 := (i 0).isLt
  refine View.ld_unit_apply_of _ _ _ _ _ _ fun k => ?_
  fin_cases k
  · show q = q + (i 0).val; omega
  · exact (Nat.zero_add _).symm
  · exact (Nat.zero_add _).symm

theorem ld_a (h) (x : FVec Ideal S1x128x1024 .f32) :
    View.ld (Val := Elt Ideal) (e' := .f32) x (Rect.unit (s := S1x128x1024) ![0, 0, 0] S1x128x1024.size h) = x := by
  funext i
  refine View.ld_unit_apply_of _ _ _ _ _ _ fun k => ?_
  fin_cases k <;> exact (Nat.zero_add _).symm

theorem g_eq (i : grid0.Coords) (x0 : FVec Ideal S1x128x1024 .f32) (x1 x2 : FVec Ideal S8x128x1024 .bf16) (x3 x4 : FVec Ideal S1x128x1024 .f32) :
    k0_pay9 (F := Ideal) i x0 x1 x2 x3 x4 = fun j : S128x1024.Idx => gb (i 0).val x1 x2 (j 0) (j 1) := by
  funext j
  have hi : (i 0).val < 2 := (i 0).isLt
  unfold k0_pay9 gb
  simp only [ld_p 0 (by omega), ld_p 1 (by omega), ld_p 2 (by omega), ld_p 3 (by omega), ld_p 4 (by omega), ld_p 5 (by omega), ld_p 6 (by omega), ld_p 7 (by omega)]
  rcases (by omega : (i 0).val = 0 ∨ (i 0).val = 1) with h | h <;> rw [h]
  · rw [if_neg (by decide), Fin.sum_univ_eight]
    pointwise [k0_pay3, k0_pay4]
    rfl
  · rw [if_pos rfl, Fin.sum_univ_eight]
    pointwise [k0_pay3, k0_pay4]

theorem out5 (i : grid0.Coords) (x0 : FVec Ideal S1x128x1024 .f32) (x1 x2 : FVec Ideal S8x128x1024 .bf16) (x3 x4 : FVec Ideal S1x128x1024 .f32) (y) :
    out0_5 (F := Ideal) i x0 x1 x2 x3 x4 y = gb (i 0).val x1 x2 (y 1) (y 2) := by
  unfold out0_5
  rw [g_eq]
  canon_tiles z h
  have ez : y = z := by
    funext k
    fin_cases k
    exacts [Fin.ext h0, Fin.ext h1, Fin.ext h2]
  subst ez
  pointwise [k0_pay5]

theorem out6 (i : grid0.Coords) (x0 : FVec Ideal S1x128x1024 .f32) (x1 x2 : FVec Ideal S8x128x1024 .bf16) (x3 x4 : FVec Ideal S1x128x1024 .f32) (y) :
    out0_6 (F := Ideal) i x0 x1 x2 x3 x4 y = ad (x0 y) (gb (i 0).val x1 x2 (y 1) (y 2)) (x3 y) (x4 y) := by
  unfold out0_6
  rw [g_eq, ld_a, ld_a, ld_a]
  canon_tiles z h
  have ez : y = z := by
    funext k
    fin_cases k
    exacts [Fin.ext h0, Fin.ext h1, Fin.ext h2]
  subst ez
  pointwise [k0_pay8, k0_pay7, k0_pay6, ad, am, av]

theorem out7 (i : grid0.Coords) (x0 : FVec Ideal S1x128x1024 .f32) (x1 x2 : FVec Ideal S8x128x1024 .bf16) (x3 x4 : FVec Ideal S1x128x1024 .f32) (y) :
    out0_7 (F := Ideal) i x0 x1 x2 x3 x4 y = am (gb (i 0).val x1 x2 (y 1) (y 2)) (x3 y) := by
  unfold out0_7
  rw [g_eq, ld_a]
  canon_tiles z h
  have ez : y = z := by
    funext k
    fin_cases k
    exacts [Fin.ext h0, Fin.ext h1, Fin.ext h2]
  subst ez
  pointwise [k0_pay1, k0_pay6, am]

theorem out8 (i : grid0.Coords) (x0 : FVec Ideal S1x128x1024 .f32) (x1 x2 : FVec Ideal S8x128x1024 .bf16) (x3 x4 : FVec Ideal S1x128x1024 .f32) (y) :
    out0_8 (F := Ideal) i x0 x1 x2 x3 x4 y = av (gb (i 0).val x1 x2 (y 1) (y 2)) (x4 y) := by
  unfold out0_8
  rw [g_eq, ld_a]
  canon_tiles z h
  have ez : y = z := by
    funext k
    fin_cases k
    exacts [Fin.ext h0, Fin.ext h1, Fin.ext h2]
  subst ez
  pointwise [k0_pay2, k0_pay7, av]

theorem idx : ∀ t : Fin cfg0.N, win0_0.index t = ![t.val / 1, t.val % 1, 0] ∧ win0_3.index t = ![t.val / 1, t.val % 1, 0] ∧ win0_4.index t = ![t.val / 1, t.val % 1, 0] ∧ win0_5.index t = ![t.val / 1, t.val % 1, 0] ∧ win0_6.index t = ![t.val / 1, t.val % 1, 0] ∧ win0_7.index t = ![t.val / 1, t.val % 1, 0] ∧ win0_8.index t = ![t.val / 1, t.val % 1, 0] :=
  (by decide +kernel : ∀ t : Fin grid0.N, _)

theorem idxA : ∀ t : Fin cfg0.N, t.val / 1 = 0 → win0_1.index t = ![0, t.val % 1, 0] :=
  (by decide +kernel : ∀ t : Fin grid0.N, _)

theorem idxB : ∀ t : Fin cfg0.N, t.val / 1 = 1 → win0_2.index t = ![0, t.val % 1, 0] :=
  (by decide +kernel : ∀ t : Fin grid0.N, _)

theorem co : ∀ t : Fin cfg0.N, (grid0.coords t 0).val = t.val / 1 :=
  (by decide +kernel : ∀ t : Fin grid0.N, _)

theorem gb_eq (c : Dev nD) (t : Fin cfg0.N) (r : Fin 128) (k : Fin 1024) (i : S2x128x1024.Idx) (h0 : (i 0).val = t.val / 1) (h1 : (i 1).val = t.val % 1 * 128 + r.val) (h2 : (i 2).val = k.val) :
    gb (grid0.coords t 0).val (iblk m c 1 t) (iblk m c 2 t) r k = grad (m ((c : Thread nD τ).loc main_arg1)) (m ((c : Thread nD τ).loc main_arg2)) i := by
  have ht : t.val < 2 := lt_of_lt_of_eq t.isLt N_0
  have e1 : i 1 = ⟨t.val % 1 * 128 + r.val, h1 ▸ (i 1).isLt⟩ := Fin.ext h1
  have e2 : i 2 = ⟨k.val, k.isLt⟩ := Fin.ext h2
  unfold gb grad
  rw [co, h0, e1, e2]
  rcases (by omega : t.val / 1 = 0 ∨ t.val / 1 = 1) with h | h
  · rw [if_neg (by omega), if_neg (by omega)]
    refine Finset.sum_congr rfl fun q _ => ?_
    blk_point [iblk, V, idxA t h]
  · rw [if_pos h, if_pos h]
    refine Finset.sum_congr rfl fun q _ => ?_
    blk_point [iblk, V, idxB t h]

theorem final5 (c : Dev nD) : (dats m 0 c).arrAt 5 cfg0.N = grad (m ((c : Thread nD τ).loc main_arg1)) (m ((c : Thread nD τ).loc main_arg2)) := by
  refine (dats m 0 c).arrAt_eq_of_covers 5 _ (by decide +kernel) fun t _ y => ?_
  have ht : t.val < 2 := lt_of_lt_of_eq t.isLt N_0
  have hy : (y 0).val < 1 := (y 0).isLt
  blk_simp
  rw [after0_5, out5]
  have he : (((cfg0.win 5).blk t).view.emb y : S2x128x1024.Idx) = ix3 ⟨t.val / 1, by omega⟩ ⟨t.val % 1 * 128 + (y 1).val, by have : (y 1).val < 128 := (y 1).isLt; omega⟩ (y 2) := by
    blk_ext [idx t]
  rw [he]
  skip
  rw [gb_eq m c t (y 1) (y 2) (ix3 ⟨t.val / 1, by omega⟩ ⟨t.val % 1 * 128 + (y 1).val, by have : (y 1).val < 128 := (y 1).isLt; omega⟩ (y 2)) rfl rfl rfl]
  rfl

theorem final6 (c : Dev nD) : (dats m 0 c).arrAt 6 cfg0.N = step (m ((c : Thread nD τ).loc main_arg0)) (grad (m ((c : Thread nD τ).loc main_arg1)) (m ((c : Thread nD τ).loc main_arg2))) (m ((c : Thread nD τ).loc main_arg3)) (m ((c : Thread nD τ).loc main_arg4)) := by
  refine (dats m 0 c).arrAt_eq_of_covers 6 _ (by decide +kernel) fun t _ y => ?_
  have ht : t.val < 2 := lt_of_lt_of_eq t.isLt N_0
  have hy : (y 0).val < 1 := (y 0).isLt
  blk_simp
  rw [after0_6, out6]
  have he : (((cfg0.win 6).blk t).view.emb y : S2x128x1024.Idx) = ix3 ⟨t.val / 1, by omega⟩ ⟨t.val % 1 * 128 + (y 1).val, by have : (y 1).val < 128 := (y 1).isLt; omega⟩ (y 2) := by
    blk_ext [idx t]
  rw [he]
  unfold step
  rw [gb_eq m c t (y 1) (y 2) (ix3 ⟨t.val / 1, by omega⟩ ⟨t.val % 1 * 128 + (y 1).val, by have : (y 1).val < 128 := (y 1).isLt; omega⟩ (y 2)) rfl rfl rfl]
  blk_point [iblk, V, idx t]

theorem final7 (c : Dev nD) : (dats m 0 c).arrAt 7 cfg0.N = moment (grad (m ((c : Thread nD τ).loc main_arg1)) (m ((c : Thread nD τ).loc main_arg2))) (m ((c : Thread nD τ).loc main_arg3)) := by
  refine (dats m 0 c).arrAt_eq_of_covers 7 _ (by decide +kernel) fun t _ y => ?_
  have ht : t.val < 2 := lt_of_lt_of_eq t.isLt N_0
  have hy : (y 0).val < 1 := (y 0).isLt
  blk_simp
  rw [after0_7, out7]
  have he : (((cfg0.win 7).blk t).view.emb y : S2x128x1024.Idx) = ix3 ⟨t.val / 1, by omega⟩ ⟨t.val % 1 * 128 + (y 1).val, by have : (y 1).val < 128 := (y 1).isLt; omega⟩ (y 2) := by
    blk_ext [idx t]
  rw [he]
  unfold moment
  rw [gb_eq m c t (y 1) (y 2) (ix3 ⟨t.val / 1, by omega⟩ ⟨t.val % 1 * 128 + (y 1).val, by have : (y 1).val < 128 := (y 1).isLt; omega⟩ (y 2)) rfl rfl rfl]
  blk_point [iblk, V, idx t]

theorem final8 (c : Dev nD) : (dats m 0 c).arrAt 8 cfg0.N = square (grad (m ((c : Thread nD τ).loc main_arg1)) (m ((c : Thread nD τ).loc main_arg2))) (m ((c : Thread nD τ).loc main_arg4)) := by
  refine (dats m 0 c).arrAt_eq_of_covers 8 _ (by decide +kernel) fun t _ y => ?_
  have ht : t.val < 2 := lt_of_lt_of_eq t.isLt N_0
  have hy : (y 0).val < 1 := (y 0).isLt
  blk_simp
  rw [after0_8, out8]
  have he : (((cfg0.win 8).blk t).view.emb y : S2x128x1024.Idx) = ix3 ⟨t.val / 1, by omega⟩ ⟨t.val % 1 * 128 + (y 1).val, by have : (y 1).val < 128 := (y 1).isLt; omega⟩ (y 2) := by
    blk_ext [idx t]
  rw [he]
  unfold square
  rw [gb_eq m c t (y 1) (y 2) (ix3 ⟨t.val / 1, by omega⟩ ⟨t.val % 1 * 128 + (y 1).val, by have : (y 1).val < 128 := (y 1).isLt; omega⟩ (y 2)) rfl rfl rfl]
  blk_point [iblk, V, idx t]

theorem ref_grad (p0 p1 : FVec Ideal S8x128x1024 .bf16) :
    concatenate S2x128x1024 0 [⟨Reference13Ideal.S1x128x1024, (broadcastInDim Reference13Ideal.S1x128x1024 ![1, 2] Reference13Ideal.Gen.bcast_S128x1024_S1x128x1024_1_2 (Host.reduceAdd (extf .f32 p0 Reference13Ideal.Gen.bitsLt_bf16_f32) (constant Reference13Ideal.S_ .f32 0x00000000#32) Reference13Ideal.Gen.reducesTo_S8x128x1024_S128x1024_d0 Reference13Ideal.Gen.h_S_))⟩, ⟨Reference13Ideal.S1x128x1024, (broadcastInDim Reference13Ideal.S1x128x1024 ![1, 2] Reference13Ideal.Gen.bcast_S128x1024_S1x128x1024_1_2 (Host.reduceAdd (extf .f32 p1 Reference13Ideal.Gen.bitsLt_bf16_f32) (constant Reference13Ideal.S_ .f32 0x00000000#32) Reference13Ideal.Gen.reducesTo_S8x128x1024_S128x1024_d0 Reference13Ideal.Gen.h_S_))⟩] Reference13Ideal.Gen.concatenates_S1x128x1024_S1x128x1024_S2x128x1024_d0
      = grad p0 p1 := by
  funext i
  have hi : (i 0).val < 2 := (i 0).isLt
  pointwise [grad]
  rcases (by omega : (i 0).val = 0 ∨ (i 0).val = 1) with h | h
  · simp [h]
  · simp [h]

theorem algebraic : Cert.algebraic_Kernel13Ideal_Reference13Ideal := by
  intro m g m' g' _ hargs
  refine ⟨fun c => grad (m ((c : Thread nD τ).loc main_arg1)) (m ((c : Thread nD τ).loc main_arg2)), fun c => step (m ((c : Thread nD τ).loc main_arg0)) (grad (m ((c : Thread nD τ).loc main_arg1)) (m ((c : Thread nD τ).loc main_arg2))) (m ((c : Thread nD τ).loc main_arg3)) (m ((c : Thread nD τ).loc main_arg4)), fun c => moment (grad (m ((c : Thread nD τ).loc main_arg1)) (m ((c : Thread nD τ).loc main_arg2))) (m ((c : Thread nD τ).loc main_arg3)), fun c => square (grad (m ((c : Thread nD τ).loc main_arg1)) (m ((c : Thread nD τ).loc main_arg2))) (m ((c : Thread nD τ).loc main_arg4)), ?_, ?_⟩
  · refine (θ_run defs _ _).mono (fun r h c => ?_) (run_main m g)
    exact ⟨(post5 m r h c).trans (final5 m c), (post6 m r h c).trans (final6 m c), (post7 m r h c).trans (final7 m c), (post8 m r h c).trans (final8 m c),
      kept_main_arg0 m r h c, kept_main_arg1 m r h c, kept_main_arg2 m r h c, kept_main_arg3 m r h c, kept_main_arg4 m r h c⟩
  · refine (θ_run Reference13Ideal.defs _ _).mono (fun r h c => ?_) (Cert.Reference13Ideal.Value.run m' g')
    obtain ⟨h0, h1, h2, h3, ha⟩ := h c
    obtain ⟨e0, e1, e2, e3, e4⟩ := hargs c
    rw [e1, e2, ref_grad] at h0
    rw [e0, e1, e2, e3, e4, ref_grad] at h1
    rw [e1, e2, e3, ref_grad] at h2
    rw [e1, e2, e4, ref_grad] at h3
    refine ⟨h0, h1.trans ?_, h2.trans ?_, h3.trans ?_, ha⟩
    · funext i
      pointwise [step, ad, am, av]
    · funext i
      pointwise [moment, am]
    · funext i
      pointwise [square, av]

end Cert.Kernel13Ideal.Adam

end
-- ==== Proof.Adam12.lean ====
module

public import proofs.«01_k».proof.Proof.Gen.Kernel12Ideal.Value
public import proofs.«01_k».proof.Proof.Gen.Reference12Ideal.Run
public import proofs.«01_k».proof.Defs
public import Idealize.ShloMosaic.Lib.Pipeline.ValueKit

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

namespace Cert.Kernel12Ideal.Adam

open Cert.Kernel12Ideal Cert.Kernel12Ideal.Gen Cert.Kernel12Ideal.Value

variable (m : (ℓ : Loc nD τ sig) → Buf (Elt Ideal) ℓ) (ρ : Dev nD → PrngReg)

/-- The new first moment of an entry. -/
def am (g m : EReal) : EReal := Ideal.ofBits FTy.f32 1063675494#32 * m + Ideal.ofBits FTy.f32 1036831949#32 * g

/-- The new second moment of an entry. -/
def av (g v : EReal) : EReal := Ideal.ofBits FTy.f32 1065336439#32 * v + Ideal.ofBits FTy.f32 981668463#32 * (g * g)

/-- The step of an entry. -/
def ad (w g m v : EReal) : EReal :=
  Ideal.ofBits FTy.f32 3129152111#32 * (Ideal.div (Ideal.div (am g m) (Ideal.ofBits FTy.f32 1059503362#32)) (Ideal.sqrt (Ideal.div (av g v) (Ideal.ofBits FTy.f32 1008933580#32)) + Ideal.ofBits FTy.f32 841731191#32) + Ideal.ofBits FTy.f32 1008981770#32 * w)

/-- The gradient of a weight: for each of the two layers the eight parts' sum. -/
def grad (p0 p1 : FVec Ideal S8x512x1024 .bf16) : FVec Ideal S2x512x1024 .f32 :=
  fun i => if (i 0).val = 1 then ∑ q : Fin 8, p1 (ix3 q (i 1) (i 2)) else ∑ q : Fin 8, p0 (ix3 q (i 1) (i 2))

def moment (g m : FVec Ideal S2x512x1024 .f32) : FVec Ideal S2x512x1024 .f32 := fun i => am (g i) (m i)

def square (g v : FVec Ideal S2x512x1024 .f32) : FVec Ideal S2x512x1024 .f32 := fun i => av (g i) (v i)

def step (w g m v : FVec Ideal S2x512x1024 .f32) : FVec Ideal S2x512x1024 .f32 := fun i => ad (w i) (g i) (m i) (v i)

/-- A block's gradient at a grid point. -/
def gb (a : ℕ) (x1 x2 : FVec Ideal S8x256x1024 .bf16) (r : Fin 256) (k : Fin 1024) : EReal :=
  if a = 1 then ∑ q : Fin 8, x2 (ix3 q r k) else ∑ q : Fin 8, x1 (ix3 q r k)

theorem ld_p (q : ℕ) (hq : q < 8) (h) (x : FVec Ideal S8x256x1024 .bf16) :
    View.ld (Val := Elt Ideal) (e' := .bf16) x (Rect.unit (s := S8x256x1024) ![q, 0, 0] S1x256x1024.size h) = fun i : S1x256x1024.Idx => x (ix3 ⟨q, hq⟩ (i 1) (i 2)) := by
  funext i
  have hi : (i 0).val < 1 := (i 0).isLt
  refine View.ld_unit_apply_of _ _ _ _ _ _ fun k => ?_
  fin_cases k
  · show q = q + (i 0).val; omega
  · exact (Nat.zero_add _).symm
  · exact (Nat.zero_add _).symm

theorem ld_a (h) (x : FVec Ideal S1x256x1024 .f32) :
    View.ld (Val := Elt Ideal) (e' := .f32) x (Rect.unit (s := S1x256x1024) ![0, 0, 0] S1x256x1024.size h) = x := by
  funext i
  refine View.ld_unit_apply_of _ _ _ _ _ _ fun k => ?_
  fin_cases k <;> exact (Nat.zero_add _).symm

theorem g_eq (i : grid0.Coords) (x0 : FVec Ideal S1x256x1024 .f32) (x1 x2 : FVec Ideal S8x256x1024 .bf16) (x3 x4 : FVec Ideal S1x256x1024 .f32) :
    k0_pay9 (F := Ideal) i x0 x1 x2 x3 x4 = fun j : S256x1024.Idx => gb (i 0).val x1 x2 (j 0) (j 1) := by
  funext j
  have hi : (i 0).val < 2 := (i 0).isLt
  unfold k0_pay9 gb
  simp only [ld_p 0 (by omega), ld_p 1 (by omega), ld_p 2 (by omega), ld_p 3 (by omega), ld_p 4 (by omega), ld_p 5 (by omega), ld_p 6 (by omega), ld_p 7 (by omega)]
  rcases (by omega : (i 0).val = 0 ∨ (i 0).val = 1) with h | h <;> rw [h]
  · rw [if_neg (by decide), Fin.sum_univ_eight]
    pointwise [k0_pay3, k0_pay4]
    rfl
  · rw [if_pos rfl, Fin.sum_univ_eight]
    pointwise [k0_pay3, k0_pay4]

theorem out5 (i : grid0.Coords) (x0 : FVec Ideal S1x256x1024 .f32) (x1 x2 : FVec Ideal S8x256x1024 .bf16) (x3 x4 : FVec Ideal S1x256x1024 .f32) (y) :
    out0_5 (F := Ideal) i x0 x1 x2 x3 x4 y = gb (i 0).val x1 x2 (y 1) (y 2) := by
  unfold out0_5
  rw [g_eq]
  canon_tiles z h
  have ez : y = z := by
    funext k
    fin_cases k
    exacts [Fin.ext h0, Fin.ext h1, Fin.ext h2]
  subst ez
  pointwise [k0_pay5]

theorem out6 (i : grid0.Coords) (x0 : FVec Ideal S1x256x1024 .f32) (x1 x2 : FVec Ideal S8x256x1024 .bf16) (x3 x4 : FVec Ideal S1x256x1024 .f32) (y) :
    out0_6 (F := Ideal) i x0 x1 x2 x3 x4 y = ad (x0 y) (gb (i 0).val x1 x2 (y 1) (y 2)) (x3 y) (x4 y) := by
  unfold out0_6
  rw [g_eq, ld_a, ld_a, ld_a]
  canon_tiles z h
  have ez : y = z := by
    funext k
    fin_cases k
    exacts [Fin.ext h0, Fin.ext h1, Fin.ext h2]
  subst ez
  pointwise [k0_pay8, k0_pay7, k0_pay6, ad, am, av]

theorem out7 (i : grid0.Coords) (x0 : FVec Ideal S1x256x1024 .f32) (x1 x2 : FVec Ideal S8x256x1024 .bf16) (x3 x4 : FVec Ideal S1x256x1024 .f32) (y) :
    out0_7 (F := Ideal) i x0 x1 x2 x3 x4 y = am (gb (i 0).val x1 x2 (y 1) (y 2)) (x3 y) := by
  unfold out0_7
  rw [g_eq, ld_a]
  canon_tiles z h
  have ez : y = z := by
    funext k
    fin_cases k
    exacts [Fin.ext h0, Fin.ext h1, Fin.ext h2]
  subst ez
  pointwise [k0_pay1, k0_pay6, am]

theorem out8 (i : grid0.Coords) (x0 : FVec Ideal S1x256x1024 .f32) (x1 x2 : FVec Ideal S8x256x1024 .bf16) (x3 x4 : FVec Ideal S1x256x1024 .f32) (y) :
    out0_8 (F := Ideal) i x0 x1 x2 x3 x4 y = av (gb (i 0).val x1 x2 (y 1) (y 2)) (x4 y) := by
  unfold out0_8
  rw [g_eq, ld_a]
  canon_tiles z h
  have ez : y = z := by
    funext k
    fin_cases k
    exacts [Fin.ext h0, Fin.ext h1, Fin.ext h2]
  subst ez
  pointwise [k0_pay2, k0_pay7, av]

theorem idx : ∀ t : Fin cfg0.N, win0_0.index t = ![t.val / 2, t.val % 2, 0] ∧ win0_3.index t = ![t.val / 2, t.val % 2, 0] ∧ win0_4.index t = ![t.val / 2, t.val % 2, 0] ∧ win0_5.index t = ![t.val / 2, t.val % 2, 0] ∧ win0_6.index t = ![t.val / 2, t.val % 2, 0] ∧ win0_7.index t = ![t.val / 2, t.val % 2, 0] ∧ win0_8.index t = ![t.val / 2, t.val % 2, 0] :=
  (by decide +kernel : ∀ t : Fin grid0.N, _)

theorem idxA : ∀ t : Fin cfg0.N, t.val / 2 = 0 → win0_1.index t = ![0, t.val % 2, 0] :=
  (by decide +kernel : ∀ t : Fin grid0.N, _)

theorem idxB : ∀ t : Fin cfg0.N, t.val / 2 = 1 → win0_2.index t = ![0, t.val % 2, 0] :=
  (by decide +kernel : ∀ t : Fin grid0.N, _)

theorem co : ∀ t : Fin cfg0.N, (grid0.coords t 0).val = t.val / 2 :=
  (by decide +kernel : ∀ t : Fin grid0.N, _)

theorem gb_eq (c : Dev nD) (t : Fin cfg0.N) (r : Fin 256) (k : Fin 1024) (i : S2x512x1024.Idx) (h0 : (i 0).val = t.val / 2) (h1 : (i 1).val = t.val % 2 * 256 + r.val) (h2 : (i 2).val = k.val) :
    gb (grid0.coords t 0).val (iblk m c 1 t) (iblk m c 2 t) r k = grad (m ((c : Thread nD τ).loc main_arg1)) (m ((c : Thread nD τ).loc main_arg2)) i := by
  have ht : t.val < 4 := lt_of_lt_of_eq t.isLt N_0
  have e1 : i 1 = ⟨t.val % 2 * 256 + r.val, h1 ▸ (i 1).isLt⟩ := Fin.ext h1
  have e2 : i 2 = ⟨k.val, k.isLt⟩ := Fin.ext h2
  unfold gb grad
  rw [co, h0, e1, e2]
  rcases (by omega : t.val / 2 = 0 ∨ t.val / 2 = 1) with h | h
  · rw [if_neg (by omega), if_neg (by omega)]
    refine Finset.sum_congr rfl fun q _ => ?_
    blk_point [iblk, V, idxA t h]
  · rw [if_pos h, if_pos h]
    refine Finset.sum_congr rfl fun q _ => ?_
    blk_point [iblk, V, idxB t h]

theorem final5 (c : Dev nD) : (dats m 0 c).arrAt 5 cfg0.N = grad (m ((c : Thread nD τ).loc main_arg1)) (m ((c : Thread nD τ).loc main_arg2)) := by
  refine (dats m 0 c).arrAt_eq_of_covers 5 _ (by decide +kernel) fun t _ y => ?_
  have ht : t.val < 4 := lt_of_lt_of_eq t.isLt N_0
  have hy : (y 0).val < 1 := (y 0).isLt
  blk_simp
  rw [after0_5, out5]
  have he : (((cfg0.win 5).blk t).view.emb y : S2x512x1024.Idx) = ix3 ⟨t.val / 2, by omega⟩ ⟨t.val % 2 * 256 + (y 1).val, by have : (y 1).val < 256 := (y 1).isLt; omega⟩ (y 2) := by
    blk_ext [idx t]
  rw [he]
  skip
  rw [gb_eq m c t (y 1) (y 2) (ix3 ⟨t.val / 2, by omega⟩ ⟨t.val % 2 * 256 + (y 1).val, by have : (y 1).val < 256 := (y 1).isLt; omega⟩ (y 2)) rfl rfl rfl]
  rfl

theorem final6 (c : Dev nD) : (dats m 0 c).arrAt 6 cfg0.N = step (m ((c : Thread nD τ).loc main_arg0)) (grad (m ((c : Thread nD τ).loc main_arg1)) (m ((c : Thread nD τ).loc main_arg2))) (m ((c : Thread nD τ).loc main_arg3)) (m ((c : Thread nD τ).loc main_arg4)) := by
  refine (dats m 0 c).arrAt_eq_of_covers 6 _ (by decide +kernel) fun t _ y => ?_
  have ht : t.val < 4 := lt_of_lt_of_eq t.isLt N_0
  have hy : (y 0).val < 1 := (y 0).isLt
  blk_simp
  rw [after0_6, out6]
  have he : (((cfg0.win 6).blk t).view.emb y : S2x512x1024.Idx) = ix3 ⟨t.val / 2, by omega⟩ ⟨t.val % 2 * 256 + (y 1).val, by have : (y 1).val < 256 := (y 1).isLt; omega⟩ (y 2) := by
    blk_ext [idx t]
  rw [he]
  unfold step
  rw [gb_eq m c t (y 1) (y 2) (ix3 ⟨t.val / 2, by omega⟩ ⟨t.val % 2 * 256 + (y 1).val, by have : (y 1).val < 256 := (y 1).isLt; omega⟩ (y 2)) rfl rfl rfl]
  blk_point [iblk, V, idx t]

theorem final7 (c : Dev nD) : (dats m 0 c).arrAt 7 cfg0.N = moment (grad (m ((c : Thread nD τ).loc main_arg1)) (m ((c : Thread nD τ).loc main_arg2))) (m ((c : Thread nD τ).loc main_arg3)) := by
  refine (dats m 0 c).arrAt_eq_of_covers 7 _ (by decide +kernel) fun t _ y => ?_
  have ht : t.val < 4 := lt_of_lt_of_eq t.isLt N_0
  have hy : (y 0).val < 1 := (y 0).isLt
  blk_simp
  rw [after0_7, out7]
  have he : (((cfg0.win 7).blk t).view.emb y : S2x512x1024.Idx) = ix3 ⟨t.val / 2, by omega⟩ ⟨t.val % 2 * 256 + (y 1).val, by have : (y 1).val < 256 := (y 1).isLt; omega⟩ (y 2) := by
    blk_ext [idx t]
  rw [he]
  unfold moment
  rw [gb_eq m c t (y 1) (y 2) (ix3 ⟨t.val / 2, by omega⟩ ⟨t.val % 2 * 256 + (y 1).val, by have : (y 1).val < 256 := (y 1).isLt; omega⟩ (y 2)) rfl rfl rfl]
  blk_point [iblk, V, idx t]

theorem final8 (c : Dev nD) : (dats m 0 c).arrAt 8 cfg0.N = square (grad (m ((c : Thread nD τ).loc main_arg1)) (m ((c : Thread nD τ).loc main_arg2))) (m ((c : Thread nD τ).loc main_arg4)) := by
  refine (dats m 0 c).arrAt_eq_of_covers 8 _ (by decide +kernel) fun t _ y => ?_
  have ht : t.val < 4 := lt_of_lt_of_eq t.isLt N_0
  have hy : (y 0).val < 1 := (y 0).isLt
  blk_simp
  rw [after0_8, out8]
  have he : (((cfg0.win 8).blk t).view.emb y : S2x512x1024.Idx) = ix3 ⟨t.val / 2, by omega⟩ ⟨t.val % 2 * 256 + (y 1).val, by have : (y 1).val < 256 := (y 1).isLt; omega⟩ (y 2) := by
    blk_ext [idx t]
  rw [he]
  unfold square
  rw [gb_eq m c t (y 1) (y 2) (ix3 ⟨t.val / 2, by omega⟩ ⟨t.val % 2 * 256 + (y 1).val, by have : (y 1).val < 256 := (y 1).isLt; omega⟩ (y 2)) rfl rfl rfl]
  blk_point [iblk, V, idx t]

theorem ref_grad (p0 p1 : FVec Ideal S8x512x1024 .bf16) :
    concatenate S2x512x1024 0 [⟨Reference12Ideal.S1x512x1024, (broadcastInDim Reference12Ideal.S1x512x1024 ![1, 2] Reference12Ideal.Gen.bcast_S512x1024_S1x512x1024_1_2 (Host.reduceAdd (extf .f32 p0 Reference12Ideal.Gen.bitsLt_bf16_f32) (constant Reference12Ideal.S_ .f32 0x00000000#32) Reference12Ideal.Gen.reducesTo_S8x512x1024_S512x1024_d0 Reference12Ideal.Gen.h_S_))⟩, ⟨Reference12Ideal.S1x512x1024, (broadcastInDim Reference12Ideal.S1x512x1024 ![1, 2] Reference12Ideal.Gen.bcast_S512x1024_S1x512x1024_1_2 (Host.reduceAdd (extf .f32 p1 Reference12Ideal.Gen.bitsLt_bf16_f32) (constant Reference12Ideal.S_ .f32 0x00000000#32) Reference12Ideal.Gen.reducesTo_S8x512x1024_S512x1024_d0 Reference12Ideal.Gen.h_S_))⟩] Reference12Ideal.Gen.concatenates_S1x512x1024_S1x512x1024_S2x512x1024_d0
      = grad p0 p1 := by
  funext i
  have hi : (i 0).val < 2 := (i 0).isLt
  pointwise [grad]
  rcases (by omega : (i 0).val = 0 ∨ (i 0).val = 1) with h | h
  · simp [h]
  · simp [h]

theorem algebraic : Cert.algebraic_Kernel12Ideal_Reference12Ideal := by
  intro m g m' g' _ hargs
  refine ⟨fun c => grad (m ((c : Thread nD τ).loc main_arg1)) (m ((c : Thread nD τ).loc main_arg2)), fun c => step (m ((c : Thread nD τ).loc main_arg0)) (grad (m ((c : Thread nD τ).loc main_arg1)) (m ((c : Thread nD τ).loc main_arg2))) (m ((c : Thread nD τ).loc main_arg3)) (m ((c : Thread nD τ).loc main_arg4)), fun c => moment (grad (m ((c : Thread nD τ).loc main_arg1)) (m ((c : Thread nD τ).loc main_arg2))) (m ((c : Thread nD τ).loc main_arg3)), fun c => square (grad (m ((c : Thread nD τ).loc main_arg1)) (m ((c : Thread nD τ).loc main_arg2))) (m ((c : Thread nD τ).loc main_arg4)), ?_, ?_⟩
  · refine (θ_run defs _ _).mono (fun r h c => ?_) (run_main m g)
    exact ⟨(post5 m r h c).trans (final5 m c), (post6 m r h c).trans (final6 m c), (post7 m r h c).trans (final7 m c), (post8 m r h c).trans (final8 m c),
      kept_main_arg0 m r h c, kept_main_arg1 m r h c, kept_main_arg2 m r h c, kept_main_arg3 m r h c, kept_main_arg4 m r h c⟩
  · refine (θ_run Reference12Ideal.defs _ _).mono (fun r h c => ?_) (Cert.Reference12Ideal.Value.run m' g')
    obtain ⟨h0, h1, h2, h3, ha⟩ := h c
    obtain ⟨e0, e1, e2, e3, e4⟩ := hargs c
    rw [e1, e2, ref_grad] at h0
    rw [e0, e1, e2, e3, e4, ref_grad] at h1
    rw [e1, e2, e3, ref_grad] at h2
    rw [e1, e2, e4, ref_grad] at h3
    refine ⟨h0, h1.trans ?_, h2.trans ?_, h3.trans ?_, ha⟩
    · funext i
      pointwise [step, ad, am, av]
    · funext i
      pointwise [moment, am]
    · funext i
      pointwise [square, av]

end Cert.Kernel12Ideal.Adam

end
-- ==== Proof.Adam11.lean ====
module

public import proofs.«01_k».proof.Proof.Gen.Kernel11Ideal.Value
public import proofs.«01_k».proof.Proof.Gen.Reference11Ideal.Run
public import proofs.«01_k».proof.Defs
public import Idealize.ShloMosaic.Lib.Pipeline.ValueKit

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

namespace Cert.Kernel11Ideal.Adam

open Cert.Kernel11Ideal Cert.Kernel11Ideal.Gen Cert.Kernel11Ideal.Value

variable (m : (ℓ : Loc nD τ sig) → Buf (Elt Ideal) ℓ) (ρ : Dev nD → PrngReg)

/-- The new first moment of an entry. -/
def am (g m : EReal) : EReal := Ideal.ofBits FTy.f32 1063675494#32 * m + Ideal.ofBits FTy.f32 1036831949#32 * g

/-- The new second moment of an entry. -/
def av (g v : EReal) : EReal := Ideal.ofBits FTy.f32 1065336439#32 * v + Ideal.ofBits FTy.f32 981668463#32 * (g * g)

/-- The step of an entry. -/
def ad (w g m v : EReal) : EReal :=
  Ideal.ofBits FTy.f32 3129152111#32 * (Ideal.div (Ideal.div (am g m) (Ideal.ofBits FTy.f32 1059503362#32)) (Ideal.sqrt (Ideal.div (av g v) (Ideal.ofBits FTy.f32 1008933580#32)) + Ideal.ofBits FTy.f32 841731191#32) + Ideal.ofBits FTy.f32 1008981770#32 * w)

/-- The gradient of a weight: for each of the two layers the eight parts' sum. -/
def grad (p0 p1 : FVec Ideal S8x1024x512 .bf16) : FVec Ideal S2x1024x512 .f32 :=
  fun i => if (i 0).val = 1 then ∑ q : Fin 8, p1 (ix3 q (i 1) (i 2)) else ∑ q : Fin 8, p0 (ix3 q (i 1) (i 2))

def moment (g m : FVec Ideal S2x1024x512 .f32) : FVec Ideal S2x1024x512 .f32 := fun i => am (g i) (m i)

def square (g v : FVec Ideal S2x1024x512 .f32) : FVec Ideal S2x1024x512 .f32 := fun i => av (g i) (v i)

def step (w g m v : FVec Ideal S2x1024x512 .f32) : FVec Ideal S2x1024x512 .f32 := fun i => ad (w i) (g i) (m i) (v i)

/-- A block's gradient at a grid point. -/
def gb (a : ℕ) (x1 x2 : FVec Ideal S8x256x512 .bf16) (r : Fin 256) (k : Fin 512) : EReal :=
  if a = 1 then ∑ q : Fin 8, x2 (ix3 q r k) else ∑ q : Fin 8, x1 (ix3 q r k)

theorem ld_p (q : ℕ) (hq : q < 8) (h) (x : FVec Ideal S8x256x512 .bf16) :
    View.ld (Val := Elt Ideal) (e' := .bf16) x (Rect.unit (s := S8x256x512) ![q, 0, 0] S1x256x512.size h) = fun i : S1x256x512.Idx => x (ix3 ⟨q, hq⟩ (i 1) (i 2)) := by
  funext i
  have hi : (i 0).val < 1 := (i 0).isLt
  refine View.ld_unit_apply_of _ _ _ _ _ _ fun k => ?_
  fin_cases k
  · show q = q + (i 0).val; omega
  · exact (Nat.zero_add _).symm
  · exact (Nat.zero_add _).symm

theorem ld_a (h) (x : FVec Ideal S1x256x512 .f32) :
    View.ld (Val := Elt Ideal) (e' := .f32) x (Rect.unit (s := S1x256x512) ![0, 0, 0] S1x256x512.size h) = x := by
  funext i
  refine View.ld_unit_apply_of _ _ _ _ _ _ fun k => ?_
  fin_cases k <;> exact (Nat.zero_add _).symm

theorem g_eq (i : grid0.Coords) (x0 : FVec Ideal S1x256x512 .f32) (x1 x2 : FVec Ideal S8x256x512 .bf16) (x3 x4 : FVec Ideal S1x256x512 .f32) :
    k0_pay9 (F := Ideal) i x0 x1 x2 x3 x4 = fun j : S256x512.Idx => gb (i 0).val x1 x2 (j 0) (j 1) := by
  funext j
  have hi : (i 0).val < 2 := (i 0).isLt
  unfold k0_pay9 gb
  simp only [ld_p 0 (by omega), ld_p 1 (by omega), ld_p 2 (by omega), ld_p 3 (by omega), ld_p 4 (by omega), ld_p 5 (by omega), ld_p 6 (by omega), ld_p 7 (by omega)]
  rcases (by omega : (i 0).val = 0 ∨ (i 0).val = 1) with h | h <;> rw [h]
  · rw [if_neg (by decide), Fin.sum_univ_eight]
    pointwise [k0_pay3, k0_pay4]
    rfl
  · rw [if_pos rfl, Fin.sum_univ_eight]
    pointwise [k0_pay3, k0_pay4]

theorem out5 (i : grid0.Coords) (x0 : FVec Ideal S1x256x512 .f32) (x1 x2 : FVec Ideal S8x256x512 .bf16) (x3 x4 : FVec Ideal S1x256x512 .f32) (y) :
    out0_5 (F := Ideal) i x0 x1 x2 x3 x4 y = gb (i 0).val x1 x2 (y 1) (y 2) := by
  unfold out0_5
  rw [g_eq]
  canon_tiles z h
  have ez : y = z := by
    funext k
    fin_cases k
    exacts [Fin.ext h0, Fin.ext h1, Fin.ext h2]
  subst ez
  pointwise [k0_pay5]

theorem out6 (i : grid0.Coords) (x0 : FVec Ideal S1x256x512 .f32) (x1 x2 : FVec Ideal S8x256x512 .bf16) (x3 x4 : FVec Ideal S1x256x512 .f32) (y) :
    out0_6 (F := Ideal) i x0 x1 x2 x3 x4 y = ad (x0 y) (gb (i 0).val x1 x2 (y 1) (y 2)) (x3 y) (x4 y) := by
  unfold out0_6
  rw [g_eq, ld_a, ld_a, ld_a]
  canon_tiles z h
  have ez : y = z := by
    funext k
    fin_cases k
    exacts [Fin.ext h0, Fin.ext h1, Fin.ext h2]
  subst ez
  pointwise [k0_pay8, k0_pay7, k0_pay6, ad, am, av]

theorem out7 (i : grid0.Coords) (x0 : FVec Ideal S1x256x512 .f32) (x1 x2 : FVec Ideal S8x256x512 .bf16) (x3 x4 : FVec Ideal S1x256x512 .f32) (y) :
    out0_7 (F := Ideal) i x0 x1 x2 x3 x4 y = am (gb (i 0).val x1 x2 (y 1) (y 2)) (x3 y) := by
  unfold out0_7
  rw [g_eq, ld_a]
  canon_tiles z h
  have ez : y = z := by
    funext k
    fin_cases k
    exacts [Fin.ext h0, Fin.ext h1, Fin.ext h2]
  subst ez
  pointwise [k0_pay1, k0_pay6, am]

theorem out8 (i : grid0.Coords) (x0 : FVec Ideal S1x256x512 .f32) (x1 x2 : FVec Ideal S8x256x512 .bf16) (x3 x4 : FVec Ideal S1x256x512 .f32) (y) :
    out0_8 (F := Ideal) i x0 x1 x2 x3 x4 y = av (gb (i 0).val x1 x2 (y 1) (y 2)) (x4 y) := by
  unfold out0_8
  rw [g_eq, ld_a]
  canon_tiles z h
  have ez : y = z := by
    funext k
    fin_cases k
    exacts [Fin.ext h0, Fin.ext h1, Fin.ext h2]
  subst ez
  pointwise [k0_pay2, k0_pay7, av]

theorem idx : ∀ t : Fin cfg0.N, win0_0.index t = ![t.val / 4, t.val % 4, 0] ∧ win0_3.index t = ![t.val / 4, t.val % 4, 0] ∧ win0_4.index t = ![t.val / 4, t.val % 4, 0] ∧ win0_5.index t = ![t.val / 4, t.val % 4, 0] ∧ win0_6.index t = ![t.val / 4, t.val % 4, 0] ∧ win0_7.index t = ![t.val / 4, t.val % 4, 0] ∧ win0_8.index t = ![t.val / 4, t.val % 4, 0] :=
  (by decide +kernel : ∀ t : Fin grid0.N, _)

theorem idxA : ∀ t : Fin cfg0.N, t.val / 4 = 0 → win0_1.index t = ![0, t.val % 4, 0] :=
  (by decide +kernel : ∀ t : Fin grid0.N, _)

theorem idxB : ∀ t : Fin cfg0.N, t.val / 4 = 1 → win0_2.index t = ![0, t.val % 4, 0] :=
  (by decide +kernel : ∀ t : Fin grid0.N, _)

theorem co : ∀ t : Fin cfg0.N, (grid0.coords t 0).val = t.val / 4 :=
  (by decide +kernel : ∀ t : Fin grid0.N, _)

theorem gb_eq (c : Dev nD) (t : Fin cfg0.N) (r : Fin 256) (k : Fin 512) (i : S2x1024x512.Idx) (h0 : (i 0).val = t.val / 4) (h1 : (i 1).val = t.val % 4 * 256 + r.val) (h2 : (i 2).val = k.val) :
    gb (grid0.coords t 0).val (iblk m c 1 t) (iblk m c 2 t) r k = grad (m ((c : Thread nD τ).loc main_arg1)) (m ((c : Thread nD τ).loc main_arg2)) i := by
  have ht : t.val < 8 := lt_of_lt_of_eq t.isLt N_0
  have e1 : i 1 = ⟨t.val % 4 * 256 + r.val, h1 ▸ (i 1).isLt⟩ := Fin.ext h1
  have e2 : i 2 = ⟨k.val, k.isLt⟩ := Fin.ext h2
  unfold gb grad
  rw [co, h0, e1, e2]
  rcases (by omega : t.val / 4 = 0 ∨ t.val / 4 = 1) with h | h
  · rw [if_neg (by omega), if_neg (by omega)]
    refine Finset.sum_congr rfl fun q _ => ?_
    blk_point [iblk, V, idxA t h]
  · rw [if_pos h, if_pos h]
    refine Finset.sum_congr rfl fun q _ => ?_
    blk_point [iblk, V, idxB t h]

theorem final5 (c : Dev nD) : (dats m 0 c).arrAt 5 cfg0.N = grad (m ((c : Thread nD τ).loc main_arg1)) (m ((c : Thread nD τ).loc main_arg2)) := by
  refine (dats m 0 c).arrAt_eq_of_covers 5 _ (by decide +kernel) fun t _ y => ?_
  have ht : t.val < 8 := lt_of_lt_of_eq t.isLt N_0
  have hy : (y 0).val < 1 := (y 0).isLt
  blk_simp
  rw [after0_5, out5]
  have he : (((cfg0.win 5).blk t).view.emb y : S2x1024x512.Idx) = ix3 ⟨t.val / 4, by omega⟩ ⟨t.val % 4 * 256 + (y 1).val, by have : (y 1).val < 256 := (y 1).isLt; omega⟩ (y 2) := by
    blk_ext [idx t]
  rw [he]
  skip
  rw [gb_eq m c t (y 1) (y 2) (ix3 ⟨t.val / 4, by omega⟩ ⟨t.val % 4 * 256 + (y 1).val, by have : (y 1).val < 256 := (y 1).isLt; omega⟩ (y 2)) rfl rfl rfl]
  rfl

theorem final6 (c : Dev nD) : (dats m 0 c).arrAt 6 cfg0.N = step (m ((c : Thread nD τ).loc main_arg0)) (grad (m ((c : Thread nD τ).loc main_arg1)) (m ((c : Thread nD τ).loc main_arg2))) (m ((c : Thread nD τ).loc main_arg3)) (m ((c : Thread nD τ).loc main_arg4)) := by
  refine (dats m 0 c).arrAt_eq_of_covers 6 _ (by decide +kernel) fun t _ y => ?_
  have ht : t.val < 8 := lt_of_lt_of_eq t.isLt N_0
  have hy : (y 0).val < 1 := (y 0).isLt
  blk_simp
  rw [after0_6, out6]
  have he : (((cfg0.win 6).blk t).view.emb y : S2x1024x512.Idx) = ix3 ⟨t.val / 4, by omega⟩ ⟨t.val % 4 * 256 + (y 1).val, by have : (y 1).val < 256 := (y 1).isLt; omega⟩ (y 2) := by
    blk_ext [idx t]
  rw [he]
  unfold step
  rw [gb_eq m c t (y 1) (y 2) (ix3 ⟨t.val / 4, by omega⟩ ⟨t.val % 4 * 256 + (y 1).val, by have : (y 1).val < 256 := (y 1).isLt; omega⟩ (y 2)) rfl rfl rfl]
  blk_point [iblk, V, idx t]

theorem final7 (c : Dev nD) : (dats m 0 c).arrAt 7 cfg0.N = moment (grad (m ((c : Thread nD τ).loc main_arg1)) (m ((c : Thread nD τ).loc main_arg2))) (m ((c : Thread nD τ).loc main_arg3)) := by
  refine (dats m 0 c).arrAt_eq_of_covers 7 _ (by decide +kernel) fun t _ y => ?_
  have ht : t.val < 8 := lt_of_lt_of_eq t.isLt N_0
  have hy : (y 0).val < 1 := (y 0).isLt
  blk_simp
  rw [after0_7, out7]
  have he : (((cfg0.win 7).blk t).view.emb y : S2x1024x512.Idx) = ix3 ⟨t.val / 4, by omega⟩ ⟨t.val % 4 * 256 + (y 1).val, by have : (y 1).val < 256 := (y 1).isLt; omega⟩ (y 2) := by
    blk_ext [idx t]
  rw [he]
  unfold moment
  rw [gb_eq m c t (y 1) (y 2) (ix3 ⟨t.val / 4, by omega⟩ ⟨t.val % 4 * 256 + (y 1).val, by have : (y 1).val < 256 := (y 1).isLt; omega⟩ (y 2)) rfl rfl rfl]
  blk_point [iblk, V, idx t]

theorem final8 (c : Dev nD) : (dats m 0 c).arrAt 8 cfg0.N = square (grad (m ((c : Thread nD τ).loc main_arg1)) (m ((c : Thread nD τ).loc main_arg2))) (m ((c : Thread nD τ).loc main_arg4)) := by
  refine (dats m 0 c).arrAt_eq_of_covers 8 _ (by decide +kernel) fun t _ y => ?_
  have ht : t.val < 8 := lt_of_lt_of_eq t.isLt N_0
  have hy : (y 0).val < 1 := (y 0).isLt
  blk_simp
  rw [after0_8, out8]
  have he : (((cfg0.win 8).blk t).view.emb y : S2x1024x512.Idx) = ix3 ⟨t.val / 4, by omega⟩ ⟨t.val % 4 * 256 + (y 1).val, by have : (y 1).val < 256 := (y 1).isLt; omega⟩ (y 2) := by
    blk_ext [idx t]
  rw [he]
  unfold square
  rw [gb_eq m c t (y 1) (y 2) (ix3 ⟨t.val / 4, by omega⟩ ⟨t.val % 4 * 256 + (y 1).val, by have : (y 1).val < 256 := (y 1).isLt; omega⟩ (y 2)) rfl rfl rfl]
  blk_point [iblk, V, idx t]

theorem ref_grad (p0 p1 : FVec Ideal S8x1024x512 .bf16) :
    concatenate S2x1024x512 0 [⟨Reference11Ideal.S1x1024x512, (broadcastInDim Reference11Ideal.S1x1024x512 ![1, 2] Reference11Ideal.Gen.bcast_S1024x512_S1x1024x512_1_2 (Host.reduceAdd (extf .f32 p0 Reference11Ideal.Gen.bitsLt_bf16_f32) (constant Reference11Ideal.S_ .f32 0x00000000#32) Reference11Ideal.Gen.reducesTo_S8x1024x512_S1024x512_d0 Reference11Ideal.Gen.h_S_))⟩, ⟨Reference11Ideal.S1x1024x512, (broadcastInDim Reference11Ideal.S1x1024x512 ![1, 2] Reference11Ideal.Gen.bcast_S1024x512_S1x1024x512_1_2 (Host.reduceAdd (extf .f32 p1 Reference11Ideal.Gen.bitsLt_bf16_f32) (constant Reference11Ideal.S_ .f32 0x00000000#32) Reference11Ideal.Gen.reducesTo_S8x1024x512_S1024x512_d0 Reference11Ideal.Gen.h_S_))⟩] Reference11Ideal.Gen.concatenates_S1x1024x512_S1x1024x512_S2x1024x512_d0
      = grad p0 p1 := by
  funext i
  have hi : (i 0).val < 2 := (i 0).isLt
  pointwise [grad]
  rcases (by omega : (i 0).val = 0 ∨ (i 0).val = 1) with h | h
  · simp [h]
  · simp [h]

theorem algebraic : Cert.algebraic_Kernel11Ideal_Reference11Ideal := by
  intro m g m' g' _ hargs
  refine ⟨fun c => grad (m ((c : Thread nD τ).loc main_arg1)) (m ((c : Thread nD τ).loc main_arg2)), fun c => step (m ((c : Thread nD τ).loc main_arg0)) (grad (m ((c : Thread nD τ).loc main_arg1)) (m ((c : Thread nD τ).loc main_arg2))) (m ((c : Thread nD τ).loc main_arg3)) (m ((c : Thread nD τ).loc main_arg4)), fun c => moment (grad (m ((c : Thread nD τ).loc main_arg1)) (m ((c : Thread nD τ).loc main_arg2))) (m ((c : Thread nD τ).loc main_arg3)), fun c => square (grad (m ((c : Thread nD τ).loc main_arg1)) (m ((c : Thread nD τ).loc main_arg2))) (m ((c : Thread nD τ).loc main_arg4)), ?_, ?_⟩
  · refine (θ_run defs _ _).mono (fun r h c => ?_) (run_main m g)
    exact ⟨(post5 m r h c).trans (final5 m c), (post6 m r h c).trans (final6 m c), (post7 m r h c).trans (final7 m c), (post8 m r h c).trans (final8 m c),
      kept_main_arg0 m r h c, kept_main_arg1 m r h c, kept_main_arg2 m r h c, kept_main_arg3 m r h c, kept_main_arg4 m r h c⟩
  · refine (θ_run Reference11Ideal.defs _ _).mono (fun r h c => ?_) (Cert.Reference11Ideal.Value.run m' g')
    obtain ⟨h0, h1, h2, h3, ha⟩ := h c
    obtain ⟨e0, e1, e2, e3, e4⟩ := hargs c
    rw [e1, e2, ref_grad] at h0
    rw [e0, e1, e2, e3, e4, ref_grad] at h1
    rw [e1, e2, e3, ref_grad] at h2
    rw [e1, e2, e4, ref_grad] at h3
    refine ⟨h0, h1.trans ?_, h2.trans ?_, h3.trans ?_, ha⟩
    · funext i
      pointwise [step, ad, am, av]
    · funext i
      pointwise [moment, am]
    · funext i
      pointwise [square, av]

end Cert.Kernel11Ideal.Adam

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel13Ideal.Value
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel14Ideal.Value
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel15Ideal.Value
public import proofs.«01_k».proof.Proof.Gen.Reference15Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.Kernel6Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.MergeClaim
public import proofs.«01_k».proof.Proof.MlpClaim
public import proofs.«01_k».proof.Proof.BranchWeight
public import proofs.«01_k».proof.Proof.DIn
public import proofs.«01_k».proof.Proof.WIn
public import proofs.«01_k».proof.Proof.Proj
public import proofs.«01_k».proof.Proof.PostClaim
public import proofs.«01_k».proof.Proof.LnBwdClaim
public import proofs.«01_k».proof.Proof.SguFwdClaim
public import proofs.«01_k».proof.Proof.LnLossClaim
public import proofs.«01_k».proof.Proof.Adam15
public import proofs.«01_k».proof.Proof.Adam14
public import proofs.«01_k».proof.Proof.Adam13
public import proofs.«01_k».proof.Proof.Adam12
public import proofs.«01_k».proof.Proof.Adam11
public import proofs.«01_k».proof.Proof.Gen.Kernel8Ideal.Value
public import proofs.«01_k».proof.Proof.Gen.Reference8Ideal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel8Ideal.LnBwd.preFacts, Cert.Kernel10Ideal.LnLoss.preFacts,
  fun m ρ _ => Cert.Kernel.Gen.frame m ρ,
  fun m ρ _ => Cert.KernelIdeal.Gen.frame m ρ,
  fun m ρ _ => (θ_run Cert.ReferenceIdeal.defs _ _).mono (fun r h => ⟨fun c => (h c).2.2.2.2.2.2.2, sem_eq_zero_of_no_sems (by decide) r.2⟩)
    (Cert.ReferenceIdeal.Value.run m ρ),
  fun m ρ _ => Cert.Kernel2.Gen.frame m ρ,
  fun m ρ _ => Cert.Kernel2Ideal.Gen.frame m ρ,
  fun m ρ _ => (θ_run Cert.Reference2Ideal.defs _ _).mono (fun r h => ⟨fun c => (h c).2.2.2, sem_eq_zero_of_no_sems (by decide) r.2⟩)
    (Cert.Reference2Ideal.Value.run m ρ),
  fun m ρ _ => Cert.Kernel3.Gen.frame m ρ,
  fun m ρ _ => Cert.Kernel3Ideal.Gen.frame m ρ,
  fun m ρ _ => (θ_run Cert.Reference3Ideal.defs _ _).mono (fun r h => ⟨fun c => (h c).2, sem_eq_zero_of_no_sems (by decide) r.2⟩)
    (Cert.Reference3Ideal.Value.run m ρ),
  fun m ρ _ => Cert.Kernel4.Gen.frame m ρ,
  fun m ρ _ => Cert.Kernel4Ideal.Gen.frame m ρ,
  fun m ρ _ => (θ_run Cert.Reference4Ideal.defs _ _).mono (fun r h => ⟨fun c => (h c).2, sem_eq_zero_of_no_sems (by decide) r.2⟩)
    (Cert.Reference4Ideal.Value.run m ρ),
  fun m ρ _ => Cert.Kernel5.Gen.frame m ρ,
  fun m ρ _ => Cert.Kernel5Ideal.Gen.frame m ρ,
  fun m ρ _ => (θ_run Cert.Reference5Ideal.defs _ _).mono (fun r h => ⟨fun c => (h c).2, sem_eq_zero_of_no_sems (by decide) r.2⟩)
    (Cert.Reference5Ideal.Value.run m ρ),
  fun m ρ _ => Cert.Kernel6.Gen.frame m ρ,
  fun m ρ _ => Cert.Kernel6Ideal.Gen.frame m ρ,
  fun m ρ _ => (θ_run Cert.Reference6Ideal.defs _ _).mono (fun r h => ⟨fun c => (h c).2, sem_eq_zero_of_no_sems (by decide) r.2⟩)
    (Cert.Reference6Ideal.Value.run m ρ),
  fun m ρ _ => Cert.Kernel7.Gen.frame m ρ,
  fun m ρ _ => Cert.Kernel7Ideal.Gen.frame m ρ,
  fun m ρ _ => (θ_run Cert.Reference7Ideal.defs _ _).mono (fun r h => ⟨fun c => (h c).2.2.2.2.2.2.2, sem_eq_zero_of_no_sems (by decide) r.2⟩)
    (Cert.Reference7Ideal.Value.run m ρ),
  fun m ρ _ => Cert.Kernel8.Gen.frame m ρ,
  fun m ρ _ => Cert.Kernel8Ideal.Gen.frame m ρ,
  fun m ρ _ => Cert.Kernel8Ideal.Gen.frame m ρ,
  fun m ρ _ => (θ_run Cert.Reference8Ideal.defs _ _).mono (fun r h => ⟨fun c => (h c).2.2.2.2, sem_eq_zero_of_no_sems (by decide) r.2⟩)
    (Cert.Reference8Ideal.Value.run m ρ),
  fun m ρ _ => (θ_run Cert.Reference8Ideal.defs _ _).mono (fun r h => ⟨fun c => (h c).2.2.2.2, sem_eq_zero_of_no_sems (by decide) r.2⟩)
    (Cert.Reference8Ideal.Value.run m ρ),
  fun m ρ _ => Cert.Kernel9.Gen.frame m ρ,
  fun m ρ _ => Cert.Kernel9Ideal.Gen.frame m ρ,
  fun m ρ _ => (θ_run Cert.Reference9Ideal.defs _ _).mono (fun r h => ⟨fun c => (h c).2, sem_eq_zero_of_no_sems (by decide) r.2⟩)
    (Cert.Reference9Ideal.Value.run m ρ),
  fun m ρ _ => Cert.Kernel10.Gen.frame m ρ,
  fun m ρ _ => Cert.Kernel10Ideal.Gen.frame m ρ,
  fun m ρ _ => Cert.Kernel10Ideal.Gen.frame m ρ,
  fun m ρ _ => (θ_run Cert.Reference10Ideal.defs _ _).mono (fun r h => ⟨fun c => (h c).2.2.2.2.2, sem_eq_zero_of_no_sems (by decide) r.2⟩)
    (Cert.Reference10Ideal.Value.run m ρ),
  fun m ρ _ => (θ_run Cert.Reference10Ideal.defs _ _).mono (fun r h => ⟨fun c => (h c).2.2.2.2.2, sem_eq_zero_of_no_sems (by decide) r.2⟩)
    (Cert.Reference10Ideal.Value.run m ρ),
  fun m ρ _ => Cert.Kernel11.Gen.frame m ρ,
  fun m ρ _ => Cert.Kernel11Ideal.Gen.frame m ρ,
  fun m ρ _ => (θ_run Cert.Reference11Ideal.defs _ _).mono (fun r h => ⟨fun c => (h c).2.2.2.2, sem_eq_zero_of_no_sems (by decide) r.2⟩)
    (Cert.Reference11Ideal.Value.run m ρ),
  fun m ρ _ => Cert.Kernel12.Gen.frame m ρ,
  fun m ρ _ => Cert.Kernel12Ideal.Gen.frame m ρ,
  fun m ρ _ => (θ_run Cert.Reference12Ideal.defs _ _).mono (fun r h => ⟨fun c => (h c).2.2.2.2, sem_eq_zero_of_no_sems (by decide) r.2⟩)
    (Cert.Reference12Ideal.Value.run m ρ),
  fun m ρ _ => Cert.Kernel13.Gen.frame m ρ,
  fun m ρ _ => Cert.Kernel13Ideal.Gen.frame m ρ,
  fun m ρ _ => (θ_run Cert.Reference13Ideal.defs _ _).mono (fun r h => ⟨fun c => (h c).2.2.2.2, sem_eq_zero_of_no_sems (by decide) r.2⟩)
    (Cert.Reference13Ideal.Value.run m ρ),
  fun m ρ _ => Cert.Kernel14.Gen.frame m ρ,
  fun m ρ _ => Cert.Kernel14Ideal.Gen.frame m ρ,
  fun m ρ _ => (θ_run Cert.Reference14Ideal.defs _ _).mono (fun r h => ⟨fun c => (h c).2.2.2.2, sem_eq_zero_of_no_sems (by decide) r.2⟩)
    (Cert.Reference14Ideal.Value.run m ρ),
  fun m ρ _ => Cert.Kernel15.Gen.frame m ρ,
  fun m ρ _ => Cert.Kernel15Ideal.Gen.frame m ρ,
  fun m ρ _ => (θ_run Cert.Reference15Ideal.defs _ _).mono (fun r h => ⟨fun c => (h c).2.2.2.2, sem_eq_zero_of_no_sems (by decide) r.2⟩)
    (Cert.Reference15Ideal.Value.run m ρ),
  trivial, Cert.KernelIdeal.Merge.algebraic,
  trivial, Cert.Kernel2Ideal.Mlp.algebraic,
  trivial, Cert.Kernel3Ideal.BranchWeight.algebraic,
  trivial, Cert.Kernel4Ideal.DIn.algebraic,
  trivial, Cert.Kernel5Ideal.WIn.algebraic,
  trivial, Cert.Kernel6Ideal.Proj.algebraic,
  trivial, Cert.Kernel7Ideal.Post.algebraic,
  trivial, Cert.Kernel8Ideal.LnBwd.algebraic,
  trivial, Cert.Kernel9Ideal.SguFwd.algebraic,
  trivial, Cert.Kernel10Ideal.LnLoss.algebraic,
  trivial, Cert.Kernel11Ideal.Adam.algebraic,
  trivial, Cert.Kernel12Ideal.Adam.algebraic,
  trivial, Cert.Kernel13Ideal.Adam.algebraic,
  trivial, Cert.Kernel14Ideal.Adam.algebraic,
  trivial, Cert.Kernel15Ideal.Adam.algebraic⟩

end Cert.Proof

end
